-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_KernelIdeal_inputs_tame [hPre_inputs_tame : Cert.Pre_inputs_tame.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_tame [hPre_inputs_tame : Cert.Pre_inputs_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_inputs_tame [hKernelIdeal : Cert.KernelIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_inputs_tame [hReferenceIdeal : Cert.ReferenceIdeal.Facts] [hPre_inputs_tame : Cert.Pre_inputs_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_inputs_tame [hKernelIdeal : Cert.KernelIdeal.Facts] [hReferenceIdeal : Cert.ReferenceIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_inputs_tame : Cert.Pre_inputs_tame.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_inputs_tame (hKernelIdeal := hKernelIdeal) (hPre_inputs_tame := hPre_inputs_tame)
    ∧ quiescent_ReferenceIdeal (hReferenceIdeal := hReferenceIdeal)
    ∧ quiescent_ReferenceIdeal_pre_inputs_tame (hReferenceIdeal := hReferenceIdeal) (hPre_inputs_tame := hPre_inputs_tame)
    ∧ preserves_Kernel_KernelIdeal
    ∧ algebraic_KernelIdeal_ReferenceIdeal_pre_inputs_tame (hKernelIdeal := hKernelIdeal) (hReferenceIdeal := hReferenceIdeal) (hPre_inputs_tame := hPre_inputs_tame)
-- ==== Pre_indices_in_range.lean ====
abbrev S10000x128 : Shape := ⟨2, ![10000, 128]⟩
abbrev S2x320000 : Shape := ⟨2, ![2, 320000]⟩
abbrev S10000 : Shape := ⟨1, ![10000]⟩
abbrev S100x1 : Shape := ⟨2, ![100, 1]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x3 : Shape := ⟨2, ![1, 3]⟩
abbrev S3 : Shape := ⟨1, ![3]⟩
abbrev S6x1 : Shape := ⟨2, ![6, 1]⟩
abbrev S3x1 : Shape := ⟨2, ![3, 1]⟩
abbrev S_ : Shape := ⟨0, ![]⟩

class Facts : Prop where
  bcast_S_S2x320000 : S_.BroadcastsInDim S2x320000 (![] : Fin 0 → Fin S2x320000.rank)
  bcast_S_S10000 : S_.BroadcastsInDim S10000 (![] : Fin 0 → Fin S10000.rank)
  reducesTo_S2x320000_S_d0_1 : S2x320000.ReducesTo [0, 1] S_
  h_S_ : 0 < S_.numel
  reducesTo_S10000_S_d0 : S10000.ReducesTo [0] S_

variable [Facts]

def fn {F : FTy → Type} [FloatOps F] (main_arg0 : FVec F S10000x128 .f32) (main_arg1 : IVec S2x320000 32) (main_arg2 : IVec S10000 32) (main_arg3 : FVec F S100x1 .f32) (main_arg4 : FVec F S100x1 .f32) (main_arg5 : FVec F S128x128 .f32) (main_arg6 : FVec F S128x128 .f32) (main_arg7 : FVec F S128 .f32) (main_arg8 : FVec F S128 .f32) (main_arg9 : FVec F S128 .f32) (main_arg10 : FVec F S128x1 .f32) (main_arg11 : FVec F S128x1 .f32) (main_arg12 : FVec F S1 .f32) (main_arg13 : FVec F S1 .f32) (main_arg14 : FVec F S1 .f32) (main_arg15 : FVec F S1x3 .f32) (main_arg16 : FVec F S3 .f32) (main_arg17 : FVec F S3 .f32) (main_arg18 : FVec F S3 .f32) (main_arg19 : FVec F S6x1 .f32) (main_arg20 : FVec F S1 .f32) (main_arg21 : FVec F S3x1 .f32) (main_arg22 : FVec F S1 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 32 := constantI S_ 32 0#32
  let main_v5 : IVec S10000 32 := broadcastInDim S10000 ![] bcast_S_S10000 main_c_1
  let main_v6 : IVec S10000 1 := cmpi .sge main_arg2 main_v5
  let main_c_2 : IVec S_ 32 := constantI S_ 32 100#32
  let main_v7 : IVec S10000 32 := broadcastInDim S10000 ![] bcast_S_S10000 main_c_2
  let main_v8 : IVec S10000 1 := cmpi .slt main_arg2 main_v7
  let main_v9 : IVec S10000 1 := andi main_v6 main_v8
  let main_c_3 : IVec S_ 1 := constantI S_ 1 1#1
  let main_v10 : IVec S_ 1 := (fun x v => Host.reduce IntOp.andi x v reducesTo_S2x320000_S_d0_1 h_S_) main_v4 main_c_3
  let main_c_4 : IVec S_ 1 := constantI S_ 1 1#1
  let main_v11 : IVec S_ 1 := (fun x v => Host.reduce IntOp.andi x v reducesTo_S10000_S_d0 h_S_) main_v9 main_c_4
  let main_v12 : IVec S_ 1 := andi main_v10 main_v11
  main_v12
-- ==== Pre_inputs_tame.lean ====
abbrev S10000x128 : Shape := ⟨2, ![10000, 128]⟩
abbrev S2x320000 : Shape := ⟨2, ![2, 320000]⟩
abbrev S10000 : Shape := ⟨1, ![10000]⟩
abbrev S100x1 : Shape := ⟨2, ![100, 1]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x3 : Shape := ⟨2, ![1, 3]⟩
abbrev S3 : Shape := ⟨1, ![3]⟩
abbrev S6x1 : Shape := ⟨2, ![6, 1]⟩
abbrev S3x1 : Shape := ⟨2, ![3, 1]⟩
abbrev S_ : Shape := ⟨0, ![]⟩

class Facts : Prop where
  bcast_S_S2x320000 : S_.BroadcastsInDim S2x320000 (![] : Fin 0 → Fin S2x320000.rank)
  bcast_S_S10000 : S_.BroadcastsInDim S10000 (![] : Fin 0 → Fin S10000.rank)
  reducesTo_S2x320000_S_d0_1 : S2x320000.ReducesTo [0, 1] S_
  h_S_ : 0 < S_.numel
  reducesTo_S10000_S_d0 : S10000.ReducesTo [0] S_
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part2 {F : FTy → Type} [FloatOps F] (main_arg9 : FVec F S128 .f32) (main_arg11 : FVec F S128x1 .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S128 .f32 := Host.absf main_arg9
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128x1 .f32 := Host.absf main_arg11
  let main_cst_16 : FVec F S_ .f32 := constant S_ .f32 0x7F800000#32
  let main_v44 : FVec F S128x1 .f32 := broadcastInDim S128x1 ![] bcast_S_S128x1 main_cst_16
  let main_v45 : IVec S128x1 1 := cmpf .olt main_v43 main_v44
  let main_c_17 : IVec S_ 1 := constantI S_ 1 1#1
  let main_v46 : IVec S_ 1 := (fun x v => Host.reduce IntOp.andi x v reducesTo_S128x1_S_d0_1 h_S_) main_v45 main_c_17
  let main_v47 : IVec S_ 1 := andi main_v42 main_v46
  main_v47

def fn_part1 {F : FTy → Type} [FloatOps F] (main_arg5 : FVec F S128x128 .f32) (main_arg6 : FVec F S128x128 .f32) (main_arg7 : FVec F S128 .f32) (main_arg8 : FVec F S128 .f32) (main_arg9 : FVec F S128 .f32) (main_arg11 : FVec F S128x1 .f32) (main_v12 : IVec S_ 1) (main_v15 : IVec S10000x128 1) (main_c_5 : IVec S_ 1) : IVec S_ 1 :=
  let main_v16 : IVec S_ 1 := (fun x v => Host.reduce IntOp.andi x v reducesTo_S10000x128_S_d0_1 h_S_) main_v15 main_c_5
  let main_v17 : IVec S_ 1 := andi main_v12 main_v16
  let main_v18 : FVec F S128x128 .f32 := Host.absf main_arg5
  let main_cst_6 : FVec F S_ .f32 := constant S_ .f32 0x7F800000#32
  let main_v19 : FVec F S128x128 .f32 := broadcastInDim S128x128 ![] bcast_S_S128x128 main_cst_6
  let main_v20 : IVec S128x128 1 := cmpf .olt main_v18 main_v19
  let main_c_7 : IVec S_ 1 := constantI S_ 1 1#1
  let main_v21 : IVec S_ 1 := (fun x v => Host.reduce IntOp.andi x v reducesTo_S128x128_S_d0_1 h_S_) main_v20 main_c_7
  let main_v22 : IVec S_ 1 := andi main_v17 main_v21
  let main_v23 : FVec F S128x128 .f32 := Host.absf main_arg6
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S128 .f32 := Host.absf main_arg7
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S128 .f32 := Host.absf main_arg8
  fn_part2 (F := F) main_arg9 main_arg11 main_v32 main_v33

def fn {F : FTy → Type} [FloatOps F] (main_arg0 : FVec F S10000x128 .f32) (main_arg1 : IVec S2x320000 32) (main_arg2 : IVec S10000 32) (main_arg3 : FVec F S100x1 .f32) (main_arg4 : FVec F S100x1 .f32) (main_arg5 : FVec F S128x128 .f32) (main_arg6 : FVec F S128x128 .f32) (main_arg7 : FVec F S128 .f32) (main_arg8 : FVec F S128 .f32) (main_arg9 : FVec F S128 .f32) (main_arg10 : FVec F S128x1 .f32) (main_arg11 : FVec F S128x1 .f32) (main_arg12 : FVec F S1 .f32) (main_arg13 : FVec F S1 .f32) (main_arg14 : FVec F S1 .f32) (main_arg15 : FVec F S1x3 .f32) (main_arg16 : FVec F S3 .f32) (main_arg17 : FVec F S3 .f32) (main_arg18 : FVec F S3 .f32) (main_arg19 : FVec F S6x1 .f32) (main_arg20 : FVec F S1 .f32) (main_arg21 : FVec F S3x1 .f32) (main_arg22 : FVec F S1 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 32 := constantI S_ 32 0#32
  let main_v5 : IVec S10000 32 := broadcastInDim S10000 ![] bcast_S_S10000 main_c_1
  let main_v6 : IVec S10000 1 := cmpi .sge main_arg2 main_v5
  let main_c_2 : IVec S_ 32 := constantI S_ 32 100#32
  let main_v7 : IVec S10000 32 := broadcastInDim S10000 ![] bcast_S_S10000 main_c_2
  let main_v8 : IVec S10000 1 := cmpi .slt main_arg2 main_v7
  let main_v9 : IVec S10000 1 := andi main_v6 main_v8
  let main_c_3 : IVec S_ 1 := constantI S_ 1 1#1
  let main_v10 : IVec S_ 1 := (fun x v => Host.reduce IntOp.andi x v reducesTo_S2x320000_S_d0_1 h_S_) main_v4 main_c_3
  let main_c_4 : IVec S_ 1 := constantI S_ 1 1#1
  let main_v11 : IVec S_ 1 := (fun x v => Host.reduce IntOp.andi x v reducesTo_S10000_S_d0 h_S_) main_v9 main_c_4
  let main_v12 : IVec S_ 1 := andi main_v10 main_v11
  let main_v13 : FVec F S10000x128 .f32 := Host.absf main_arg0
  let main_cst : FVec F S_ .f32 := constant S_ .f32 0x7F800000#32
  let main_v14 : FVec F S10000x128 .f32 := broadcastInDim S10000x128 ![] bcast_S_S10000x128 main_cst
  let main_v15 : IVec S10000x128 1 := cmpf .olt main_v13 main_v14
  let main_c_5 : IVec S_ 1 := constantI S_ 1 1#1
  fn_part1 (F := F) main_arg5 main_arg6 main_arg7 main_arg8 main_arg9 main_arg11 main_v12 main_v15 main_c_5
-- ==== Kernel.lean ====
abbrev S10000x128 : Shape := ⟨2, ![10000, 128]⟩
abbrev S2x320000 : Shape := ⟨2, ![2, 320000]⟩
abbrev S10000 : Shape := ⟨1, ![10000]⟩
abbrev S100x1 : Shape := ⟨2, ![100, 1]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x3 : Shape := ⟨2, ![1, 3]⟩
abbrev S3 : Shape := ⟨1, ![3]⟩
abbrev S6x1 : Shape := ⟨2, ![6, 1]⟩
abbrev S3x1 : Shape := ⟨2, ![3, 1]⟩
abbrev S1x128 : Shape := ⟨2, ![1, 128]⟩
abbrev S1x1 : Shape := ⟨2, ![1, 1]⟩
abbrev S1x6 : Shape := ⟨2, ![1, 6]⟩
abbrev S2x16000 : Shape := ⟨2, ![2, 16000]⟩
abbrev S10000x1 : Shape := ⟨2, ![10000, 1]⟩
abbrev S10000x3 : Shape := ⟨2, ![10000, 3]⟩
abbrev S100x3 : Shape := ⟨2, ![100, 3]⟩
abbrev S100 : Shape := ⟨1, ![100]⟩

abbrev nBuf : Space → Nat
  | .hbm => 43
  | .vmem => 39
  | .smem => 9
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S100x1, .f32⟩
  | .hbm, ⟨4, _⟩ => ⟨S100x1, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x1, .f32⟩
  | .hbm, ⟨11, _⟩ => ⟨S128x1, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S1x3, .f32⟩
  | .hbm, ⟨16, _⟩ => ⟨S3, .f32⟩
  | .hbm, ⟨17, _⟩ => ⟨S3, .f32⟩
  | .hbm, ⟨18, _⟩ => ⟨S3, .f32⟩
  | .hbm, ⟨19, _⟩ => ⟨S6x1, .f32⟩
  | .hbm, ⟨20, _⟩ => ⟨S1, .f32⟩
  | .hbm, ⟨21, _⟩ => ⟨S3x1, .f32⟩
  | .hbm, ⟨22, _⟩ => ⟨S1, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S1x128, .f32⟩
  | .hbm, ⟨30, _⟩ => ⟨S1x1, .f32⟩
  | .hbm, ⟨31, _⟩ => ⟨S1x1, .f32⟩
  | .hbm, ⟨32, _⟩ => ⟨S1x1, .f32⟩
  | .hbm, ⟨33, _⟩ => ⟨S10000x128, .f32⟩
  | .hbm, ⟨34, _⟩ => ⟨S10000x128, .f32⟩
  | .hbm, ⟨35, _⟩ => ⟨S1x3, .f32⟩
  | .hbm, ⟨36, _⟩ => ⟨S1x3, .f32⟩
  | .hbm, ⟨37, _⟩ => ⟨S1x3, .f32⟩
  | .hbm, ⟨38, _⟩ => ⟨S1x6, .f32⟩
  | .hbm, ⟨39, _⟩ => ⟨S1x1, .f32⟩
  | .hbm, ⟨40, _⟩ => ⟨S1x3, .f32⟩
  | .hbm, ⟨41, _⟩ => ⟨S1x1, .f32⟩
  | .hbm, ⟨42, _⟩ => ⟨S100x1, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S1x128, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S100x1, .f32⟩
  | .local _ .vmem, ⟨26, _⟩ => ⟨S100x1, .f32⟩
  | .local _ .vmem, ⟨27, _⟩ => ⟨S1x3, .f32⟩
  | .local _ .vmem, ⟨28, _⟩ => ⟨S1x3, .f32⟩
  | .local _ .vmem, ⟨29, _⟩ => ⟨S1x3, .f32⟩
  | .local _ .vmem, ⟨30, _⟩ => ⟨S1x3, .f32⟩
  | .local _ .vmem, ⟨31, _⟩ => ⟨S1x6, .f32⟩
  | .local _ .vmem, ⟨32, _⟩ => ⟨S1x1, .f32⟩
  | .local _ .vmem, ⟨33, _⟩ => ⟨S1x3, .f32⟩
  | .local _ .vmem, ⟨34, _⟩ => ⟨S1x1, .f32⟩
  | .local _ .vmem, ⟨35, _⟩ => ⟨S100x1, .f32⟩
  | .local _ .vmem, ⟨36, _⟩ => ⟨S10000x3, .f32⟩
  | .local _ .vmem, ⟨37, _⟩ => ⟨S100x3, .f32⟩
  | .local _ .vmem, ⟨38, _⟩ => ⟨S100x3, .f32⟩
  | .local _ .smem, ⟨0, _⟩ => ⟨S2x16000, .i32⟩
  | .local _ .smem, ⟨1, _⟩ => ⟨S2x16000, .i32⟩
  | .local _ .smem, ⟨2, _⟩ => ⟨S2x16000, .i32⟩
  | .local _ .smem, ⟨3, _⟩ => ⟨S2x16000, .i32⟩
  | .local _ .smem, ⟨4, _⟩ => ⟨S2x16000, .i32⟩
  | .local _ .smem, ⟨5, _⟩ => ⟨S2x16000, .i32⟩
  | .local _ .smem, ⟨6, _⟩ => ⟨S2x16000, .i32⟩
  | .local _ .smem, ⟨7, _⟩ => ⟨S2x16000, .i32⟩
  | .local _ .smem, ⟨8, _⟩ => ⟨S10000, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_v0 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg7_0 : Ref sig .tc := ⟨.vmem, 18, rfl⟩
abbrev cc2_scratch0 : Ref sig .tc := ⟨.vmem, 19, rfl⟩
abbrev cc2_scratch1 : Ref sig .tc := ⟨.vmem, 20, rfl⟩
abbrev cc3_stg0_0 : Ref sig .tc := ⟨.vmem, 21, rfl⟩
abbrev cc3_stg2_0 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg6_0 : Ref sig .tc := ⟨.vmem, 29, rfl⟩
abbrev cc4_stg7_0 : Ref sig .tc := ⟨.vmem, 30, rfl⟩
abbrev cc4_stg8_0 : Ref sig .tc := ⟨.vmem, 31, rfl⟩
abbrev cc4_stg9_0 : Ref sig .tc := ⟨.vmem, 32, rfl⟩
abbrev cc4_stg10_0 : Ref sig .tc := ⟨.vmem, 33, rfl⟩
abbrev cc4_stg11_0 : Ref sig .tc := ⟨.vmem, 34, rfl⟩
abbrev cc4_stg12_0 : Ref sig .tc := ⟨.vmem, 35, rfl⟩
abbrev cc4_scratch0 : Ref sig .tc := ⟨.vmem, 36, rfl⟩
abbrev cc4_scratch1 : Ref sig .tc := ⟨.vmem, 37, rfl⟩
abbrev cc4_scratch2 : Ref sig .tc := ⟨.vmem, 38, rfl⟩
abbrev cc0_stg6_0 : Ref sig .tc := ⟨.smem, 0, rfl⟩
abbrev cc0_stg6_1 : Ref sig .tc := ⟨.smem, 1, rfl⟩
abbrev cc1_stg1_0 : Ref sig .tc := ⟨.smem, 2, rfl⟩
abbrev cc1_stg1_1 : Ref sig .tc := ⟨.smem, 3, rfl⟩
abbrev cc2_stg6_0 : Ref sig .tc := ⟨.smem, 4, rfl⟩
abbrev cc2_stg6_1 : Ref sig .tc := ⟨.smem, 5, rfl⟩
abbrev cc3_stg1_0 : Ref sig .tc := ⟨.smem, 6, rfl⟩
abbrev cc3_stg1_1 : Ref sig .tc := ⟨.smem, 7, rfl⟩
abbrev cc4_stg1_0 : Ref sig .tc := ⟨.smem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc1_sem0_0 : DmaSem sig := 9
abbrev cc1_sem1_0 : DmaSem sig := 10
abbrev cc1_sem1_1 : DmaSem sig := 11
abbrev cc1_sem2_0 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc2_sem7_0 : DmaSem sig := 21
abbrev cc3_sem0_0 : DmaSem sig := 22
abbrev cc3_sem1_0 : DmaSem sig := 23
abbrev cc3_sem1_1 : DmaSem sig := 24
abbrev cc3_sem2_0 : DmaSem sig := 25
abbrev cc4_sem0_0 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem7_0 : DmaSem sig := 33
abbrev cc4_sem8_0 : DmaSem sig := 34
abbrev cc4_sem9_0 : DmaSem sig := 35
abbrev cc4_sem10_0 : DmaSem sig := 36
abbrev cc4_sem11_0 : DmaSem sig := 37
abbrev cc4_sem12_0 : DmaSem sig := 38

abbrev nD : Nat := 1
abbrev τ : Topo := Topo.v7x

variable {F : FTy → Type} [FloatOps F]

abbrev grid0 : Pipeline.Grid := ⟨1, ![20], ![false]⟩

@[reducible] def k0_t1_loop : Scf.Loop 32 :=
  let c0_i32_1 : BitVec 32 := 0#32
  let c4000_i32 : BitVec 32 := 4000#32
  let v3 : BitVec 32 := Scalar.addi c0_i32_1 c4000_i32
  let c1_i32 : BitVec 32 := 1#32
  ⟨c0_i32_1, v3, c1_i32⟩
def k0_off1 (k0_t1 : Fin k0_t1_loop.trips) : Fin 2 → Nat :=
  let c0 : Index := 0#32
  let c0_i32_1 : BitVec 32 := 0#32
  let c1_i32 : BitVec 32 := 1#32
  let arg11 : BitVec 32 := Scf.iv c0_i32_1 c1_i32 k0_t1
  let c4_i32 : BitVec 32 := 4#32
  let v7 : BitVec 32 := Scalar.muli arg11 c4_i32
  let c0_i32_4 : BitVec 32 := 0#32
  let v8 : BitVec 32 := Scalar.addi v7 c0_i32_4
  let v9 : Index := Scalar.indexCast v8
  ![0, v9.toNat]
def k0_off2 (k0_t1 : Fin k0_t1_loop.trips) : Fin 2 → Nat :=
  let c1 : Index := 1#32
  let c0_i32_1 : BitVec 32 := 0#32
  let c1_i32 : BitVec 32 := 1#32
  let arg11 : BitVec 32 := Scf.iv c0_i32_1 c1_i32 k0_t1
  let c4_i32 : BitVec 32 := 4#32
  let v7 : BitVec 32 := Scalar.muli arg11 c4_i32
  let c0_i32_4 : BitVec 32 := 0#32
  let v8 : BitVec 32 := Scalar.addi v7 c0_i32_4
  let v11 : Index := Scalar.indexCast v8
  ![1, v11.toNat]
def k0_off3 (v12 : BitVec 32) : Fin 2 → Nat :=
  let v13 : Index := Scalar.indexCast v12
  let c0_5 : Index := 0#32
  ![v13.toNat, 0]

def k0_off4 (v10 : BitVec 32) : Fin 2 → Nat :=
  let v15 : Index := Scalar.indexCast v10
  let c0_6 : Index := 0#32
  ![v15.toNat, 0]

def k0_chk2 (v10 : BitVec 32) : Prop :=
  (∀ a, (k0_off4 v10) a + S1x128.size a ≤ S10000x128.size a)
theorem k0_off4_inb : ∀ (v10 : BitVec 32) (k0_hw2 : k0_chk2 v10), ∀ a, (k0_off4 v10) a + S1x128.size a ≤ S10000x128.size a := fun v10 k0_hw2 => k0_hw2

def k0_off5 (v12 : BitVec 32) : Fin 2 → Nat :=
  let v18 : Index := Scalar.indexCast v12
  let c0_7 : Index := 0#32
  ![v18.toNat, 0]

def k0_chk1 (v12 : BitVec 32) : Prop :=
  (∀ a, (k0_off3 v12) a + S1x128.size a ≤ S10000x128.size a) ∧
  (∀ a, (k0_off5 v12) a + S1x128.size a ≤ S10000x128.size a)
theorem k0_off3_inb : ∀ (v12 : BitVec 32) (k0_hw1 : k0_chk1 v12), ∀ a, (k0_off3 v12) a + S1x128.size a ≤ S10000x128.size a := fun v12 k0_hw1 => k0_hw1.1
theorem k0_off5_inb : ∀ (v12 : BitVec 32) (k0_hw1 : k0_chk1 v12), ∀ a, (k0_off5 v12) a + S1x128.size a ≤ S10000x128.size a := fun v12 k0_hw1 => k0_hw1.2

def k0_off6 (k0_t1 : Fin k0_t1_loop.trips) : Fin 2 → Nat :=
  let c0_9 : Index := 0#32
  let c0_i32_1 : BitVec 32 := 0#32
  let c1_i32 : BitVec 32 := 1#32
  let arg11 : BitVec 32 := Scf.iv c0_i32_1 c1_i32 k0_t1
  let c4_i32 : BitVec 32 := 4#32
  let v7 : BitVec 32 := Scalar.muli arg11 c4_i32
  let c1_i32_8 : BitVec 32 := 1#32
  let v22 : BitVec 32 := Scalar.addi v7 c1_i32_8
  let v23 : Index := Scalar.indexCast v22
  ![0, v23.toNat]
def k0_off7 (k0_t1 : Fin k0_t1_loop.trips) : Fin 2 → Nat :=
  let c1_10 : Index := 1#32
  let c0_i32_1 : BitVec 32 := 0#32
  let c1_i32 : BitVec 32 := 1#32
  let arg11 : BitVec 32 := Scf.iv c0_i32_1 c1_i32 k0_t1
  let c4_i32 : BitVec 32 := 4#32
  let v7 : BitVec 32 := Scalar.muli arg11 c4_i32
  let c1_i32_8 : BitVec 32 := 1#32
  let v22 : BitVec 32 := Scalar.addi v7 c1_i32_8
  let v25 : Index := Scalar.indexCast v22
  ![1, v25.toNat]
def k0_off8 (v26 : BitVec 32) : Fin 2 → Nat :=
  let v27 : Index := Scalar.indexCast v26
  let c0_11 : Index := 0#32
  ![v27.toNat, 0]

def k0_off9 (v24 : BitVec 32) : Fin 2 → Nat :=
  let v29 : Index := Scalar.indexCast v24
  let c0_12 : Index := 0#32
  ![v29.toNat, 0]

def k0_chk4 (v24 : BitVec 32) : Prop :=
  (∀ a, (k0_off9 v24) a + S1x128.size a ≤ S10000x128.size a)
theorem k0_off9_inb : ∀ (v24 : BitVec 32) (k0_hw4 : k0_chk4 v24), ∀ a, (k0_off9 v24) a + S1x128.size a ≤ S10000x128.size a := fun v24 k0_hw4 => k0_hw4

def k0_off10 (v26 : BitVec 32) : Fin 2 → Nat :=
  let v32 : Index := Scalar.indexCast v26
  let c0_13 : Index := 0#32
  ![v32.toNat, 0]

def k0_chk3 (v26 : BitVec 32) : Prop :=
  (∀ a, (k0_off8 v26) a + S1x128.size a ≤ S10000x128.size a) ∧
  (∀ a, (k0_off10 v26) a + S1x128.size a ≤ S10000x128.size a)
theorem k0_off8_inb : ∀ (v26 : BitVec 32) (k0_hw3 : k0_chk3 v26), ∀ a, (k0_off8 v26) a + S1x128.size a ≤ S10000x128.size a := fun v26 k0_hw3 => k0_hw3.1
theorem k0_off10_inb : ∀ (v26 : BitVec 32) (k0_hw3 : k0_chk3 v26), ∀ a, (k0_off10 v26) a + S1x128.size a ≤ S10000x128.size a := fun v26 k0_hw3 => k0_hw3.2

def k0_off11 (k0_t1 : Fin k0_t1_loop.trips) : Fin 2 → Nat :=
  let c0_14 : Index := 0#32
  let c0_i32_1 : BitVec 32 := 0#32
  let c1_i32 : BitVec 32 := 1#32
  let arg11 : BitVec 32 := Scf.iv c0_i32_1 c1_i32 k0_t1
  let c4_i32 : BitVec 32 := 4#32
  let v7 : BitVec 32 := Scalar.muli arg11 c4_i32
  let c2_i32 : BitVec 32 := 2#32
  let v36 : BitVec 32 := Scalar.addi v7 c2_i32
  let v37 : Index := Scalar.indexCast v36
  ![0, v37.toNat]
def k0_off12 (k0_t1 : Fin k0_t1_loop.trips) : Fin 2 → Nat :=
  let c1_15 : Index := 1#32
  let c0_i32_1 : BitVec 32 := 0#32
  let c1_i32 : BitVec 32 := 1#32
  let arg11 : BitVec 32 := Scf.iv c0_i32_1 c1_i32 k0_t1
  let c4_i32 : BitVec 32 := 4#32
  let v7 : BitVec 32 := Scalar.muli arg11 c4_i32
  let c2_i32 : BitVec 32 := 2#32
  let v36 : BitVec 32 := Scalar.addi v7 c2_i32
  let v39 : Index := Scalar.indexCast v36
  ![1, v39.toNat]
def k0_off13 (v40 : BitVec 32) : Fin 2 → Nat :=
  let v41 : Index := Scalar.indexCast v40
  let c0_16 : Index := 0#32
  ![v41.toNat, 0]

def k0_off14 (v38 : BitVec 32) : Fin 2 → Nat :=
  let v43 : Index := Scalar.indexCast v38
  let c0_17 : Index := 0#32
  ![v43.toNat, 0]

def k0_chk6 (v38 : BitVec 32) : Prop :=
  (∀ a, (k0_off14 v38) a + S1x128.size a ≤ S10000x128.size a)
theorem k0_off14_inb : ∀ (v38 : BitVec 32) (k0_hw6 : k0_chk6 v38), ∀ a, (k0_off14 v38) a + S1x128.size a ≤ S10000x128.size a := fun v38 k0_hw6 => k0_hw6

def k0_off15 (v40 : BitVec 32) : Fin 2 → Nat :=
  let v46 : Index := Scalar.indexCast v40
  let c0_18 : Index := 0#32
  ![v46.toNat, 0]

def k0_chk5 (v40 : BitVec 32) : Prop :=
  (∀ a, (k0_off13 v40) a + S1x128.size a ≤ S10000x128.size a) ∧
  (∀ a, (k0_off15 v40) a + S1x128.size a ≤ S10000x128.size a)
theorem k0_off13_inb : ∀ (v40 : BitVec 32) (k0_hw5 : k0_chk5 v40), ∀ a, (k0_off13 v40) a + S1x128.size a ≤ S10000x128.size a := fun v40 k0_hw5 => k0_hw5.1
theorem k0_off15_inb : ∀ (v40 : BitVec 32) (k0_hw5 : k0_chk5 v40), ∀ a, (k0_off15 v40) a + S1x128.size a ≤ S10000x128.size a := fun v40 k0_hw5 => k0_hw5.2

def k0_off16 (k0_t1 : Fin k0_t1_loop.trips) : Fin 2 → Nat :=
  let c0_19 : Index := 0#32
  let c0_i32_1 : BitVec 32 := 0#32
  let c1_i32 : BitVec 32 := 1#32
  let arg11 : BitVec 32 := Scf.iv c0_i32_1 c1_i32 k0_t1
  let c4_i32 : BitVec 32 := 4#32
  let v7 : BitVec 32 := Scalar.muli arg11 c4_i32
  let c3_i32 : BitVec 32 := 3#32
  let v50 : BitVec 32 := Scalar.addi v7 c3_i32
  let v51 : Index := Scalar.indexCast v50
  ![0, v51.toNat]
def k0_off17 (k0_t1 : Fin k0_t1_loop.trips) : Fin 2 → Nat :=
  let c1_20 : Index := 1#32
  let c0_i32_1 : BitVec 32 := 0#32
  let c1_i32 : BitVec 32 := 1#32
  let arg11 : BitVec 32 := Scf.iv c0_i32_1 c1_i32 k0_t1
  let c4_i32 : BitVec 32 := 4#32
  let v7 : BitVec 32 := Scalar.muli arg11 c4_i32
  let c3_i32 : BitVec 32 := 3#32
  let v50 : BitVec 32 := Scalar.addi v7 c3_i32
  let v53 : Index := Scalar.indexCast v50
  ![1, v53.toNat]
def k0_off18 (v54 : BitVec 32) : Fin 2 → Nat :=
  let v55 : Index := Scalar.indexCast v54
  let c0_21 : Index := 0#32
  ![v55.toNat, 0]

def k0_off19 (v52 : BitVec 32) : Fin 2 → Nat :=
  let v57 : Index := Scalar.indexCast v52
  let c0_22 : Index := 0#32
  ![v57.toNat, 0]

def k0_chk8 (v52 : BitVec 32) : Prop :=
  (∀ a, (k0_off19 v52) a + S1x128.size a ≤ S10000x128.size a)
theorem k0_off19_inb : ∀ (v52 : BitVec 32) (k0_hw8 : k0_chk8 v52), ∀ a, (k0_off19 v52) a + S1x128.size a ≤ S10000x128.size a := fun v52 k0_hw8 => k0_hw8

def k0_off20 (v54 : BitVec 32) : Fin 2 → Nat :=
  let v60 : Index := Scalar.indexCast v54
  let c0_23 : Index := 0#32
  ![v60.toNat, 0]

def k0_chk7 (v54 : BitVec 32) : Prop :=
  (∀ a, (k0_off18 v54) a + S1x128.size a ≤ S10000x128.size a) ∧
  (∀ a, (k0_off20 v54) a + S1x128.size a ≤ S10000x128.size a)
theorem k0_off18_inb : ∀ (v54 : BitVec 32) (k0_hw7 : k0_chk7 v54), ∀ a, (k0_off18 v54) a + S1x128.size a ≤ S10000x128.size a := fun v54 k0_hw7 => k0_hw7.1
theorem k0_off20_inb : ∀ (v54 : BitVec 32) (k0_hw7 : k0_chk7 v54), ∀ a, (k0_off20 v54) a + S1x128.size a ≤ S10000x128.size a := fun v54 k0_hw7 => k0_hw7.2

def k0_cond2 (i : grid0.Coords) : BitVec 1 :=
  let arg0 : BitVec 32 := BitVec.ofNat 32 (i 0).val
  let c19_i32 : BitVec 32 := 19#32
  let v4 : BitVec 1 := Scalar.cmpi .eq arg0 c19_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .smem S2x16000 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S10000x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

@[reducible] def k1_t1_loop : Scf.Loop 32 :=
  let c0_i32_1 : BitVec 32 := 0#32
  let c4000_i32 : BitVec 32 := 4000#32
  let v3 : BitVec 32 := Scalar.addi c0_i32_1 c4000_i32
  let c1_i32 : BitVec 32 := 1#32
  ⟨c0_i32_1, v3, c1_i32⟩
def k1_off1 (k1_t1 : Fin k1_t1_loop.trips) : Fin 2 → Nat :=
  let c0 : Index := 0#32
  let c0_i32_1 : BitVec 32 := 0#32
  let c1_i32 : BitVec 32 := 1#32
  let arg5 : BitVec 32 := Scf.iv c0_i32_1 c1_i32 k1_t1
  let c4_i32 : BitVec 32 := 4#32
  let v7 : BitVec 32 := Scalar.muli arg5 c4_i32
  let c0_i32_4 : BitVec 32 := 0#32
  let v8 : BitVec 32 := Scalar.addi v7 c0_i32_4
  let v9 : Index := Scalar.indexCast v8
  ![0, v9.toNat]
def k1_off2 (k1_t1 : Fin k1_t1_loop.trips) : Fin 2 → Nat :=
  let c1 : Index := 1#32
  let c0_i32_1 : BitVec 32 := 0#32
  let c1_i32 : BitVec 32 := 1#32
  let arg5 : BitVec 32 := Scf.iv c0_i32_1 c1_i32 k1_t1
  let c4_i32 : BitVec 32 := 4#32
  let v7 : BitVec 32 := Scalar.muli arg5 c4_i32
  let c0_i32_4 : BitVec 32 := 0#32
  let v8 : BitVec 32 := Scalar.addi v7 c0_i32_4
  let v11 : Index := Scalar.indexCast v8
  ![1, v11.toNat]
def k1_off3 (v12 : BitVec 32) : Fin 2 → Nat :=
  let v13 : Index := Scalar.indexCast v12
  let c0_5 : Index := 0#32
  ![v13.toNat, 0]

def k1_off4 (v10 : BitVec 32) : Fin 2 → Nat :=
  let v15 : Index := Scalar.indexCast v10
  let c0_6 : Index := 0#32
  ![v15.toNat, 0]

def k1_chk2 (v10 : BitVec 32) : Prop :=
  (∀ a, (k1_off4 v10) a + S1x128.size a ≤ S10000x128.size a)
theorem k1_off4_inb : ∀ (v10 : BitVec 32) (k1_hw2 : k1_chk2 v10), ∀ a, (k1_off4 v10) a + S1x128.size a ≤ S10000x128.size a := fun v10 k1_hw2 => k1_hw2

def k1_off5 (v12 : BitVec 32) : Fin 2 → Nat :=
  let v19 : Index := Scalar.indexCast v12
  let c0_7 : Index := 0#32
  ![v19.toNat, 0]

def k1_chk1 (v12 : BitVec 32) : Prop :=
  (∀ a, (k1_off3 v12) a + S1x128.size a ≤ S10000x128.size a) ∧
  (∀ a, (k1_off5 v12) a + S1x128.size a ≤ S10000x128.size a)
theorem k1_off3_inb : ∀ (v12 : BitVec 32) (k1_hw1 : k1_chk1 v12), ∀ a, (k1_off3 v12) a + S1x128.size a ≤ S10000x128.size a := fun v12 k1_hw1 => k1_hw1.1
theorem k1_off5_inb : ∀ (v12 : BitVec 32) (k1_hw1 : k1_chk1 v12), ∀ a, (k1_off5 v12) a + S1x128.size a ≤ S10000x128.size a := fun v12 k1_hw1 => k1_hw1.2

def k1_off6 (k1_t1 : Fin k1_t1_loop.trips) : Fin 2 → Nat :=
  let c0_9 : Index := 0#32
  let c0_i32_1 : BitVec 32 := 0#32
  let c1_i32 : BitVec 32 := 1#32
  let arg5 : BitVec 32 := Scf.iv c0_i32_1 c1_i32 k1_t1
  let c4_i32 : BitVec 32 := 4#32
  let v7 : BitVec 32 := Scalar.muli arg5 c4_i32
  let c1_i32_8 : BitVec 32 := 1#32
  let v23 : BitVec 32 := Scalar.addi v7 c1_i32_8
  let v24 : Index := Scalar.indexCast v23
  ![0, v24.toNat]
def k1_off7 (k1_t1 : Fin k1_t1_loop.trips) : Fin 2 → Nat :=
  let c1_10 : Index := 1#32
  let c0_i32_1 : BitVec 32 := 0#32
  let c1_i32 : BitVec 32 := 1#32
  let arg5 : BitVec 32 := Scf.iv c0_i32_1 c1_i32 k1_t1
  let c4_i32 : BitVec 32 := 4#32
  let v7 : BitVec 32 := Scalar.muli arg5 c4_i32
  let c1_i32_8 : BitVec 32 := 1#32
  let v23 : BitVec 32 := Scalar.addi v7 c1_i32_8
  let v26 : Index := Scalar.indexCast v23
  ![1, v26.toNat]
def k1_off8 (v27 : BitVec 32) : Fin 2 → Nat :=
  let v28 : Index := Scalar.indexCast v27
  let c0_11 : Index := 0#32
  ![v28.toNat, 0]

def k1_off9 (v25 : BitVec 32) : Fin 2 → Nat :=
  let v30 : Index := Scalar.indexCast v25
  let c0_12 : Index := 0#32
  ![v30.toNat, 0]

def k1_chk4 (v25 : BitVec 32) : Prop :=
  (∀ a, (k1_off9 v25) a + S1x128.size a ≤ S10000x128.size a)
theorem k1_off9_inb : ∀ (v25 : BitVec 32) (k1_hw4 : k1_chk4 v25), ∀ a, (k1_off9 v25) a + S1x128.size a ≤ S10000x128.size a := fun v25 k1_hw4 => k1_hw4

def k1_off10 (v27 : BitVec 32) : Fin 2 → Nat :=
  let v34 : Index := Scalar.indexCast v27
  let c0_13 : Index := 0#32
  ![v34.toNat, 0]

def k1_chk3 (v27 : BitVec 32) : Prop :=
  (∀ a, (k1_off8 v27) a + S1x128.size a ≤ S10000x128.size a) ∧
  (∀ a, (k1_off10 v27) a + S1x128.size a ≤ S10000x128.size a)
theorem k1_off8_inb : ∀ (v27 : BitVec 32) (k1_hw3 : k1_chk3 v27), ∀ a, (k1_off8 v27) a + S1x128.size a ≤ S10000x128.size a := fun v27 k1_hw3 => k1_hw3.1
theorem k1_off10_inb : ∀ (v27 : BitVec 32) (k1_hw3 : k1_chk3 v27), ∀ a, (k1_off10 v27) a + S1x128.size a ≤ S10000x128.size a := fun v27 k1_hw3 => k1_hw3.2

def k1_off11 (k1_t1 : Fin k1_t1_loop.trips) : Fin 2 → Nat :=
  let c0_14 : Index := 0#32
  let c0_i32_1 : BitVec 32 := 0#32
  let c1_i32 : BitVec 32 := 1#32
  let arg5 : BitVec 32 := Scf.iv c0_i32_1 c1_i32 k1_t1
  let c4_i32 : BitVec 32 := 4#32
  let v7 : BitVec 32 := Scalar.muli arg5 c4_i32
  let c2_i32 : BitVec 32 := 2#32
  let v38 : BitVec 32 := Scalar.addi v7 c2_i32
  let v39 : Index := Scalar.indexCast v38
  ![0, v39.toNat]
def k1_off12 (k1_t1 : Fin k1_t1_loop.trips) : Fin 2 → Nat :=
  let c1_15 : Index := 1#32
  let c0_i32_1 : BitVec 32 := 0#32
  let c1_i32 : BitVec 32 := 1#32
  let arg5 : BitVec 32 := Scf.iv c0_i32_1 c1_i32 k1_t1
  let c4_i32 : BitVec 32 := 4#32
  let v7 : BitVec 32 := Scalar.muli arg5 c4_i32
  let c2_i32 : BitVec 32 := 2#32
  let v38 : BitVec 32 := Scalar.addi v7 c2_i32
  let v41 : Index := Scalar.indexCast v38
  ![1, v41.toNat]
def k1_off13 (v42 : BitVec 32) : Fin 2 → Nat :=
  let v43 : Index := Scalar.indexCast v42
  let c0_16 : Index := 0#32
  ![v43.toNat, 0]

def k1_off14 (v40 : BitVec 32) : Fin 2 → Nat :=
  let v45 : Index := Scalar.indexCast v40
  let c0_17 : Index := 0#32
  ![v45.toNat, 0]

def k1_chk6 (v40 : BitVec 32) : Prop :=
  (∀ a, (k1_off14 v40) a + S1x128.size a ≤ S10000x128.size a)
theorem k1_off14_inb : ∀ (v40 : BitVec 32) (k1_hw6 : k1_chk6 v40), ∀ a, (k1_off14 v40) a + S1x128.size a ≤ S10000x128.size a := fun v40 k1_hw6 => k1_hw6

def k1_off15 (v42 : BitVec 32) : Fin 2 → Nat :=
  let v49 : Index := Scalar.indexCast v42
  let c0_18 : Index := 0#32
  ![v49.toNat, 0]

def k1_chk5 (v42 : BitVec 32) : Prop :=
  (∀ a, (k1_off13 v42) a + S1x128.size a ≤ S10000x128.size a) ∧
  (∀ a, (k1_off15 v42) a + S1x128.size a ≤ S10000x128.size a)
theorem k1_off13_inb : ∀ (v42 : BitVec 32) (k1_hw5 : k1_chk5 v42), ∀ a, (k1_off13 v42) a + S1x128.size a ≤ S10000x128.size a := fun v42 k1_hw5 => k1_hw5.1
theorem k1_off15_inb : ∀ (v42 : BitVec 32) (k1_hw5 : k1_chk5 v42), ∀ a, (k1_off15 v42) a + S1x128.size a ≤ S10000x128.size a := fun v42 k1_hw5 => k1_hw5.2

def k1_off16 (k1_t1 : Fin k1_t1_loop.trips) : Fin 2 → Nat :=
  let c0_19 : Index := 0#32
  let c0_i32_1 : BitVec 32 := 0#32
  let c1_i32 : BitVec 32 := 1#32
  let arg5 : BitVec 32 := Scf.iv c0_i32_1 c1_i32 k1_t1
  let c4_i32 : BitVec 32 := 4#32
  let v7 : BitVec 32 := Scalar.muli arg5 c4_i32
  let c3_i32 : BitVec 32 := 3#32
  let v53 : BitVec 32 := Scalar.addi v7 c3_i32
  let v54 : Index := Scalar.indexCast v53
  ![0, v54.toNat]
def k1_off17 (k1_t1 : Fin k1_t1_loop.trips) : Fin 2 → Nat :=
  let c1_20 : Index := 1#32
  let c0_i32_1 : BitVec 32 := 0#32
  let c1_i32 : BitVec 32 := 1#32
  let arg5 : BitVec 32 := Scf.iv c0_i32_1 c1_i32 k1_t1
  let c4_i32 : BitVec 32 := 4#32
  let v7 : BitVec 32 := Scalar.muli arg5 c4_i32
  let c3_i32 : BitVec 32 := 3#32
  let v53 : BitVec 32 := Scalar.addi v7 c3_i32
  let v56 : Index := Scalar.indexCast v53
  ![1, v56.toNat]
def k1_off18 (v57 : BitVec 32) : Fin 2 → Nat :=
  let v58 : Index := Scalar.indexCast v57
  let c0_21 : Index := 0#32
  ![v58.toNat, 0]

def k1_off19 (v55 : BitVec 32) : Fin 2 → Nat :=
  let v60 : Index := Scalar.indexCast v55
  let c0_22 : Index := 0#32
  ![v60.toNat, 0]

def k1_chk8 (v55 : BitVec 32) : Prop :=
  (∀ a, (k1_off19 v55) a + S1x128.size a ≤ S10000x128.size a)
theorem k1_off19_inb : ∀ (v55 : BitVec 32) (k1_hw8 : k1_chk8 v55), ∀ a, (k1_off19 v55) a + S1x128.size a ≤ S10000x128.size a := fun v55 k1_hw8 => k1_hw8

def k1_off20 (v57 : BitVec 32) : Fin 2 → Nat :=
  let v64 : Index := Scalar.indexCast v57
  let c0_23 : Index := 0#32
  ![v64.toNat, 0]

def k1_chk7 (v57 : BitVec 32) : Prop :=
  (∀ a, (k1_off18 v57) a + S1x128.size a ≤ S10000x128.size a) ∧
  (∀ a, (k1_off20 v57) a + S1x128.size a ≤ S10000x128.size a)
theorem k1_off18_inb : ∀ (v57 : BitVec 32) (k1_hw7 : k1_chk7 v57), ∀ a, (k1_off18 v57) a + S1x128.size a ≤ S10000x128.size a := fun v57 k1_hw7 => k1_hw7.1
theorem k1_off20_inb : ∀ (v57 : BitVec 32) (k1_hw7 : k1_chk7 v57), ∀ a, (k1_off20 v57) a + S1x128.size a ≤ S10000x128.size a := fun v57 k1_hw7 => k1_hw7.2

def k1_cond2 (i : grid1.Coords) : BitVec 1 :=
  let arg0 : BitVec 32 := BitVec.ofNat 32 (i 0).val
  let c19_i32 : BitVec 32 := 19#32
  let v4 : BitVec 1 := Scalar.cmpi .eq arg0 c19_i32
  let v5 : BitVec 32 := Scalar.extui v4
  let c0_i32_3 : BitVec 32 := 0#32
  let v6 : BitVec 1 := Scalar.cmpi .ne v5 c0_i32_3
  v6

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .smem S2x16000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

@[reducible] def k2_t1_loop : Scf.Loop 32 :=
  let c0_i32_1 : BitVec 32 := 0#32
  let c4000_i32 : BitVec 32 := 4000#32
  let v3 : BitVec 32 := Scalar.addi c0_i32_1 c4000_i32
  let c1_i32 : BitVec 32 := 1#32
  ⟨c0_i32_1, v3, c1_i32⟩
def k2_off1 (k2_t1 : Fin k2_t1_loop.trips) : Fin 2 → Nat :=
  let c0 : Index := 0#32
  let c0_i32_1 : BitVec 32 := 0#32
  let c1_i32 : BitVec 32 := 1#32
  let arg11 : BitVec 32 := Scf.iv c0_i32_1 c1_i32 k2_t1
  let c4_i32 : BitVec 32 := 4#32
  let v7 : BitVec 32 := Scalar.muli arg11 c4_i32
  let c0_i32_4 : BitVec 32 := 0#32
  let v8 : BitVec 32 := Scalar.addi v7 c0_i32_4
  let v9 : Index := Scalar.indexCast v8
  ![0, v9.toNat]
def k2_off2 (k2_t1 : Fin k2_t1_loop.trips) : Fin 2 → Nat :=
  let c1 : Index := 1#32
  let c0_i32_1 : BitVec 32 := 0#32
  let c1_i32 : BitVec 32 := 1#32
  let arg11 : BitVec 32 := Scf.iv c0_i32_1 c1_i32 k2_t1
  let c4_i32 : BitVec 32 := 4#32
  let v7 : BitVec 32 := Scalar.muli arg11 c4_i32
  let c0_i32_4 : BitVec 32 := 0#32
  let v8 : BitVec 32 := Scalar.addi v7 c0_i32_4
  let v11 : Index := Scalar.indexCast v8
  ![1, v11.toNat]
def k2_off3 (v12 : BitVec 32) : Fin 2 → Nat :=
  let v13 : Index := Scalar.indexCast v12
  let c0_5 : Index := 0#32
  ![v13.toNat, 0]

def k2_off4 (v10 : BitVec 32) : Fin 2 → Nat :=
  let v15 : Index := Scalar.indexCast v10
  let c0_6 : Index := 0#32
  ![v15.toNat, 0]

def k2_chk2 (v10 : BitVec 32) : Prop :=
  (∀ a, (k2_off4 v10) a + S1x128.size a ≤ S10000x128.size a)
theorem k2_off4_inb : ∀ (v10 : BitVec 32) (k2_hw2 : k2_chk2 v10), ∀ a, (k2_off4 v10) a + S1x128.size a ≤ S10000x128.size a := fun v10 k2_hw2 => k2_hw2

def k2_off5 (v12 : BitVec 32) : Fin 2 → Nat :=
  let v18 : Index := Scalar.indexCast v12
  let c0_7 : Index := 0#32
  ![v18.toNat, 0]

def k2_chk1 (v12 : BitVec 32) : Prop :=
  (∀ a, (k2_off3 v12) a + S1x128.size a ≤ S10000x128.size a) ∧
  (∀ a, (k2_off5 v12) a + S1x128.size a ≤ S10000x128.size a)
theorem k2_off3_inb : ∀ (v12 : BitVec 32) (k2_hw1 : k2_chk1 v12), ∀ a, (k2_off3 v12) a + S1x128.size a ≤ S10000x128.size a := fun v12 k2_hw1 => k2_hw1.1
theorem k2_off5_inb : ∀ (v12 : BitVec 32) (k2_hw1 : k2_chk1 v12), ∀ a, (k2_off5 v12) a + S1x128.size a ≤ S10000x128.size a := fun v12 k2_hw1 => k2_hw1.2

def k2_off6 (k2_t1 : Fin k2_t1_loop.trips) : Fin 2 → Nat :=
  let c0_9 : Index := 0#32
  let c0_i32_1 : BitVec 32 := 0#32
  let c1_i32 : BitVec 32 := 1#32
  let arg11 : BitVec 32 := Scf.iv c0_i32_1 c1_i32 k2_t1
  let c4_i32 : BitVec 32 := 4#32
  let v7 : BitVec 32 := Scalar.muli arg11 c4_i32
  let c1_i32_8 : BitVec 32 := 1#32
  let v22 : BitVec 32 := Scalar.addi v7 c1_i32_8
  let v23 : Index := Scalar.indexCast v22
  ![0, v23.toNat]
def k2_off7 (k2_t1 : Fin k2_t1_loop.trips) : Fin 2 → Nat :=
  let c1_10 : Index := 1#32
  let c0_i32_1 : BitVec 32 := 0#32
  let c1_i32 : BitVec 32 := 1#32
  let arg11 : BitVec 32 := Scf.iv c0_i32_1 c1_i32 k2_t1
  let c4_i32 : BitVec 32 := 4#32
  let v7 : BitVec 32 := Scalar.muli arg11 c4_i32
  let c1_i32_8 : BitVec 32 := 1#32
  let v22 : BitVec 32 := Scalar.addi v7 c1_i32_8
  let v25 : Index := Scalar.indexCast v22
  ![1, v25.toNat]
def k2_off8 (v26 : BitVec 32) : Fin 2 → Nat :=
  let v27 : Index := Scalar.indexCast v26
  let c0_11 : Index := 0#32
  ![v27.toNat, 0]

def k2_off9 (v24 : BitVec 32) : Fin 2 → Nat :=
  let v29 : Index := Scalar.indexCast v24
  let c0_12 : Index := 0#32
  ![v29.toNat, 0]

def k2_chk4 (v24 : BitVec 32) : Prop :=
  (∀ a, (k2_off9 v24) a + S1x128.size a ≤ S10000x128.size a)
theorem k2_off9_inb : ∀ (v24 : BitVec 32) (k2_hw4 : k2_chk4 v24), ∀ a, (k2_off9 v24) a + S1x128.size a ≤ S10000x128.size a := fun v24 k2_hw4 => k2_hw4

def k2_off10 (v26 : BitVec 32) : Fin 2 → Nat :=
  let v32 : Index := Scalar.indexCast v26
  let c0_13 : Index := 0#32
  ![v32.toNat, 0]

def k2_chk3 (v26 : BitVec 32) : Prop :=
  (∀ a, (k2_off8 v26) a + S1x128.size a ≤ S10000x128.size a) ∧
  (∀ a, (k2_off10 v26) a + S1x128.size a ≤ S10000x128.size a)
theorem k2_off8_inb : ∀ (v26 : BitVec 32) (k2_hw3 : k2_chk3 v26), ∀ a, (k2_off8 v26) a + S1x128.size a ≤ S10000x128.size a := fun v26 k2_hw3 => k2_hw3.1
theorem k2_off10_inb : ∀ (v26 : BitVec 32) (k2_hw3 : k2_chk3 v26), ∀ a, (k2_off10 v26) a + S1x128.size a ≤ S10000x128.size a := fun v26 k2_hw3 => k2_hw3.2

def k2_off11 (k2_t1 : Fin k2_t1_loop.trips) : Fin 2 → Nat :=
  let c0_14 : Index := 0#32
  let c0_i32_1 : BitVec 32 := 0#32
  let c1_i32 : BitVec 32 := 1#32
  let arg11 : BitVec 32 := Scf.iv c0_i32_1 c1_i32 k2_t1
  let c4_i32 : BitVec 32 := 4#32
  let v7 : BitVec 32 := Scalar.muli arg11 c4_i32
  let c2_i32 : BitVec 32 := 2#32
  let v36 : BitVec 32 := Scalar.addi v7 c2_i32
  let v37 : Index := Scalar.indexCast v36
  ![0, v37.toNat]
def k2_off12 (k2_t1 : Fin k2_t1_loop.trips) : Fin 2 → Nat :=
  let c1_15 : Index := 1#32
  let c0_i32_1 : BitVec 32 := 0#32
  let c1_i32 : BitVec 32 := 1#32
  let arg11 : BitVec 32 := Scf.iv c0_i32_1 c1_i32 k2_t1
  let c4_i32 : BitVec 32 := 4#32
  let v7 : BitVec 32 := Scalar.muli arg11 c4_i32
  let c2_i32 : BitVec 32 := 2#32
  let v36 : BitVec 32 := Scalar.addi v7 c2_i32
  let v39 : Index := Scalar.indexCast v36
  ![1, v39.toNat]
def k2_off13 (v40 : BitVec 32) : Fin 2 → Nat :=
  let v41 : Index := Scalar.indexCast v40
  let c0_16 : Index := 0#32
  ![v41.toNat, 0]

def k2_off14 (v38 : BitVec 32) : Fin 2 → Nat :=
  let v43 : Index := Scalar.indexCast v38
  let c0_17 : Index := 0#32
  ![v43.toNat, 0]

def k2_chk6 (v38 : BitVec 32) : Prop :=
  (∀ a, (k2_off14 v38) a + S1x128.size a ≤ S10000x128.size a)
theorem k2_off14_inb : ∀ (v38 : BitVec 32) (k2_hw6 : k2_chk6 v38), ∀ a, (k2_off14 v38) a + S1x128.size a ≤ S10000x128.size a := fun v38 k2_hw6 => k2_hw6

def k2_off15 (v40 : BitVec 32) : Fin 2 → Nat :=
  let v46 : Index := Scalar.indexCast v40
  let c0_18 : Index := 0#32
  ![v46.toNat, 0]

def k2_chk5 (v40 : BitVec 32) : Prop :=
  (∀ a, (k2_off13 v40) a + S1x128.size a ≤ S10000x128.size a) ∧
  (∀ a, (k2_off15 v40) a + S1x128.size a ≤ S10000x128.size a)
theorem k2_off13_inb : ∀ (v40 : BitVec 32) (k2_hw5 : k2_chk5 v40), ∀ a, (k2_off13 v40) a + S1x128.size a ≤ S10000x128.size a := fun v40 k2_hw5 => k2_hw5.1
theorem k2_off15_inb : ∀ (v40 : BitVec 32) (k2_hw5 : k2_chk5 v40), ∀ a, (k2_off15 v40) a + S1x128.size a ≤ S10000x128.size a := fun v40 k2_hw5 => k2_hw5.2

def k2_off16 (k2_t1 : Fin k2_t1_loop.trips) : Fin 2 → Nat :=
  let c0_19 : Index := 0#32
  let c0_i32_1 : BitVec 32 := 0#32
  let c1_i32 : BitVec 32 := 1#32
  let arg11 : BitVec 32 := Scf.iv c0_i32_1 c1_i32 k2_t1
  let c4_i32 : BitVec 32 := 4#32
  let v7 : BitVec 32 := Scalar.muli arg11 c4_i32
  let c3_i32 : BitVec 32 := 3#32
  let v50 : BitVec 32 := Scalar.addi v7 c3_i32
  let v51 : Index := Scalar.indexCast v50
  ![0, v51.toNat]
def k2_off17 (k2_t1 : Fin k2_t1_loop.trips) : Fin 2 → Nat :=
  let c1_20 : Index := 1#32
  let c0_i32_1 : BitVec 32 := 0#32
  let c1_i32 : BitVec 32 := 1#32
  let arg11 : BitVec 32 := Scf.iv c0_i32_1 c1_i32 k2_t1
  let c4_i32 : BitVec 32 := 4#32
  let v7 : BitVec 32 := Scalar.muli arg11 c4_i32
  let c3_i32 : BitVec 32 := 3#32
  let v50 : BitVec 32 := Scalar.addi v7 c3_i32
  let v53 : Index := Scalar.indexCast v50
  ![1, v53.toNat]
def k2_off18 (v54 : BitVec 32) : Fin 2 → Nat :=
  let v55 : Index := Scalar.indexCast v54
  let c0_21 : Index := 0#32
  ![v55.toNat, 0]

def k2_off19 (v52 : BitVec 32) : Fin 2 → Nat :=
  let v57 : Index := Scalar.indexCast v52
  let c0_22 : Index := 0#32
  ![v57.toNat, 0]

def k2_chk8 (v52 : BitVec 32) : Prop :=
  (∀ a, (k2_off19 v52) a + S1x128.size a ≤ S10000x128.size a)
theorem k2_off19_inb : ∀ (v52 : BitVec 32) (k2_hw8 : k2_chk8 v52), ∀ a, (k2_off19 v52) a + S1x128.size a ≤ S10000x128.size a := fun v52 k2_hw8 => k2_hw8

def k2_off20 (v54 : BitVec 32) : Fin 2 → Nat :=
  let v60 : Index := Scalar.indexCast v54
  let c0_23 : Index := 0#32
  ![v60.toNat, 0]

def k2_chk7 (v54 : BitVec 32) : Prop :=
  (∀ a, (k2_off18 v54) a + S1x128.size a ≤ S10000x128.size a) ∧
  (∀ a, (k2_off20 v54) a + S1x128.size a ≤ S10000x128.size a)
theorem k2_off18_inb : ∀ (v54 : BitVec 32) (k2_hw7 : k2_chk7 v54), ∀ a, (k2_off18 v54) a + S1x128.size a ≤ S10000x128.size a := fun v54 k2_hw7 => k2_hw7.1
theorem k2_off20_inb : ∀ (v54 : BitVec 32) (k2_hw7 : k2_chk7 v54), ∀ a, (k2_off20 v54) a + S1x128.size a ≤ S10000x128.size a := fun v54 k2_hw7 => k2_hw7.2

def k2_cond2 (i : grid2.Coords) : BitVec 1 :=
  let arg0 : BitVec 32 := BitVec.ofNat 32 (i 0).val
  let c19_i32 : BitVec 32 := 19#32
  let v4 : BitVec 1 := Scalar.cmpi .eq arg0 c19_i32
  let v5 : BitVec 32 := Scalar.extui v4
  let c0_i32_3 : BitVec 32 := 0#32
  let v6 : BitVec 1 := Scalar.cmpi .ne v5 c0_i32_3
  v6

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .smem S2x16000 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S10000x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

@[reducible] def k3_t1_loop : Scf.Loop 32 :=
  let c0_i32_1 : BitVec 32 := 0#32
  let c4000_i32 : BitVec 32 := 4000#32
  let v3 : BitVec 32 := Scalar.addi c0_i32_1 c4000_i32
  let c1_i32 : BitVec 32 := 1#32
  ⟨c0_i32_1, v3, c1_i32⟩
def k3_off1 (k3_t1 : Fin k3_t1_loop.trips) : Fin 2 → Nat :=
  let c0 : Index := 0#32
  let c0_i32_1 : BitVec 32 := 0#32
  let c1_i32 : BitVec 32 := 1#32
  let arg5 : BitVec 32 := Scf.iv c0_i32_1 c1_i32 k3_t1
  let c4_i32 : BitVec 32 := 4#32
  let v7 : BitVec 32 := Scalar.muli arg5 c4_i32
  let c0_i32_4 : BitVec 32 := 0#32
  let v8 : BitVec 32 := Scalar.addi v7 c0_i32_4
  let v9 : Index := Scalar.indexCast v8
  ![0, v9.toNat]
def k3_off2 (k3_t1 : Fin k3_t1_loop.trips) : Fin 2 → Nat :=
  let c1 : Index := 1#32
  let c0_i32_1 : BitVec 32 := 0#32
  let c1_i32 : BitVec 32 := 1#32
  let arg5 : BitVec 32 := Scf.iv c0_i32_1 c1_i32 k3_t1
  let c4_i32 : BitVec 32 := 4#32
  let v7 : BitVec 32 := Scalar.muli arg5 c4_i32
  let c0_i32_4 : BitVec 32 := 0#32
  let v8 : BitVec 32 := Scalar.addi v7 c0_i32_4
  let v11 : Index := Scalar.indexCast v8
  ![1, v11.toNat]
def k3_off3 (v12 : BitVec 32) : Fin 2 → Nat :=
  let v13 : Index := Scalar.indexCast v12
  let c0_5 : Index := 0#32
  ![v13.toNat, 0]

def k3_off4 (v10 : BitVec 32) : Fin 2 → Nat :=
  let v15 : Index := Scalar.indexCast v10
  let c0_6 : Index := 0#32
  ![v15.toNat, 0]

def k3_chk2 (v10 : BitVec 32) : Prop :=
  (∀ a, (k3_off4 v10) a + S1x128.size a ≤ S10000x128.size a)
theorem k3_off4_inb : ∀ (v10 : BitVec 32) (k3_hw2 : k3_chk2 v10), ∀ a, (k3_off4 v10) a + S1x128.size a ≤ S10000x128.size a := fun v10 k3_hw2 => k3_hw2

def k3_off5 (v12 : BitVec 32) : Fin 2 → Nat :=
  let v19 : Index := Scalar.indexCast v12
  let c0_7 : Index := 0#32
  ![v19.toNat, 0]

def k3_chk1 (v12 : BitVec 32) : Prop :=
  (∀ a, (k3_off3 v12) a + S1x128.size a ≤ S10000x128.size a) ∧
  (∀ a, (k3_off5 v12) a + S1x128.size a ≤ S10000x128.size a)
theorem k3_off3_inb : ∀ (v12 : BitVec 32) (k3_hw1 : k3_chk1 v12), ∀ a, (k3_off3 v12) a + S1x128.size a ≤ S10000x128.size a := fun v12 k3_hw1 => k3_hw1.1
theorem k3_off5_inb : ∀ (v12 : BitVec 32) (k3_hw1 : k3_chk1 v12), ∀ a, (k3_off5 v12) a + S1x128.size a ≤ S10000x128.size a := fun v12 k3_hw1 => k3_hw1.2

def k3_off6 (k3_t1 : Fin k3_t1_loop.trips) : Fin 2 → Nat :=
  let c0_9 : Index := 0#32
  let c0_i32_1 : BitVec 32 := 0#32
  let c1_i32 : BitVec 32 := 1#32
  let arg5 : BitVec 32 := Scf.iv c0_i32_1 c1_i32 k3_t1
  let c4_i32 : BitVec 32 := 4#32
  let v7 : BitVec 32 := Scalar.muli arg5 c4_i32
  let c1_i32_8 : BitVec 32 := 1#32
  let v23 : BitVec 32 := Scalar.addi v7 c1_i32_8
  let v24 : Index := Scalar.indexCast v23
  ![0, v24.toNat]
def k3_off7 (k3_t1 : Fin k3_t1_loop.trips) : Fin 2 → Nat :=
  let c1_10 : Index := 1#32
  let c0_i32_1 : BitVec 32 := 0#32
  let c1_i32 : BitVec 32 := 1#32
  let arg5 : BitVec 32 := Scf.iv c0_i32_1 c1_i32 k3_t1
  let c4_i32 : BitVec 32 := 4#32
  let v7 : BitVec 32 := Scalar.muli arg5 c4_i32
  let c1_i32_8 : BitVec 32 := 1#32
  let v23 : BitVec 32 := Scalar.addi v7 c1_i32_8
  let v26 : Index := Scalar.indexCast v23
  ![1, v26.toNat]
def k3_off8 (v27 : BitVec 32) : Fin 2 → Nat :=
  let v28 : Index := Scalar.indexCast v27
  let c0_11 : Index := 0#32
  ![v28.toNat, 0]

def k3_off9 (v25 : BitVec 32) : Fin 2 → Nat :=
  let v30 : Index := Scalar.indexCast v25
  let c0_12 : Index := 0#32
  ![v30.toNat, 0]

def k3_chk4 (v25 : BitVec 32) : Prop :=
  (∀ a, (k3_off9 v25) a + S1x128.size a ≤ S10000x128.size a)
theorem k3_off9_inb : ∀ (v25 : BitVec 32) (k3_hw4 : k3_chk4 v25), ∀ a, (k3_off9 v25) a + S1x128.size a ≤ S10000x128.size a := fun v25 k3_hw4 => k3_hw4

def k3_off10 (v27 : BitVec 32) : Fin 2 → Nat :=
  let v34 : Index := Scalar.indexCast v27
  let c0_13 : Index := 0#32
  ![v34.toNat, 0]

def k3_chk3 (v27 : BitVec 32) : Prop :=
  (∀ a, (k3_off8 v27) a + S1x128.size a ≤ S10000x128.size a) ∧
  (∀ a, (k3_off10 v27) a + S1x128.size a ≤ S10000x128.size a)
theorem k3_off8_inb : ∀ (v27 : BitVec 32) (k3_hw3 : k3_chk3 v27), ∀ a, (k3_off8 v27) a + S1x128.size a ≤ S10000x128.size a := fun v27 k3_hw3 => k3_hw3.1
theorem k3_off10_inb : ∀ (v27 : BitVec 32) (k3_hw3 : k3_chk3 v27), ∀ a, (k3_off10 v27) a + S1x128.size a ≤ S10000x128.size a := fun v27 k3_hw3 => k3_hw3.2

def k3_off11 (k3_t1 : Fin k3_t1_loop.trips) : Fin 2 → Nat :=
  let c0_14 : Index := 0#32
  let c0_i32_1 : BitVec 32 := 0#32
  let c1_i32 : BitVec 32 := 1#32
  let arg5 : BitVec 32 := Scf.iv c0_i32_1 c1_i32 k3_t1
  let c4_i32 : BitVec 32 := 4#32
  let v7 : BitVec 32 := Scalar.muli arg5 c4_i32
  let c2_i32 : BitVec 32 := 2#32
  let v38 : BitVec 32 := Scalar.addi v7 c2_i32
  let v39 : Index := Scalar.indexCast v38
  ![0, v39.toNat]
def k3_off12 (k3_t1 : Fin k3_t1_loop.trips) : Fin 2 → Nat :=
  let c1_15 : Index := 1#32
  let c0_i32_1 : BitVec 32 := 0#32
  let c1_i32 : BitVec 32 := 1#32
  let arg5 : BitVec 32 := Scf.iv c0_i32_1 c1_i32 k3_t1
  let c4_i32 : BitVec 32 := 4#32
  let v7 : BitVec 32 := Scalar.muli arg5 c4_i32
  let c2_i32 : BitVec 32 := 2#32
  let v38 : BitVec 32 := Scalar.addi v7 c2_i32
  let v41 : Index := Scalar.indexCast v38
  ![1, v41.toNat]
def k3_off13 (v42 : BitVec 32) : Fin 2 → Nat :=
  let v43 : Index := Scalar.indexCast v42
  let c0_16 : Index := 0#32
  ![v43.toNat, 0]

def k3_off14 (v40 : BitVec 32) : Fin 2 → Nat :=
  let v45 : Index := Scalar.indexCast v40
  let c0_17 : Index := 0#32
  ![v45.toNat, 0]

def k3_chk6 (v40 : BitVec 32) : Prop :=
  (∀ a, (k3_off14 v40) a + S1x128.size a ≤ S10000x128.size a)
theorem k3_off14_inb : ∀ (v40 : BitVec 32) (k3_hw6 : k3_chk6 v40), ∀ a, (k3_off14 v40) a + S1x128.size a ≤ S10000x128.size a := fun v40 k3_hw6 => k3_hw6

def k3_off15 (v42 : BitVec 32) : Fin 2 → Nat :=
  let v49 : Index := Scalar.indexCast v42
  let c0_18 : Index := 0#32
  ![v49.toNat, 0]

def k3_chk5 (v42 : BitVec 32) : Prop :=
  (∀ a, (k3_off13 v42) a + S1x128.size a ≤ S10000x128.size a) ∧
  (∀ a, (k3_off15 v42) a + S1x128.size a ≤ S10000x128.size a)
theorem k3_off13_inb : ∀ (v42 : BitVec 32) (k3_hw5 : k3_chk5 v42), ∀ a, (k3_off13 v42) a + S1x128.size a ≤ S10000x128.size a := fun v42 k3_hw5 => k3_hw5.1
theorem k3_off15_inb : ∀ (v42 : BitVec 32) (k3_hw5 : k3_chk5 v42), ∀ a, (k3_off15 v42) a + S1x128.size a ≤ S10000x128.size a := fun v42 k3_hw5 => k3_hw5.2

def k3_off16 (k3_t1 : Fin k3_t1_loop.trips) : Fin 2 → Nat :=
  let c0_19 : Index := 0#32
  let c0_i32_1 : BitVec 32 := 0#32
  let c1_i32 : BitVec 32 := 1#32
  let arg5 : BitVec 32 := Scf.iv c0_i32_1 c1_i32 k3_t1
  let c4_i32 : BitVec 32 := 4#32
  let v7 : BitVec 32 := Scalar.muli arg5 c4_i32
  let c3_i32 : BitVec 32 := 3#32
  let v53 : BitVec 32 := Scalar.addi v7 c3_i32
  let v54 : Index := Scalar.indexCast v53
  ![0, v54.toNat]
def k3_off17 (k3_t1 : Fin k3_t1_loop.trips) : Fin 2 → Nat :=
  let c1_20 : Index := 1#32
  let c0_i32_1 : BitVec 32 := 0#32
  let c1_i32 : BitVec 32 := 1#32
  let arg5 : BitVec 32 := Scf.iv c0_i32_1 c1_i32 k3_t1
  let c4_i32 : BitVec 32 := 4#32
  let v7 : BitVec 32 := Scalar.muli arg5 c4_i32
  let c3_i32 : BitVec 32 := 3#32
  let v53 : BitVec 32 := Scalar.addi v7 c3_i32
  let v56 : Index := Scalar.indexCast v53
  ![1, v56.toNat]
def k3_off18 (v57 : BitVec 32) : Fin 2 → Nat :=
  let v58 : Index := Scalar.indexCast v57
  let c0_21 : Index := 0#32
  ![v58.toNat, 0]

def k3_off19 (v55 : BitVec 32) : Fin 2 → Nat :=
  let v60 : Index := Scalar.indexCast v55
  let c0_22 : Index := 0#32
  ![v60.toNat, 0]

def k3_chk8 (v55 : BitVec 32) : Prop :=
  (∀ a, (k3_off19 v55) a + S1x128.size a ≤ S10000x128.size a)
theorem k3_off19_inb : ∀ (v55 : BitVec 32) (k3_hw8 : k3_chk8 v55), ∀ a, (k3_off19 v55) a + S1x128.size a ≤ S10000x128.size a := fun v55 k3_hw8 => k3_hw8

def k3_off20 (v57 : BitVec 32) : Fin 2 → Nat :=
  let v64 : Index := Scalar.indexCast v57
  let c0_23 : Index := 0#32
  ![v64.toNat, 0]

def k3_chk7 (v57 : BitVec 32) : Prop :=
  (∀ a, (k3_off18 v57) a + S1x128.size a ≤ S10000x128.size a) ∧
  (∀ a, (k3_off20 v57) a + S1x128.size a ≤ S10000x128.size a)
theorem k3_off18_inb : ∀ (v57 : BitVec 32) (k3_hw7 : k3_chk7 v57), ∀ a, (k3_off18 v57) a + S1x128.size a ≤ S10000x128.size a := fun v57 k3_hw7 => k3_hw7.1
theorem k3_off20_inb : ∀ (v57 : BitVec 32) (k3_hw7 : k3_chk7 v57), ∀ a, (k3_off20 v57) a + S1x128.size a ≤ S10000x128.size a := fun v57 k3_hw7 => k3_hw7.2

def k3_cond2 (i : grid3.Coords) : BitVec 1 :=
  let arg0 : BitVec 32 := BitVec.ofNat 32 (i 0).val
  let c19_i32 : BitVec 32 := 19#32
  let v4 : BitVec 1 := Scalar.cmpi .eq arg0 c19_i32
  let v5 : BitVec 32 := Scalar.extui v4
  let c0_i32_3 : BitVec 32 := 0#32
  let v6 : BitVec 1 := Scalar.cmpi .ne v5 c0_i32_3
  v6

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .smem S2x16000 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10000x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := .none

@[reducible] def k4_t1_loop : Scf.Loop 32 :=
  let c0_i32_26 : BitVec 32 := 0#32
  let c10000_i32 : BitVec 32 := 10000#32
  let v58 : BitVec 32 := Scalar.addi c0_i32_26 c10000_i32
  let c1_i32 : BitVec 32 := 1#32
  ⟨c0_i32_26, v58, c1_i32⟩
def k4_off1 (k4_t1 : Fin k4_t1_loop.trips) : Fin 1 → Nat :=
  let c0_i32_26 : BitVec 32 := 0#32
  let c1_i32 : BitVec 32 := 1#32
  let arg16 : BitVec 32 := Scf.iv c0_i32_26 c1_i32 k4_t1
  let v103 : Index := Scalar.indexCast arg16
  ![v103.toNat]
def k4_off2 (k4_t1 : Fin k4_t1_loop.trips) : Fin 2 → Nat :=
  let c0_i32_26 : BitVec 32 := 0#32
  let c1_i32 : BitVec 32 := 1#32
  let arg16 : BitVec 32 := Scf.iv c0_i32_26 c1_i32 k4_t1
  let v105 : Index := Scalar.indexCast arg16
  let c0_52 : Index := 0#32
  ![v105.toNat, 0]
def k4_off3 (v104 : BitVec 32) : Fin 2 → Nat :=
  let v107 : Index := Scalar.indexCast v104
  let c0_53 : Index := 0#32
  ![v107.toNat, 0]

def k4_chk1 (v104 : BitVec 32) : Prop :=
  (∀ a, (k4_off3 v104) a + S1x3.size a ≤ S100x3.size a)
theorem k4_off3_inb : ∀ (v104 : BitVec 32) (k4_hw1 : k4_chk1 v104), ∀ a, (k4_off3 v104) a + S1x3.size a ≤ S100x3.size a := fun v104 k4_hw1 => k4_hw1

abbrev stage4_0 : Fin 1 → Memref sig .tc .vmem S10000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .smem S10000 .i32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S100x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S100x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S1x3 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S1x3 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S1x3 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S1x6 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))

abbrev stage4_9 : Fin 1 → Memref sig .tc .vmem S1x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))

abbrev stage4_10 : Fin 1 → Memref sig .tc .vmem S1x3 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))

abbrev stage4_11 : Fin 1 → Memref sig .tc .vmem S1x1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))

abbrev stage4_12 : Fin 1 → Memref sig .tc .vmem S100x1 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S10000 : Shape := ⟨1, ![10000]⟩
abbrev S100x1 : Shape := ⟨2, ![100, 1]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x3 : Shape := ⟨2, ![1, 3]⟩
abbrev S3 : Shape := ⟨1, ![3]⟩
abbrev S6x1 : Shape := ⟨2, ![6, 1]⟩
abbrev S3x1 : Shape := ⟨2, ![3, 1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S320000x1x1 : Shape := ⟨3, ![320000, 1, 1]⟩
abbrev S1x10000x1 : Shape := ⟨3, ![1, 10000, 1]⟩
abbrev S320000x10000x1 : Shape := ⟨3, ![320000, 10000, 1]⟩
abbrev S320000x1x128 : Shape := ⟨3, ![320000, 1, 128]⟩
abbrev S320000x10000x128 : Shape := ⟨3, ![320000, 10000, 128]⟩
abbrev S10000x1 : Shape := ⟨2, ![10000, 1]⟩
abbrev S1x1 : Shape := ⟨2, ![1, 1]⟩
abbrev S10000x3 : Shape := ⟨2, ![10000, 3]⟩
abbrev S100x3 : Shape := ⟨2, ![100, 3]⟩
abbrev S10000x1x1 : Shape := ⟨3, ![10000, 1, 1]⟩
abbrev S100 : Shape := ⟨1, ![100]⟩
abbrev S1x100x1 : Shape := ⟨3, ![1, 100, 1]⟩
abbrev S10000x100x1 : Shape := ⟨3, ![10000, 100, 1]⟩
abbrev S10000x1x3 : Shape := ⟨3, ![10000, 1, 3]⟩
abbrev S10000x100x3 : Shape := ⟨3, ![10000, 100, 3]⟩
abbrev S100x6 : Shape := ⟨2, ![100, 6]⟩

abbrev nBuf : Space → Nat
  | .hbm => 292
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S100x1, .f32⟩
  | 4 => ⟨S100x1, .f32⟩
  | 5 => ⟨S128x128, .f32⟩
  | 6 => ⟨S128x128, .f32⟩
  | 7 => ⟨S128, .f32⟩
  | 8 => ⟨S128, .f32⟩
  | 9 => ⟨S128, .f32⟩
  | 10 => ⟨S128x1, .f32⟩
  | 11 => ⟨S128x1, .f32⟩
  | 12 => ⟨S1, .f32⟩
  | 13 => ⟨S1, .f32⟩
  | 14 => ⟨S1, .f32⟩
  | 15 => ⟨S1x3, .f32⟩
  | 16 => ⟨S3, .f32⟩
  | 17 => ⟨S3, .f32⟩
  | 18 => ⟨S3, .f32⟩
  | 19 => ⟨S6x1, .f32⟩
  | 20 => ⟨S1, .f32⟩
  | 21 => ⟨S3x1, .f32⟩
  | 22 => ⟨S1, .f32⟩
  | 23 => ⟨S1x320000, .i32⟩
  | 24 => ⟨S320000, .i32⟩
  | 25 => ⟨S1x320000, .i32⟩
  | 26 => ⟨S320000, .i32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x128, .f32⟩
  | 36 => ⟨S_, .f32⟩
  | 37 => ⟨S10000x128, .f32⟩
  | 38 => ⟨S320000x1, .i32⟩
  | 39 => ⟨S10000x128, .f32⟩
  | 40 => ⟨S10000x128, .f32⟩
  | 41 => ⟨S10000x128, .f32⟩
  | 42 => ⟨S10000x128, .f32⟩
  | 43 => ⟨S1x128, .f32⟩
  | 44 => ⟨S10000x128, .f32⟩
  | 45 => ⟨S10000x128, .f32⟩
  | 46 => ⟨S_, .f32⟩
  | 47 => ⟨S10000x128, .f32⟩
  | 48 => ⟨S10000x128, .f32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S10000x128, .f32⟩
  | 63 => ⟨S10000x128, .f32⟩
  | 64 => ⟨S10000x128, .f32⟩
  | 65 => ⟨S_, .f32⟩
  | 66 => ⟨S_, .f32⟩
  | 67 => ⟨S_, .f32⟩
  | 68 => ⟨S_, .f32⟩
  | 69 => ⟨S128, .f32⟩
  | 70 => ⟨S1x128, .f32⟩
  | 71 => ⟨S1x128, .f32⟩
  | 72 => ⟨S1x128, .f32⟩
  | 73 => ⟨S_, .f32⟩
  | 74 => ⟨S_, .i1⟩
  | 75 => ⟨S_, .f32⟩
  | 76 => ⟨S_, .f32⟩
  | 77 => ⟨S1x128, .f32⟩
  | 78 => ⟨S1x128, .f32⟩
  | 79 => ⟨S10000x128, .f32⟩
  | 80 => ⟨S10000x128, .f32⟩
  | 81 => ⟨S1x128, .f32⟩
  | 82 => ⟨S10000x128, .f32⟩
  | 83 => ⟨S10000x128, .f32⟩
  | 84 => ⟨S_, .f32⟩
  | 85 => ⟨S1x128, .f32⟩
  | 86 => ⟨S1x128, .f32⟩
  | 87 => ⟨S1x128, .f32⟩
  | 88 => ⟨S10000x128, .f32⟩
  | 89 => ⟨S10000x128, .f32⟩
  | 90 => ⟨S1x128, .f32⟩
  | 91 => ⟨S10000x128, .f32⟩
  | 92 => ⟨S10000x128, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x128, .f32⟩
  | 102 => ⟨S320000x1x1, .i32⟩
  | 103 => ⟨S10000, .i32⟩
  | 104 => ⟨S1x10000x1, .i32⟩
  | 105 => ⟨S320000x10000x1, .i32⟩
  | 106 => ⟨S320000x10000x1, .i32⟩
  | 107 => ⟨S320000x10000x1, .i1⟩
  | 108 => ⟨S320000x1x128, .f32⟩
  | 109 => ⟨S_, .f32⟩
  | 110 => ⟨S_, .f32⟩
  | 111 => ⟨S320000x10000x128, .i1⟩
  | 112 => ⟨S320000x10000x128, .f32⟩
  | 113 => ⟨S320000x10000x128, .f32⟩
  | 114 => ⟨S320000x10000x128, .f32⟩
  | 115 => ⟨S_, .f32⟩
  | 116 => ⟨S10000x128, .f32⟩
  | 117 => ⟨S10000x128, .f32⟩
  | 118 => ⟨S_, .i32⟩
  | 119 => ⟨S320000, .i32⟩
  | 120 => ⟨S320000, .i1⟩
  | 121 => ⟨S_, .i32⟩
  | 122 => ⟨S320000, .i32⟩
  | 123 => ⟨S320000, .i32⟩
  | 124 => ⟨S320000, .i32⟩
  | 125 => ⟨S320000x1, .i32⟩
  | 126 => ⟨S320000x128, .f32⟩
  | 127 => ⟨S_, .f32⟩
  | _ => ⟨S10000x128, .f32⟩

abbrev hbmTy0_1 (i : Nat) : BufTy := match i % 128 with
  | 0 => ⟨S10000x128, .f32⟩
  | 1 => ⟨S320000x1, .i32⟩
  | 2 => ⟨S10000x128, .f32⟩
  | 3 => ⟨S10000x1, .f32⟩
  | 4 => ⟨S10000x1, .f32⟩
  | 5 => ⟨S10000x1, .f32⟩
  | 6 => ⟨S1x1, .f32⟩
  | 7 => ⟨S10000x1, .f32⟩
  | 8 => ⟨S10000x1, .f32⟩
  | 9 => ⟨S_, .f32⟩
  | 10 => ⟨S10000x1, .f32⟩
  | 11 => ⟨S10000x1, .f32⟩
  | 12 => ⟨S_, .f32⟩
  | 13 => ⟨S1, .f32⟩
  | 14 => ⟨S1x1, .f32⟩
  | 15 => ⟨S_, .f32⟩
  | 16 => ⟨S1x1, .f32⟩
  | 17 => ⟨S1x1, .f32⟩
  | 18 => ⟨S_, .i32⟩
  | 19 => ⟨S_, .f32⟩
  | 20 => ⟨S1, .f32⟩
  | 21 => ⟨S1x1, .f32⟩
  | 22 => ⟨S_, .f32⟩
  | 23 => ⟨S1x1, .f32⟩
  | 24 => ⟨S1x1, .f32⟩
  | 25 => ⟨S10000x1, .f32⟩
  | 26 => ⟨S10000x1, .f32⟩
  | 27 => ⟨S10000x1, .f32⟩
  | 28 => ⟨S_, .f32⟩
  | 29 => ⟨S_, .f32⟩
  | 30 => ⟨S_, .f32⟩
  | 31 => ⟨S_, .f32⟩
  | 32 => ⟨S1, .f32⟩
  | 33 => ⟨S1x1, .f32⟩
  | 34 => ⟨S1x1, .f32⟩
  | 35 => ⟨S1x1, .f32⟩
  | 36 => ⟨S_, .f32⟩
  | 37 => ⟨S_, .i1⟩
  | 38 => ⟨S_, .f32⟩
  | 39 => ⟨S_, .f32⟩
  | 40 => ⟨S1x1, .f32⟩
  | 41 => ⟨S1x1, .f32⟩
  | 42 => ⟨S10000x1, .f32⟩
  | 43 => ⟨S10000x1, .f32⟩
  | 44 => ⟨S1x1, .f32⟩
  | 45 => ⟨S10000x1, .f32⟩
  | 46 => ⟨S10000x1, .f32⟩
  | 47 => ⟨S_, .f32⟩
  | 48 => ⟨S1x1, .f32⟩
  | 49 => ⟨S1x1, .f32⟩
  | 50 => ⟨S1x1, .f32⟩
  | 51 => ⟨S10000x1, .f32⟩
  | 52 => ⟨S10000x1, .f32⟩
  | 53 => ⟨S1x1, .f32⟩
  | 54 => ⟨S10000x1, .f32⟩
  | 55 => ⟨S10000x1, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000x1, .f32⟩
  | 65 => ⟨S320000x1x1, .i32⟩
  | 66 => ⟨S10000, .i32⟩
  | 67 => ⟨S1x10000x1, .i32⟩
  | 68 => ⟨S320000x10000x1, .i32⟩
  | 69 => ⟨S320000x10000x1, .i32⟩
  | 70 => ⟨S320000x10000x1, .i1⟩
  | 71 => ⟨S320000x1x1, .f32⟩
  | 72 => ⟨S_, .f32⟩
  | 73 => ⟨S_, .f32⟩
  | 74 => ⟨S320000x10000x1, .f32⟩
  | 75 => ⟨S320000x10000x1, .f32⟩
  | 76 => ⟨S320000x10000x1, .f32⟩
  | 77 => ⟨S_, .f32⟩
  | 78 => ⟨S10000x1, .f32⟩
  | 79 => ⟨S10000x1, .f32⟩
  | 80 => ⟨S10000x3, .f32⟩
  | 81 => ⟨S1x3, .f32⟩
  | 82 => ⟨S10000x3, .f32⟩
  | 83 => ⟨S10000x3, .f32⟩
  | 84 => ⟨S_, .f32⟩
  | 85 => ⟨S10000x3, .f32⟩
  | 86 => ⟨S10000x3, .f32⟩
  | 87 => ⟨S_, .f32⟩
  | 88 => ⟨S3, .f32⟩
  | 89 => ⟨S1x3, .f32⟩
  | 90 => ⟨S_, .f32⟩
  | 91 => ⟨S1x3, .f32⟩
  | 92 => ⟨S1x3, .f32⟩
  | 93 => ⟨S_, .i32⟩
  | 94 => ⟨S_, .f32⟩
  | 95 => ⟨S3, .f32⟩
  | 96 => ⟨S1x3, .f32⟩
  | 97 => ⟨S_, .f32⟩
  | 98 => ⟨S1x3, .f32⟩
  | 99 => ⟨S1x3, .f32⟩
  | 100 => ⟨S10000x3, .f32⟩
  | 101 => ⟨S10000x3, .f32⟩
  | 102 => ⟨S10000x3, .f32⟩
  | 103 => ⟨S_, .f32⟩
  | 104 => ⟨S_, .f32⟩
  | 105 => ⟨S_, .f32⟩
  | 106 => ⟨S_, .f32⟩
  | 107 => ⟨S3, .f32⟩
  | 108 => ⟨S1x3, .f32⟩
  | 109 => ⟨S1x3, .f32⟩
  | 110 => ⟨S1x3, .f32⟩
  | 111 => ⟨S_, .f32⟩
  | 112 => ⟨S_, .i1⟩
  | 113 => ⟨S_, .f32⟩
  | 114 => ⟨S_, .f32⟩
  | 115 => ⟨S1x3, .f32⟩
  | 116 => ⟨S1x3, .f32⟩
  | 117 => ⟨S10000x3, .f32⟩
  | 118 => ⟨S10000x3, .f32⟩
  | 119 => ⟨S1x3, .f32⟩
  | 120 => ⟨S10000x3, .f32⟩
  | 121 => ⟨S10000x3, .f32⟩
  | 122 => ⟨S_, .f32⟩
  | 123 => ⟨S1x3, .f32⟩
  | 124 => ⟨S1x3, .f32⟩
  | 125 => ⟨S1x3, .f32⟩
  | 126 => ⟨S10000x3, .f32⟩
  | 127 => ⟨S10000x3, .f32⟩
  | _ => ⟨S10000x128, .f32⟩

abbrev hbmTy0_2 (i : Nat) : BufTy := match i % 128 with
  | 0 => ⟨S1x3, .f32⟩
  | 1 => ⟨S10000x3, .f32⟩
  | 2 => ⟨S10000x3, .f32⟩
  | 3 => ⟨S_, .f32⟩
  | 4 => ⟨S100x3, .f32⟩
  | 5 => ⟨S10000x1, .i32⟩
  | 6 => ⟨S100x3, .f32⟩
  | 7 => ⟨S10000x1x1, .i32⟩
  | 8 => ⟨S100, .i32⟩
  | 9 => ⟨S1x100x1, .i32⟩
  | 10 => ⟨S10000x100x1, .i32⟩
  | 11 => ⟨S10000x100x1, .i32⟩
  | 12 => ⟨S10000x100x1, .i1⟩
  | 13 => ⟨S10000x1x3, .f32⟩
  | 14 => ⟨S_, .f32⟩
  | 15 => ⟨S_, .f32⟩
  | 16 => ⟨S10000x100x3, .i1⟩
  | 17 => ⟨S10000x100x3, .f32⟩
  | 18 => ⟨S10000x100x3, .f32⟩
  | 19 => ⟨S10000x100x3, .f32⟩
  | 20 => ⟨S_, .f32⟩
  | 21 => ⟨S100x3, .f32⟩
  | 22 => ⟨S_, .f32⟩
  | 23 => ⟨S100x3, .f32⟩
  | 24 => ⟨S100x3, .f32⟩
  | 25 => ⟨S100x6, .f32⟩
  | 26 => ⟨S100x6, .f32⟩
  | 27 => ⟨S100x1, .f32⟩
  | 28 => ⟨S1x1, .f32⟩
  | 29 => ⟨S100x1, .f32⟩
  | 30 => ⟨S100x1, .f32⟩
  | 31 => ⟨S100x3, .f32⟩
  | 32 => ⟨S100x1, .f32⟩
  | 33 => ⟨S1x1, .f32⟩
  | 34 => ⟨S100x1, .f32⟩
  | 35 => ⟨S100x1, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_call0_cst : Ref sig .tc := ⟨.hbm, 46, rfl⟩
abbrev main_call0_v0 : Ref sig .tc := ⟨.hbm, 47, rfl⟩
abbrev main_v20 : Ref sig .tc := ⟨.hbm, 48, rfl⟩
abbrev main_cst_1 : Ref sig .tc := ⟨.hbm, 49, rfl⟩
abbrev main_v21 : Ref sig .tc := ⟨.hbm, 50, rfl⟩
abbrev main_v22 : Ref sig .tc := ⟨.hbm, 51, rfl⟩
abbrev main_cst_2 : Ref sig .tc := ⟨.hbm, 52, rfl⟩
abbrev main_v23 : Ref sig .tc := ⟨.hbm, 53, rfl⟩
abbrev main_v24 : Ref sig .tc := ⟨.hbm, 54, rfl⟩
abbrev main_c_3 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_cst_2 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_cst_3 : Ref sig .tc := ⟨.hbm, 73, rfl⟩
abbrev main_call1_v13 : Ref sig .tc := ⟨.hbm, 74, rfl⟩
abbrev main_call1_cst_4 : Ref sig .tc := ⟨.hbm, 75, rfl⟩
abbrev main_call1_call0_v0 : Ref sig .tc := ⟨.hbm, 76, rfl⟩
abbrev main_call1_call0_v1 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_4 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_c_5 : Ref sig .tc := ⟨.hbm, 93, rfl⟩
abbrev main_v39 : Ref sig .tc := ⟨.hbm, 94, rfl⟩
abbrev main_v40 : Ref sig .tc := ⟨.hbm, 95, rfl⟩
abbrev main_c_6 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_7 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_v53 : Ref sig .tc := ⟨.hbm, 114, rfl⟩
abbrev main_cst_8 : Ref sig .tc := ⟨.hbm, 115, rfl⟩
abbrev main_v54 : Ref sig .tc := ⟨.hbm, 116, rfl⟩
abbrev main_v55 : Ref sig .tc := ⟨.hbm, 117, rfl⟩
abbrev main_c_9 : Ref sig .tc := ⟨.hbm, 118, rfl⟩
abbrev main_v56 : Ref sig .tc := ⟨.hbm, 119, rfl⟩
abbrev main_v57 : Ref sig .tc := ⟨.hbm, 120, rfl⟩
abbrev main_c_10 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_cst_11 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_call3_cst : Ref sig .tc := ⟨.hbm, 137, rfl⟩
abbrev main_call3_v0 : Ref sig .tc := ⟨.hbm, 138, rfl⟩
abbrev main_v72 : Ref sig .tc := ⟨.hbm, 139, rfl⟩
abbrev main_cst_12 : Ref sig .tc := ⟨.hbm, 140, rfl⟩
abbrev main_v73 : Ref sig .tc := ⟨.hbm, 141, rfl⟩
abbrev main_v74 : Ref sig .tc := ⟨.hbm, 142, rfl⟩
abbrev main_cst_13 : Ref sig .tc := ⟨.hbm, 143, rfl⟩
abbrev main_v75 : Ref sig .tc := ⟨.hbm, 144, rfl⟩
abbrev main_v76 : Ref sig .tc := ⟨.hbm, 145, rfl⟩
abbrev main_c_14 : Ref sig .tc := ⟨.hbm, 146, rfl⟩
abbrev main_call4_cst : Ref sig .tc := ⟨.hbm, 147, rfl⟩
abbrev main_call4_v0 : Ref sig .tc := ⟨.hbm, 148, rfl⟩
abbrev main_call4_v1 : Ref sig .tc := ⟨.hbm, 149, rfl⟩
abbrev main_call4_cst_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_v6 : Ref sig .tc := ⟨.hbm, 155, rfl⟩
abbrev main_call4_v7 : Ref sig .tc := ⟨.hbm, 156, rfl⟩
abbrev main_call4_cst_1 : Ref sig .tc := ⟨.hbm, 157, rfl⟩
abbrev main_call4_v8 : Ref sig .tc := ⟨.hbm, 158, rfl⟩
abbrev main_call4_cst_2 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_v12 : Ref sig .tc := ⟨.hbm, 163, rfl⟩
abbrev main_call4_cst_3 : Ref sig .tc := ⟨.hbm, 164, rfl⟩
abbrev main_call4_v13 : Ref sig .tc := ⟨.hbm, 165, rfl⟩
abbrev main_call4_cst_4 : Ref sig .tc := ⟨.hbm, 166, rfl⟩
abbrev main_call4_call0_v0 : Ref sig .tc := ⟨.hbm, 167, rfl⟩
abbrev main_call4_call0_v1 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_cst_15 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_c_16 : Ref sig .tc := ⟨.hbm, 184, rfl⟩
abbrev main_v91 : Ref sig .tc := ⟨.hbm, 185, rfl⟩
abbrev main_v92 : Ref sig .tc := ⟨.hbm, 186, rfl⟩
abbrev main_c_17 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_cst_18 : Ref sig .tc := ⟨.hbm, 200, rfl⟩
abbrev main_call5_v0 : Ref sig .tc := ⟨.hbm, 201, rfl⟩
abbrev main_call5_v1 : Ref sig .tc := ⟨.hbm, 202, rfl⟩
abbrev main_call5_v2 : Ref sig .tc := ⟨.hbm, 203, rfl⟩
abbrev main_v105 : Ref sig .tc := ⟨.hbm, 204, rfl⟩
abbrev main_cst_19 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_call6_cst : Ref sig .tc := ⟨.hbm, 212, rfl⟩
abbrev main_call6_v0 : Ref sig .tc := ⟨.hbm, 213, rfl⟩
abbrev main_v112 : Ref sig .tc := ⟨.hbm, 214, rfl⟩
abbrev main_cst_20 : Ref sig .tc := ⟨.hbm, 215, rfl⟩
abbrev main_v113 : Ref sig .tc := ⟨.hbm, 216, rfl⟩
abbrev main_v114 : Ref sig .tc := ⟨.hbm, 217, rfl⟩
abbrev main_cst_21 : Ref sig .tc := ⟨.hbm, 218, rfl⟩
abbrev main_v115 : Ref sig .tc := ⟨.hbm, 219, rfl⟩
abbrev main_v116 : Ref sig .tc := ⟨.hbm, 220, rfl⟩
abbrev main_c_22 : Ref sig .tc := ⟨.hbm, 221, rfl⟩
abbrev main_call7_cst : Ref sig .tc := ⟨.hbm, 222, rfl⟩
abbrev main_call7_v0 : Ref sig .tc := ⟨.hbm, 223, rfl⟩
abbrev main_call7_v1 : Ref sig .tc := ⟨.hbm, 224, rfl⟩
abbrev main_call7_cst_0 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_call7_v5 : Ref sig .tc := ⟨.hbm, 229, rfl⟩
abbrev main_call7_v6 : Ref sig .tc := ⟨.hbm, 230, rfl⟩
abbrev main_call7_v7 : Ref sig .tc := ⟨.hbm, 231, rfl⟩
abbrev main_call7_cst_1 : Ref sig .tc := ⟨.hbm, 232, rfl⟩
abbrev main_call7_v8 : Ref sig .tc := ⟨.hbm, 233, rfl⟩
abbrev main_call7_cst_2 : Ref sig .tc := ⟨.hbm, 234, rfl⟩
abbrev main_call7_v9 : Ref sig .tc := ⟨.hbm, 235, rfl⟩
abbrev main_call7_v10 : Ref sig .tc := ⟨.hbm, 236, rfl⟩
abbrev main_call7_v11 : Ref sig .tc := ⟨.hbm, 237, rfl⟩
abbrev main_call7_v12 : Ref sig .tc := ⟨.hbm, 238, rfl⟩
abbrev main_call7_cst_3 : Ref sig .tc := ⟨.hbm, 239, rfl⟩
abbrev main_call7_v13 : Ref sig .tc := ⟨.hbm, 240, rfl⟩
abbrev main_call7_cst_4 : Ref sig .tc := ⟨.hbm, 241, rfl⟩
abbrev main_call7_call0_v0 : Ref sig .tc := ⟨.hbm, 242, rfl⟩
abbrev main_call7_call0_v1 : Ref sig .tc := ⟨.hbm, 243, rfl⟩
abbrev main_v117 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_cst_23 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_v128 : Ref sig .tc := ⟨.hbm, 256, rfl⟩
abbrev main_v129 : Ref sig .tc := ⟨.hbm, 257, rfl⟩
abbrev main_v130 : Ref sig .tc := ⟨.hbm, 258, rfl⟩
abbrev main_cst_24 : Ref sig .tc := ⟨.hbm, 259, rfl⟩
abbrev main_v131 : Ref sig .tc := ⟨.hbm, 260, rfl⟩
abbrev main_v132 : Ref sig .tc := ⟨.hbm, 261, rfl⟩
abbrev main_v133 : Ref sig .tc := ⟨.hbm, 262, rfl⟩
abbrev main_v134 : Ref sig .tc := ⟨.hbm, 263, rfl⟩
abbrev main_v135 : Ref sig .tc := ⟨.hbm, 264, rfl⟩
abbrev main_v136 : Ref sig .tc := ⟨.hbm, 265, rfl⟩
abbrev main_v137 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_cst_25 : Ref sig .tc := ⟨.hbm, 270, rfl⟩
abbrev main_call8_v0 : Ref sig .tc := ⟨.hbm, 271, rfl⟩
abbrev main_call8_v1 : Ref sig .tc := ⟨.hbm, 272, rfl⟩
abbrev main_call8_v2 : Ref sig .tc := ⟨.hbm, 273, rfl⟩
abbrev main_call8_v3 : Ref sig .tc := ⟨.hbm, 274, rfl⟩
abbrev main_v141 : Ref sig .tc := ⟨.hbm, 275, rfl⟩
abbrev main_cst_26 : Ref sig .tc := ⟨.hbm, 276, rfl⟩
abbrev main_v142 : Ref sig .tc := ⟨.hbm, 277, rfl⟩
abbrev main_cst_27 : Ref sig .tc := ⟨.hbm, 278, rfl⟩
abbrev main_v143 : Ref sig .tc := ⟨.hbm, 279, rfl⟩
abbrev main_v144 : Ref sig .tc := ⟨.hbm, 280, rfl⟩
abbrev main_v145 : Ref sig .tc := ⟨.hbm, 281, rfl⟩
abbrev main_v146 : Ref sig .tc := ⟨.hbm, 282, rfl⟩
abbrev main_v147 : Ref sig .tc := ⟨.hbm, 283, rfl⟩
abbrev main_v148 : Ref sig .tc := ⟨.hbm, 284, rfl⟩
abbrev main_v149 : Ref sig .tc := ⟨.hbm, 285, rfl⟩
abbrev main_v150 : Ref sig .tc := ⟨.hbm, 286, rfl⟩
abbrev main_v151 : Ref sig .tc := ⟨.hbm, 287, rfl⟩
abbrev main_v152 : Ref sig .tc := ⟨.hbm, 288, rfl⟩
abbrev main_v153 : Ref sig .tc := ⟨.hbm, 289, rfl⟩
abbrev main_v154 : Ref sig .tc := ⟨.hbm, 290, rfl⟩
abbrev main_v155 : Ref sig .tc := ⟨.hbm, 291, rfl⟩

abbrev nD : Nat := 1
abbrev τ : Topo := Topo.v7x

variable {F : FTy → Type} [FloatOps F]
-- ==== Proof.PreFacts.lean ====
/-
  What the first precondition says of the arrays: every edge word names a node, every membership word names a graph.
-/
module
public import proofs.«01_k».proof.Pre_indices_in_range
public import Idealize.ShloMosaic.Lib.ReduceAll
public import Idealize.ShloMosaic.Lib.WordCmp
public import Idealize.ShloMosaic.Lib.ValueIdxCore
public import Idealize.ShloMosaic.Lib.Decide
@[expose] public section
set_option maxRecDepth 16384
noncomputable section
namespace Cert.PreFacts
open Idealize.ShloMosaic Idealize.ShloMosaic.ValueIdx

instance rangeFacts : Cert.Pre_indices_in_range.Facts where
  bcast_S_S2x320000 := by decide
  bcast_S_S10000 := by decide
  reducesTo_S2x320000_S_d0_1 := by decide
  h_S_ := by decide
  reducesTo_S10000_S_d0 := by decide

instance : Subsingleton (⟨0, ![]⟩ : Shape).Idx := ⟨fun a b => funext fun d => d.elim0⟩

/-- An `and` of two one-bit words is 1 only when both are. -/
theorem and_one {a b : BitVec 1} (h : IntOp.andi a b = 1#1) : a = 1#1 ∧ b = 1#1 := by
  revert a b; decide

/-- A word at least 0 and below `k`, both signed, is below `k` as a natural. -/
theorem word_below {k : ℕ} (hk : k < 2 ^ 31) (x : BitVec 32)
    (h : IntOp.andi (IntOp.cmpi .sge x 0#32) (IntOp.cmpi .slt x (BitVec.ofNat 32 k)) = 1#1) : x.toNat < k := by
  rw [WordCmp.andi_sge_zero_slt_ofNat (w := 32) hk] at h
  by_contra hn
  rw [decide_eq_false hn] at h
  exact absurd h (by decide)

section
variable {F : FTy → Type} [FloatOps F]
variable {a0 : FVec F ⟨2, ![10000, 128]⟩ .f32} {a1 : IVec ⟨2, ![2, 320000]⟩ 32} {a2 : IVec ⟨1, ![10000]⟩ 32}
  {a3 a4 : FVec F ⟨2, ![100, 1]⟩ .f32} {a5 a6 : FVec F ⟨2, ![128, 128]⟩ .f32} {a7 a8 a9 : FVec F ⟨1, ![128]⟩ .f32}
  {a10 a11 : FVec F ⟨2, ![128, 1]⟩ .f32} {a12 a13 a14 : FVec F ⟨1, ![1]⟩ .f32} {a15 : FVec F ⟨2, ![1, 3]⟩ .f32}
  {a16 a17 a18 : FVec F ⟨1, ![3]⟩ .f32} {a19 : FVec F ⟨2, ![6, 1]⟩ .f32} {a20 : FVec F ⟨1, ![1]⟩ .f32}
  {a21 : FVec F ⟨2, ![3, 1]⟩ .f32} {a22 : FVec F ⟨1, ![1]⟩ .f32}

/-- The first precondition: the edge words are below 10000, the membership words below 100. -/
theorem range (h : Cert.Pre_indices_in_range.fn a0 a1 a2 a3 a4 a5 a6 a7 a8 a9 a10 a11 a12 a13 a14 a15 a16 a17 a18 a19 a20 a21 a22
      = fun _ => 1#1) : (∀ y, (a1 y).toNat < 10000) ∧ ∀ y, (a2 y).toNat < 100 := by
  have h0 := congrFun h ix0
  obtain ⟨h1, h2⟩ := and_one h0
  exact ⟨fun y => word_below (by decide) _ (Host.reduce_andi_all _ _ _ _ _ h1 y),
    fun y => word_below (by decide) _ (Host.reduce_andi_all _ _ _ _ _ h2 y)⟩

end

end Cert.PreFacts
end
-- ==== Proof.Edges.lean ====
/-
  Rows scattered along a list of edges. A matrix `A` of rows is updated once per edge: the row the edge points to is
  combined (by `op`: an addition or a maximum) with the row of `X` the edge comes from. `rowStep` is one edge, `rowFold`
  a list of edges in order; the `read_…` lemmas say that the load-combine-store of one row through memrefs is `rowStep`.
-/
module

public import Idealize.ShloMosaic.Lib.VecWindow
public import Idealize.ShloMosaic.Lib.WritesUnit
public import Idealize.ShloMosaic.Lib.ValueIdxCore

@[expose] public section

namespace Cert.Edges

open Idealize.ShloMosaic
open Idealize.ShloMosaic.ValueIdx (ix1 ix2)

variable {α : Type} {N R C : ℕ} [NeZero N]

/-- Row `d` of `A` combined with row `s` of `X`; every other row as it was. -/
def rowStep (op : α → α → α) (X : (⟨2, ![N, C]⟩ : Shape).Idx → α) (A : (⟨2, ![R, C]⟩ : Shape).Idx → α) (s d : ℕ) :
    (⟨2, ![R, C]⟩ : Shape).Idx → α :=
  fun y => if (y 0).val = d then op (A y) (X (ix2 (Fin.ofNat N s) (y 1))) else A y

/-- The first `n` edges in order, edge `j` going from row `src j` of `X` to row `dst j`. -/
def rowFold (op : α → α → α) (X : (⟨2, ![N, C]⟩ : Shape).Idx → α) (src dst : ℕ → ℕ) (A : (⟨2, ![R, C]⟩ : Shape).Idx → α) :
    ℕ → (⟨2, ![R, C]⟩ : Shape).Idx → α
  | 0 => A
  | n + 1 => rowStep op X (rowFold op X src dst A n) (src n) (dst n)

/-- The fold over `a + n` edges is the fold over the last `n` of them from the fold over the first `a`. -/
theorem rowFold_add (op : α → α → α) (X : (⟨2, ![N, C]⟩ : Shape).Idx → α) (src dst : ℕ → ℕ)
    (A : (⟨2, ![R, C]⟩ : Shape).Idx → α) (a n : ℕ) :
    rowFold op X src dst A (a + n)
      = rowFold op X (fun j => src (a + j)) (fun j => dst (a + j)) (rowFold op X src dst A a) n := by
  induction n with
  | zero => rfl
  | succ n ih => rw [← Nat.add_assoc]; simp only [rowFold]; rw [ih]

/-- The fold depends on the first `n` edges only. -/
theorem rowFold_congr (op : α → α → α) (X : (⟨2, ![N, C]⟩ : Shape).Idx → α) {src src' dst dst' : ℕ → ℕ}
    (A : (⟨2, ![R, C]⟩ : Shape).Idx → α) (n : ℕ) (hs : ∀ j < n, src j = src' j) (hd : ∀ j < n, dst j = dst' j) :
    rowFold op X src dst A n = rowFold op X src' dst' A n := by
  induction n with
  | zero => rfl
  | succ n ih =>
    simp only [rowFold]
    rw [ih (fun j h => hs j (by omega)) (fun j h => hd j (by omega)), hs n (by omega), hd n (by omega)]

/-- Read pointwise, the fold is the fold of `op` over the edges that point to the row. -/
theorem rowFold_apply (op : α → α → α) (X : (⟨2, ![N, C]⟩ : Shape).Idx → α) (src dst : ℕ → ℕ)
    (A : (⟨2, ![R, C]⟩ : Shape).Idx → α) (y : (⟨2, ![R, C]⟩ : Shape).Idx) (n : ℕ) :
    rowFold op X src dst A (n + 1) y
      = if (y 0).val = dst n then op (rowFold op X src dst A n y) (X (ix2 (Fin.ofNat N (src n)) (y 1)))
        else rowFold op X src dst A n y := rfl

section Views

variable {sig : RefSig} {κ : Kind} {sp sp' : Space} {e : EltTy} {Val : EltTy → Type}

/-- The store of one row's combination, read: the row `d` loaded from the same memref, the row `s` loaded from another,
    combined, and stored back to row `d`, is `rowStep` of the two memrefs' readings. -/
theorem read_rowStep (op : Val e → Val e → Val e)
    (pay : ((⟨2, ![1, C]⟩ : Shape).Idx → Val e) → ((⟨2, ![1, C]⟩ : Shape).Idx → Val e) → (⟨2, ![1, C]⟩ : Shape).Idx → Val e)
    (hpay : ∀ a b z, pay a b z = op (a z) (b z)) (v : View sig κ sp (⟨2, ![R, C]⟩ : Shape) e)
    (u : View sig κ sp' (⟨2, ![N, C]⟩ : Shape) e) (f : v.ty.Contents Val) (g : u.ty.Contents Val)
    (L : List (View.Piece Val (⟨2, ![R, C]⟩ : Shape) e)) (s d : BitVec 32)
    (inb1 : ∀ a, (![d.toNat, 0] : Fin 2 → ℕ) a + (⟨2, ![1, C]⟩ : Shape).size a ≤ (⟨2, ![R, C]⟩ : Shape).size a)
    (inb2 : ∀ a, (![s.toNat, 0] : Fin 2 → ℕ) a + (⟨2, ![1, C]⟩ : Shape).size a ≤ (⟨2, ![N, C]⟩ : Shape).size a)
    (inb3 : ∀ a, (![d.toNat, 0] : Fin 2 → ℕ) a + (⟨2, ![1, C]⟩ : Shape).size a ≤ (⟨2, ![R, C]⟩ : Shape).size a) :
    v.read Val (v.writes Val f (⟨Rect.unit (s := ⟨2, ![R, C]⟩) ![d.toNat, 0] (⟨2, ![1, C]⟩ : Shape).size inb3,
        pay (v.readAt Val (Rect.unit (s := ⟨2, ![R, C]⟩) ![d.toNat, 0] (⟨2, ![1, C]⟩ : Shape).size inb1).toLoadRect (v.writes Val f L))
          (u.readAt Val (Rect.unit (s := ⟨2, ![N, C]⟩) ![s.toNat, 0] (⟨2, ![1, C]⟩ : Shape).size inb2).toLoadRect g)⟩ :: L))
      = rowStep op (u.read Val g) (v.read Val (v.writes Val f L)) s.toNat d.toNat := by
  funext y
  have hs : s.toNat < N := by have := inb2 0; simp at this; omega
  unfold rowStep
  split
  · rename_i hy
    rw [View.read_writes_cons_rows_of_mem (o := d.toNat) v f inb3 _ L y (ix2 (n0 := 1) 0 (y 1)) rfl (by rw [hy]; rfl) rfl, hpay]
    refine congrArg₂ op (congrArg (v.read Val (v.writes Val f L)) ?_) (congrArg (u.read Val g) ?_)
    · funext a; apply Fin.ext
      match a with
      | ⟨0, _⟩ => exact hy.symm
      | ⟨1, _⟩ => show 0 + 1 * (y 1).val = (y 1).val; omega
    · funext a; apply Fin.ext
      match a with
      | ⟨0, _⟩ => show s.toNat + 1 * 0 = s.toNat % N; rw [Nat.mod_eq_of_lt hs]; rfl
      | ⟨1, _⟩ => show 0 + 1 * (y 1).val = (y 1).val; omega
  · rename_i hy
    refine View.read_writes_cons_unit_of_not_mem v f inb3 _ L y rfl 0 ?_
    show (y 0).val < d.toNat ∨ d.toNat + 1 ≤ (y 0).val
    omega

/-- Equal matrices, sources and destinations give equal steps. -/
theorem rowStep_congr {op : α → α → α} {X : (⟨2, ![N, C]⟩ : Shape).Idx → α} {A A' : (⟨2, ![R, C]⟩ : Shape).Idx → α}
    {s s' d d' : ℕ} (hs : s = s') (hd : d = d') (hA : A = A') : rowStep op X A s d = rowStep op X A' s' d' := by
  rw [hs, hd, hA]

/-- Row `r` of a matrix of words, as numbers. -/
def words {R C : ℕ} [NeZero C] (W : (⟨2, ![R, C]⟩ : Shape).Idx → BitVec 32) (r : Fin R) (j : ℕ) : ℕ :=
  (W (ix2 r (Fin.ofNat C j))).toNat

/-- One word loaded from a matrix of words. -/
theorem readAt_word [NeZero C] (v : View sig κ sp (⟨2, ![R, C]⟩ : Shape) e) (g : v.ty.Contents Val)
    (toW : Val e → BitVec 32) {off : Fin 2 → ℕ}
    (inb : ∀ a, off a + (⟨2, ![1, 1]⟩ : Shape).size a ≤ (⟨2, ![R, C]⟩ : Shape).size a)
    (z : (⟨2, ![1, 1]⟩ : Shape).Idx) {r : Fin R} {j : ℕ} (h : off = ![r.val, j]) :
    (toW (v.readAt Val (Rect.unit (s := ⟨2, ![R, C]⟩) off (⟨2, ![1, 1]⟩ : Shape).size inb).toLoadRect g z)).toNat
      = words (fun y => toW (v.read Val g y)) r j := by
  subst h
  refine congrArg (fun y => (toW (v.read Val g y)).toNat) (funext fun a => Fin.ext ?_)
  have h0 : (z 0).val = 0 := by have := (z 0).isLt; simpa using this
  have h1 : (z 1).val = 0 := by have := (z 1).isLt; simpa using this
  have hj : j < C := by have := inb 1; simp at this; omega
  match a with
  | ⟨0, _⟩ => show r.val + 1 * (z 0).val = r.val; omega
  | ⟨1, _⟩ => show j + 1 * (z 1).val = j % C; rw [Nat.mod_eq_of_lt hj]; omega

/-- A list of words, as numbers. -/
def words1 {C : ℕ} [NeZero C] (W : (⟨1, ![C]⟩ : Shape).Idx → BitVec 32) (j : ℕ) : ℕ :=
  (W (ix1 (Fin.ofNat C j))).toNat

/-- One word loaded from a list of words. -/
theorem readAt_word1 [NeZero C] (v : View sig κ sp (⟨1, ![C]⟩ : Shape) e) (g : v.ty.Contents Val)
    (toW : Val e → BitVec 32) {off : Fin 1 → ℕ}
    (inb : ∀ a, off a + (⟨1, ![1]⟩ : Shape).size a ≤ (⟨1, ![C]⟩ : Shape).size a)
    (z : (⟨1, ![1]⟩ : Shape).Idx) {j : ℕ} (h : off = ![j]) :
    (toW (v.readAt Val (Rect.unit (s := ⟨1, ![C]⟩) off (⟨1, ![1]⟩ : Shape).size inb).toLoadRect g z)).toNat
      = words1 (fun y => toW (v.read Val g y)) j := by
  subst h
  refine congrArg (fun y => (toW (v.read Val g y)).toNat) (funext fun a => Fin.ext ?_)
  have h0 : (z 0).val = 0 := by have := (z 0).isLt; simpa using this
  have hj : j < C := by have := inb 0; simp at this; omega
  match a with
  | ⟨0, _⟩ => show j + 1 * (z 0).val = j % C; rw [Nat.mod_eq_of_lt hj]; omega

end Views

end Cert.Edges
-- ==== Proof.ConvOneBody.lean ====
/-
  The first convolution, one grid point at a time: its loop adds the rows of the chunk's 16000 edges, four per trip, into
  the scratch accumulator; its first point also fills the two scratch buffers, its last point also stores the result.
-/
module

public import proofs.«01_k».proof.Proof.Gen.KernelIdeal.Loops
public import proofs.«01_k».proof.Proof.Edges
public import Idealize.ShloMosaic.Lib.Pipeline.Value

@[expose] public section

set_option maxRecDepth 16384
set_option maxHeartbeats 4000000

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Edges

variable {F : FTy → Type} [FloatOps F]

/-- The resource algebra of the run. -/
local notation "𝕄G" => MT nD τ sig Unit (Elt F) ℕ (UR sig nD τ) ℕ

/-- The row a trip stores is the sum of the two rows it loads. -/
theorem k0_pay6_apply (a b : Vec F S1x128 .f32) (z : S1x128.Idx) : k0_pay6 a b z = FloatOps.addf (a z) (b z) := by
  unfold k0_pay6; simp only [shapeCast_self]; rfl

/-- The row a trip stores is the sum of the two rows it loads. -/
theorem k0_pay7_apply (a b : Vec F S1x128 .f32) (z : S1x128.Idx) : k0_pay7 a b z = FloatOps.addf (a z) (b z) := by
  unfold k0_pay7; simp only [shapeCast_self]; rfl

/-- The row a trip stores is the sum of the two rows it loads. -/
theorem k0_pay3_apply (a b : Vec F S1x128 .f32) (z : S1x128.Idx) : k0_pay3 a b z = FloatOps.addf (a z) (b z) := by
  unfold k0_pay3; simp only [shapeCast_self]; rfl

/-- The row a trip stores is the sum of the two rows it loads. -/
theorem k0_pay4_apply (a b : Vec F S1x128 .f32) (z : S1x128.Idx) : k0_pay4 a b z = FloatOps.addf (a z) (b z) := by
  unfold k0_pay4; simp only [shapeCast_self]; rfl

/-- A word below the number of rows passes the kernel's range check. -/
theorem k0_chk_of (w : BitVec 32) (h : w.toNat < 10000) :
    ∀ a, (![(Scalar.indexCast w).toNat, 0] : Fin 2 → ℕ) a + S1x128.size a ≤ S10000x128.size a := by
  intro a; fin_cases a <;> simp [Scalar.indexCast] <;> omega

/-- The buffers of the loop: the edges at `W`, the rows read at `X`, the accumulator at `g`. -/
abbrev bufs0 (c : Dev nD) (arg7 : Memref sig .tc .smem S2x16000 .i32) (arg9 arg10 : Memref sig .tc .vmem S10000x128 .f32)
    (W : arg7.view.ty.Contents (Elt F)) (X : arg9.view.ty.Contents (Elt F)) (g : arg10.view.ty.Contents (Elt F)) : sProp 𝕄G :=
  iprop((arg7.view.loc (c : Thread nD τ) ↦[arg7.view.set]{fullShare} W) ∗ (arg9.view.loc (c : Thread nD τ) ↦[arg9.view.set]{fullShare} X)
    ∗ (arg10.view.loc (c : Thread nD τ) ↦[arg10.view.set]{fullShare} g))

/-- One trip: four more edges of the chunk folded in. -/
theorem trip0 (𝒱 : Variants) (c : Dev nD) (bd : Option 𝒱.V) (E : Set ℕ) (i : grid0.Coords)
    (arg1 : Memref sig .tc .vmem S10000x128 .f32) (harg1 : arg1.IsWhole)
    (arg2 : Memref sig .tc .vmem S128x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .smem S2x16000 .i32) (harg7 : arg7.IsWhole)
    (arg8 : Memref sig .tc .vmem S10000x128 .f32) (harg8 : arg8.IsWhole)
    (arg9 : Memref sig .tc .vmem S10000x128 .f32) (harg9 : arg9.IsWhole)
    (arg10 : Memref sig .tc .vmem S10000x128 .f32) (harg10 : arg10.IsWhole)
    (W : arg7.view.ty.Contents (Elt F)) (X : arg9.view.ty.Contents (Elt F)) (g G : arg10.view.ty.Contents (Elt F))
    (hw : ∀ y, (arg7.view.read (Elt F) W y : BitVec 32).toNat < 10000) (k : Fin k0_t1_loop.trips)
    (hA : (arg10.view.read (Elt F) g) = rowFold FloatOps.addf (arg9.view.read (Elt F) X) (words (arg7.view.read (Elt F) W) 0) (words (arg7.view.read (Elt F) W) 1) (arg10.view.read (Elt F) G) (4 * k.val)) :
    bufs0 (F := F) c arg7 arg9 arg10 W X g
    ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 k PUnit.unit)
        (fun _ => iprop(∃ g', bufs0 (F := F) c arg7 arg9 arg10 W X g'
          ∗ ⌜(arg10.view.read (Elt F) g') = rowFold FloatOps.addf (arg9.view.read (Elt F) X) (words (arg7.view.read (Elt F) W) 0) (words (arg7.view.read (Elt F) W) 1) (arg10.view.read (Elt F) G) (4 * (k.val + 1))⌝)) := by
  have hk : k.val < 4000 := Nat.lt_of_lt_of_le k.isLt k0_t1_abs.2.1
  have hc : ∀ (r : LoadRect S2x16000) (z), (arg7.view.readAt (Elt F) r W z : BitVec 32).toNat < 10000 := fun r z => hw _
  unfold k0_t1_body
  iintro ⟨H7, H9, H10⟩
  sl_exec (disch := first | exact k0_chk_of _ (hc _ _) | exact ⟨k0_chk_of _ (hc _ _), k0_chk_of _ (hc _ _)⟩)
  sl_step
  iexists _
  isplitl
  · isplitl [H7]; · iexact H7
    isplitl [H9]; · iexact H9
    iexact H10
  ipureintro
  have wd : ∀ {off : Fin 2 → ℕ} (inb : ∀ a, off a + S1x1.size a ≤ S2x16000.size a) (z : S1x1.Idx) {r : Fin 2} {j : ℕ}
      (h : off = ![r.val, j]), (arg7.view.readAt (Elt F) (Rect.unit (s := S2x16000) off S1x1.size inb).toLoadRect W z : BitVec 32).toNat
        = words (arg7.view.read (Elt F) W) r j := fun inb z _ _ h => readAt_word arg7.view W (fun w => w) inb z h
  refine Eq.trans (read_rowStep FloatOps.addf k0_pay4 k0_pay4_apply arg10.view arg9.view g X _ _ _ _ _ _) ?_
  refine rowStep_congr (wd _ _ (k0_off16_eq k)) (wd _ _ (k0_off17_eq k)) ?_
  refine Eq.trans (read_rowStep FloatOps.addf k0_pay3 k0_pay3_apply arg10.view arg9.view g X _ _ _ _ _ _) ?_
  refine rowStep_congr (wd _ _ (k0_off11_eq k)) (wd _ _ (k0_off12_eq k)) ?_
  refine Eq.trans (read_rowStep FloatOps.addf k0_pay7 k0_pay7_apply arg10.view arg9.view g X _ _ _ _ _ _) ?_
  refine rowStep_congr (wd _ _ (k0_off6_eq k)) (wd _ _ (k0_off7_eq k)) ?_
  refine Eq.trans (read_rowStep FloatOps.addf k0_pay6 k0_pay6_apply arg10.view arg9.view g X _ _ _ _ _ _) ?_
  refine rowStep_congr (wd _ _ (k0_off1_eq k)) (wd _ _ (k0_off2_eq k)) ?_
  exact hA

/-- Before trip `k` of a chunk: the rows of the chunk's first `4 k` edges added into what the scratch held. -/
abbrev inv0 (c : Dev nD) (arg7 : Memref sig .tc .smem S2x16000 .i32) (arg9 arg10 : Memref sig .tc .vmem S10000x128 .f32)
    (W : arg7.view.ty.Contents (Elt F)) (X : arg9.view.ty.Contents (Elt F)) (G : arg10.view.ty.Contents (Elt F)) (k : ℕ) (_ : Unit) :
    sProp 𝕄G :=
  iprop((arg7.view.loc (c : Thread nD τ) ↦[arg7.view.set]{fullShare} W) ∗ (arg9.view.loc (c : Thread nD τ) ↦[arg9.view.set]{fullShare} X)
    ∗ (∃ g, (arg10.view.loc (c : Thread nD τ) ↦[arg10.view.set]{fullShare} g)
      ∗ ⌜(arg10.view.read (Elt F) g) = rowFold FloatOps.addf (arg9.view.read (Elt F) X) (words (arg7.view.read (Elt F) W) 0) (words (arg7.view.read (Elt F) W) 1) (arg10.view.read (Elt F) G) (4 * k)⌝))

set_option warn.classDefReducibility false in
/-- The loop by its invariant. -/
@[sl_loop] def loop0 (𝒱 : Variants) (c : Dev nD) (bd : Option 𝒱.V) (E : Set ℕ) (i : grid0.Coords)
    (arg1 : Memref sig .tc .vmem S10000x128 .f32) (harg1 : arg1.IsWhole)
    (arg2 : Memref sig .tc .vmem S128x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .smem S2x16000 .i32) (harg7 : arg7.IsWhole)
    (arg8 : Memref sig .tc .vmem S10000x128 .f32) (harg8 : arg8.IsWhole)
    (arg9 : Memref sig .tc .vmem S10000x128 .f32) (harg9 : arg9.IsWhole)
    (arg10 : Memref sig .tc .vmem S10000x128 .f32) (harg10 : arg10.IsWhole)
    (W : arg7.view.ty.Contents (Elt F)) (X : arg9.view.ty.Contents (Elt F)) (G : arg10.view.ty.Contents (Elt F))
    (hw : ∀ y, (arg7.view.read (Elt F) W y : BitVec 32).toNat < 10000) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 where
  inv := inv0 (F := F) c arg7 arg9 arg10 W X G
  step k acc := by
    iintro ⟨H7, H9, ⟨%g, H10, %h⟩⟩
    iapply (wp_wand_r Idealize.ShloMosaic.frame (wpE (defs₀ (F := F)) 𝒱 (c : Thread nD τ) bd) E)
    isplitl [H7 H9 H10]
    · iapply (trip0 (F := F) 𝒱 c bd E i arg1 harg1 arg2 harg2 arg3 harg3 arg4 harg4 arg5 harg5 arg6 harg6 arg7 harg7 arg8 harg8 arg9 harg9 arg10 harg10 W X g G hw k h)
      isplitl [H7]; · iexact H7
      isplitl [H9]; · iexact H9
      iexact H10
    · iintro %_ ⟨%g', ⟨H7, H9, H10⟩, %h'⟩
      isplitl [H7]; · iexact H7
      isplitl [H9]; · iexact H9
      iexists g'
      isplitl [H10]; · iexact H10
      ipureintro; exact h'

/-- The first point's test. -/
abbrev first0 (i : grid0.Coords) : Prop :=
  Scalar.cmpi .ne (Scalar.extui (Scalar.cmpi .eq (BitVec.ofNat 32 (i 0).val) 0#32) : BitVec 32) 0#32 = 1#1

theorem trips0 : 4 * Scf.trips k0_t1_loop.lb k0_t1_loop.ub k0_t1_loop.st = 16000 := by decide +kernel

/-- What the row scratch holds once a point has passed its first test. -/
abbrev rows0 (i : grid0.Coords) (x : Vec F S10000x128 .f32) (w : Vec F S128x128 .f32) (X : Vec F S10000x128 .f32) : Vec F S10000x128 .f32 :=
  if first0 i then k0_pay1 x w else X

/-- What the accumulator holds when the loop of a point begins. -/
abbrev start0 (i : grid0.Coords) (A : Vec F S10000x128 .f32) : Vec F S10000x128 .f32 := if first0 i then k0_pay2 else A

/-- The layer's result, of the node features, the self weights, the accumulated messages, the bias, the scale and the shift. -/
abbrev out0 (x : Vec F S10000x128 .f32) (w : Vec F S128x128 .f32) (acc : Vec F S10000x128 .f32) (b g be : Vec F S1x128 .f32) :
    Vec F S10000x128 .f32 :=
  k0_pay5 (k0_pay9 g) (k0_pay10 be) (k0_pay11 x w acc b) (k0_pay12 x w acc b)

/-- One point of the kernel: the rows scratch, the chunk's edges added into the accumulator, and at the last point the
    stored result. -/
theorem body0 (𝒱 : Variants) (c : Dev nD) (bd : Option 𝒱.V) (E : Set ℕ) (i : grid0.Coords)
    (arg1 : Memref sig .tc .vmem S10000x128 .f32) (harg1 : arg1.IsWhole)
    (arg2 : Memref sig .tc .vmem S128x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .smem S2x16000 .i32) (harg7 : arg7.IsWhole)
    (arg8 : Memref sig .tc .vmem S10000x128 .f32) (harg8 : arg8.IsWhole)
    (arg9 : Memref sig .tc .vmem S10000x128 .f32) (harg9 : arg9.IsWhole)
    (arg10 : Memref sig .tc .vmem S10000x128 .f32) (harg10 : arg10.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (hw : ∀ y, (arg7.view.read (Elt F) f7 y : BitVec 32).toNat < 10000) :
    (iprop((arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)) : sProp 𝕄G)
    ⊢ wp frame (wpE (defs₀ (F := F)) 𝒱 (c : Thread nD τ) bd) E (cc0__conv1_kernel (F := F) i arg1 harg1 arg2 harg2 arg3 harg3 arg4 harg4 arg5 harg5 arg6 harg6 arg7 harg7 arg8 harg8 arg9 harg9 arg10 harg10)
        (fun _ => iprop(∃ g8 g9 g10, (arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} g8)
      ∗ (arg9.view.loc (c : Thread nD τ) ↦[arg9.view.set]{fullShare} g9)
      ∗ (arg10.view.loc (c : Thread nD τ) ↦[arg10.view.set]{fullShare} g10)
      ∗ ⌜(arg9.view.read (Elt F) g9) = rows0 i (arg1.view.read (Elt F) f1) (arg2.view.read (Elt F) f2) (arg9.view.read (Elt F) f9)
        ∧ (arg10.view.read (Elt F) g10) = rowFold FloatOps.addf (arg9.view.read (Elt F) g9) (words (arg7.view.read (Elt F) f7) 0) (words (arg7.view.read (Elt F) f7) 1) (start0 i (arg10.view.read (Elt F) f10)) 16000
        ∧ (arg8.view.read (Elt F) g8) = (if k0_cond2 i = 1#1 then out0 (arg1.view.read (Elt F) f1) (arg3.view.read (Elt F) f3) (arg10.view.read (Elt F) g10) (arg4.view.read (Elt F) f4) (arg5.view.read (Elt F) f5) (arg6.view.read (Elt F) f6) else (arg8.view.read (Elt F) f8))⌝)) := by
  simp only [cc0__conv1_kernel_eq_skeleton]
  unfold cc0__conv1_kernel_skel
  by_cases hc1 : first0 i <;> by_cases hc2 : k0_cond2 i = 1#1
  all_goals
    iintro ⟨H1, H2, H3, H4, H5, H6, H7, H8, H9, H10⟩
    sl_exec (disch := first | sl_exact hc1 | sl_exact hc2)
    sl_step
    iexists _
    iexists _
    iexists _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    ipureintro
    refine ⟨?_, ?_, ?_⟩
    · first
        | rw [rows0, if_neg hc1]
        | (rw [rows0, if_pos hc1]
           sl_unfold_words
           refine (View.read_writes_full _ _ _ _ _).trans ?_
           rw [View.readAt_full, View.readAt_full])
    · rw [hL3, trips0]
      first
        | rw [start0, if_neg hc1]
        | (rw [start0, if_pos hc1]; exact congrArg (fun A => rowFold FloatOps.addf _ _ _ A 16000) (View.read_writes_full _ _ _ _ _))
    · first
        | rw [if_neg hc2]
        | (rw [if_pos hc2]
           sl_unfold_words
           refine (View.read_writes_full _ _ _ _ _).trans ?_
           repeat rw [View.readAt_full])

end Cert.KernelIdeal.Val
-- ==== Proof.RegionKit.lean ====
/-
  What the five calls' regions share: how an output window that is written only at the last grid point is handed back at every
  point, and what a region with one output array leaves of the whole memory.
-/
module
public import proofs.«01_k».proof.Proof.Gen.KernelIdeal.Regions
public import Idealize.ShloMosaic.Lib.Pipeline.RegionArraysS
public import Idealize.ShloMosaic.Lib.Tactic
@[expose] public section
set_option maxRecDepth 16384
noncomputable section
namespace Cert.RegionKit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig} {Val : EltTy → Type} {Ix Name Lvl U : Type} [DecidableEq Ix] [DecidableEq Name] [URA U]
variable {Λ₀ : Labels} {cfg : Cfg sig Λ₀} {c : Dev nD}

/-- An output window's buffer, which the body rewrites exactly at the points where `b` holds, handed back as the pipeline asks. -/
theorem leave_out (dat : Dat τ Val Ix Name U Lvl cfg c) (w : Fin cfg.W) (t : Fin cfg.N) (b : Prop) [Decidable b]
    (hidle : cfg.idle w (cfg.grid.coords t) = false ↔ b) (hfl : (cfg.win w).flush t = true → b) :
    (iprop(∃ d, owns c ((cfg.win w).stage (cfg.slots t w)) fullShare (if b then dat.after w t else dat.before w t d)) : sProp (MT nD τ sig Ix Val Name U Lvl))
      ⊢ match cfg.idle w (cfg.grid.coords t) with
          | true =>
            match (cfg.win w).flush t with
            | false => iprop(∃ d, owns c ((cfg.win w).stage (cfg.slots t w)) fullShare (dat.before w t d))
            | true => owns c ((cfg.win w).stage (cfg.slots t w)) fullShare (dat.after w t)
          | false => owns c ((cfg.win w).stage (cfg.slots t w)) fullShare (dat.after w t) := by
  by_cases h : b
  · rw [hidle.mpr h]
    simp only [if_pos h]
    iintro ⟨%d, H⟩
    iexact H
  · have h1 : cfg.idle w (cfg.grid.coords t) = true := by
      rw [← Bool.not_eq_false]; exact fun e => h (hidle.mp e)
    have h2 : (cfg.win w).flush t = false := by
      rw [← Bool.not_eq_true]; exact fun e => h (hfl e)
    rw [h1, h2]
    simp only [if_neg h]
    iintro H
    iexact H

/-- A region whose only output window is `w₀` leaves memory as it was but for that window's array. -/
theorem afterRegion_update (dat : Dat τ Val Ix Name U Lvl cfg c) (V : Valuation τ sig Val) (hinj : Function.Injective (arrRef cfg.spec))
    (hA : ∀ w, dat.A w = V (Proc.devRef .tc (arrRef cfg.spec w))) (w₀ : Fin cfg.W) (hout : ∀ w, w ≠ w₀ → (cfg.win w).isOut = false) :
    afterRegion dat V = Function.update V (Proc.devRef .tc (arrRef cfg.spec w₀)) (dat.arrAt w₀ cfg.N) := by
  funext b
  by_cases hb : b = Proc.devRef .tc (arrRef cfg.spec w₀)
  · subst hb
    rw [Function.update_self]
    exact afterRegion_arr dat V hinj w₀
  · rw [Function.update_of_ne hb]
    by_cases hw : ∃ w : Fin cfg.W, b = Proc.devRef .tc (arrRef cfg.spec w)
    · obtain ⟨w, rfl⟩ := hw
      have hne : w ≠ w₀ := fun e => hb (by rw [e])
      exact (afterRegion_arr dat V hinj w).trans ((dat.arrAt_in w (hout w hne) _).trans (hA w))
    · unfold afterRegion
      rw [dif_neg hw]

end Cert.RegionKit
-- ==== Proof.ConvOneRegion.lean ====
/-
  The first convolution call as a region of the program: what it finds in its buffers at a grid point, what it leaves there, and the array
  it writes. Everything is a function of the memory `V` the call is entered with.
-/
module
public import proofs.«01_k».proof.Proof.ConvOneBody
public import proofs.«01_k».proof.Proof.RegionKit
public import proofs.«01_k».proof.Proof.Gen.KernelIdeal.Points
public import Idealize.ShloMosaic.Lib.Pipeline.ValueKit
@[expose] public section
set_option maxRecDepth 16384
set_option maxHeartbeats 4000000
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat)
open Idealize.ShloMosaic.ValueIdx (ix2)
open Cert.Edges
variable {F : FTy → Type} [FloatOps F]
local notation "𝕄G" => MT nD τ sig Unit (Elt F) ℕ (UR sig nD τ) ℕ

theorem at0_0 : ∀ t : Fin cfg0.N, win0_0.index t = ![0, 0] := (by decide +kernel : ∀ t : Fin grid0.N, win0_0.index t = ![0, 0])
theorem at0_1 : ∀ t : Fin cfg0.N, win0_1.index t = ![0, 0] := (by decide +kernel : ∀ t : Fin grid0.N, win0_1.index t = ![0, 0])
theorem at0_2 : ∀ t : Fin cfg0.N, win0_2.index t = ![0, 0] := (by decide +kernel : ∀ t : Fin grid0.N, win0_2.index t = ![0, 0])
theorem at0_3 : ∀ t : Fin cfg0.N, win0_3.index t = ![0, 0] := (by decide +kernel : ∀ t : Fin grid0.N, win0_3.index t = ![0, 0])
theorem at0_4 : ∀ t : Fin cfg0.N, win0_4.index t = ![0, 0] := (by decide +kernel : ∀ t : Fin grid0.N, win0_4.index t = ![0, 0])
theorem at0_5 : ∀ t : Fin cfg0.N, win0_5.index t = ![0, 0] := (by decide +kernel : ∀ t : Fin grid0.N, win0_5.index t = ![0, 0])

theorem whole0_0 (V : Valuation τ sig (Elt F)) (t : Fin cfg0.N) :
    ((cfg0.win 0).blk t).view.read (Elt F) (V (Proc.devRef .tc main_arg0)) = (V (Proc.devRef .tc main_arg0)) := by
  blk_ext! [at0_0 t]

theorem whole0_1 (V : Valuation τ sig (Elt F)) (t : Fin cfg0.N) :
    ((cfg0.win 1).blk t).view.read (Elt F) (V (Proc.devRef .tc main_arg6)) = (V (Proc.devRef .tc main_arg6)) := by
  blk_ext! [at0_1 t]

theorem whole0_2 (V : Valuation τ sig (Elt F)) (t : Fin cfg0.N) :
    ((cfg0.win 2).blk t).view.read (Elt F) (V (Proc.devRef .tc main_arg5)) = (V (Proc.devRef .tc main_arg5)) := by
  blk_ext! [at0_2 t]

theorem whole0_3 (V : Valuation τ sig (Elt F)) (t : Fin cfg0.N) :
    ((cfg0.win 3).blk t).view.read (Elt F) (V (Proc.devRef .tc main_call0_v0)) = (V (Proc.devRef .tc main_call0_v0)) := by
  blk_ext! [at0_3 t]

theorem whole0_4 (V : Valuation τ sig (Elt F)) (t : Fin cfg0.N) :
    ((cfg0.win 4).blk t).view.read (Elt F) (V (Proc.devRef .tc main_call0_v1)) = (V (Proc.devRef .tc main_call0_v1)) := by
  blk_ext! [at0_4 t]

theorem whole0_5 (V : Valuation τ sig (Elt F)) (t : Fin cfg0.N) :
    ((cfg0.win 5).blk t).view.read (Elt F) (V (Proc.devRef .tc main_call0_v2)) = (V (Proc.devRef .tc main_call0_v2)) := by
  blk_ext! [at0_5 t]

theorem at0_6 : ∀ t : Fin cfg0.N, win0_6.index t = ![0, t.val] := (by decide +kernel : ∀ t : Fin grid0.N, win0_6.index t = ![0, t.val])
theorem first0_iff : ∀ t : Fin cfg0.N, first0 (grid0.coords t) ↔ t.val = 0 := (by decide +kernel : ∀ t : Fin grid0.N, first0 (grid0.coords t) ↔ t.val = 0)
theorem last0_iff : ∀ t : Fin cfg0.N, k0_cond2 (grid0.coords t) = 1#1 ↔ t.val = 19 := (by decide +kernel : ∀ t : Fin grid0.N, k0_cond2 (grid0.coords t) = 1#1 ↔ t.val = 19)
theorem idle0_7 : ∀ t : Fin cfg0.N, (cfg0.idle 7 (grid0.coords t) = false ↔ t.val = 19) := (by decide +kernel : ∀ t : Fin grid0.N, (cfg0.idle 7 (grid0.coords t) = false ↔ t.val = 19))

/-- The block of edges the call holds at grid point `t`: columns `16000 t … 16000 t + 15999` of both rows. -/
abbrev edges0 (V : Valuation τ sig (Elt F)) (t : Fin cfg0.N) : S2x16000.Idx → Elt F .i32 :=
  ((cfg0.win 6).blk t).view.read (Elt F) (V (Proc.devRef .tc main_arg1))

theorem edges0_words (V : Valuation τ sig (Elt F)) (t : Fin cfg0.N) (r : Fin 2) (j : ℕ) (hj : j < 16000) :
    words (edges0 V t) r j = words (C := 320000) (V (Proc.devRef .tc main_arg1)) r (16000 * t.val + j) := by
  have ht : t.val < 20 := lt_of_lt_of_eq t.isLt N_0
  unfold words edges0
  blk_simp
  congr 2
  blk_ext [at0_6 t]
  show t.val * 16000 + j % 16000 = (16000 * t.val + j) % 320000
  omega

/-- The rows the edges carry. -/
def rowsOf0 (V : Valuation τ sig (Elt F)) : Vec F S10000x128 .f32 := k0_pay1 (V (Proc.devRef .tc main_arg0)) (V (Proc.devRef .tc main_arg6))

/-- The running sum after the first `n` edges. -/
def acc0 (V : Valuation τ sig (Elt F)) (n : ℕ) : Vec F S10000x128 .f32 :=
  rowFold FloatOps.addf (rowsOf0 V) (words (C := 320000) (V (Proc.devRef .tc main_arg1)) 0) (words (C := 320000) (V (Proc.devRef .tc main_arg1)) 1) k0_pay2 n

/-- What the first convolution call leaves in its result. -/
def res0 (V : Valuation τ sig (Elt F)) : Vec F S10000x128 .f32 :=
  out0 (V (Proc.devRef .tc main_arg0)) (V (Proc.devRef .tc main_arg5)) (acc0 V 320000) (V (Proc.devRef .tc main_call0_v0)) (V (Proc.devRef .tc main_call0_v1)) (V (Proc.devRef .tc main_call0_v2))

/-- The call's own buffers between two grid points, and what they hold past the first. -/
def carry0 (c : Dev nD) (V : Valuation τ sig (Elt F)) (n : ℕ) : sProp 𝕄G :=
  iprop(∃ g0 : (Memref.whole cc0_scratch0).view.ty.Contents (Elt F), ∃ g1 : (Memref.whole cc0_scratch1).view.ty.Contents (Elt F),
    ((Memref.whole cc0_scratch0).view.loc (c : Thread nD τ) ↦[(Memref.whole cc0_scratch0).view.set]{fullShare} g0) ∗
    ((Memref.whole cc0_scratch1).view.loc (c : Thread nD τ) ↦[(Memref.whole cc0_scratch1).view.set]{fullShare} g1) ∗
    ⌜n ≠ 0 → (Memref.whole cc0_scratch0).view.read (Elt F) g0 = rowsOf0 V ∧ (Memref.whole cc0_scratch1).view.read (Elt F) g1 = acc0 V (16000 * n)⌝ ∗
    Pipeline.scopedRestBut (Ix := Unit) (Name := ℕ) (U := UR sig nD τ) (Lvl := ℕ) (Val := Elt F) spec0 c [cc0_scratch0, cc0_scratch1])

/-- The proof data of the call entered at the memory `V`. -/
def dat0 (c : Dev nD) (V : Valuation τ sig (Elt F)) : Dat τ (Elt F) Unit ℕ (UR sig nD τ) ℕ cfg0 c where
  A w := V (Proc.devRef .tc (Pipeline.arrRef spec0 w))
  after w t := match w with
    | ⟨0, _⟩ => V (Proc.devRef .tc main_arg0)
    | ⟨1, _⟩ => V (Proc.devRef .tc main_arg6)
    | ⟨2, _⟩ => V (Proc.devRef .tc main_arg5)
    | ⟨3, _⟩ => V (Proc.devRef .tc main_call0_v0)
    | ⟨4, _⟩ => V (Proc.devRef .tc main_call0_v1)
    | ⟨5, _⟩ => V (Proc.devRef .tc main_call0_v2)
    | ⟨6, _⟩ => edges0 V t
    | ⟨7, _⟩ => res0 V
  Φ t := carry0 c V t.val
  q _ := fullShare
  owed _ := 0

theorem found0_0 (c : Dev nD) (V : Valuation τ sig (Elt F)) (t : Fin cfg0.N) (d) : (dat0 c V).before 0 t d = (V (Proc.devRef .tc main_arg0)) :=
  ((dat0 c V).before_in_eq_fetched 0 rfl (fun _ => rfl) (fun _ _ _ => rfl) (fun t => (whole0_0 V t).symm) t d).trans (whole0_0 V t)

theorem found0_1 (c : Dev nD) (V : Valuation τ sig (Elt F)) (t : Fin cfg0.N) (d) : (dat0 c V).before 1 t d = (V (Proc.devRef .tc main_arg6)) :=
  ((dat0 c V).before_in_eq_fetched 1 rfl (fun _ => rfl) (fun _ _ _ => rfl) (fun t => (whole0_1 V t).symm) t d).trans (whole0_1 V t)

theorem found0_2 (c : Dev nD) (V : Valuation τ sig (Elt F)) (t : Fin cfg0.N) (d) : (dat0 c V).before 2 t d = (V (Proc.devRef .tc main_arg5)) :=
  ((dat0 c V).before_in_eq_fetched 2 rfl (fun _ => rfl) (fun _ _ _ => rfl) (fun t => (whole0_2 V t).symm) t d).trans (whole0_2 V t)

theorem found0_3 (c : Dev nD) (V : Valuation τ sig (Elt F)) (t : Fin cfg0.N) (d) : (dat0 c V).before 3 t d = (V (Proc.devRef .tc main_call0_v0)) :=
  ((dat0 c V).before_in_eq_fetched 3 rfl (fun _ => rfl) (fun _ _ _ => rfl) (fun t => (whole0_3 V t).symm) t d).trans (whole0_3 V t)

theorem found0_4 (c : Dev nD) (V : Valuation τ sig (Elt F)) (t : Fin cfg0.N) (d) : (dat0 c V).before 4 t d = (V (Proc.devRef .tc main_call0_v1)) :=
  ((dat0 c V).before_in_eq_fetched 4 rfl (fun _ => rfl) (fun _ _ _ => rfl) (fun t => (whole0_4 V t).symm) t d).trans (whole0_4 V t)

theorem found0_5 (c : Dev nD) (V : Valuation τ sig (Elt F)) (t : Fin cfg0.N) (d) : (dat0 c V).before 5 t d = (V (Proc.devRef .tc main_call0_v2)) :=
  ((dat0 c V).before_in_eq_fetched 5 rfl (fun _ => rfl) (fun _ _ _ => rfl) (fun t => (whole0_5 V t).symm) t d).trans (whole0_5 V t)

theorem found0_6 (c : Dev nD) (V : Valuation τ sig (Elt F)) (t : Fin cfg0.N) (d) : (dat0 c V).before 6 t d = edges0 V t :=
  (dat0 c V).before_in_eq_fetched 6 rfl (fun _ => rfl) (fun _ _ _ => rfl) (fun _ => rfl) t d

theorem acc0_step (V : Valuation τ sig (Elt F)) (t : Fin cfg0.N) (A : Vec F S10000x128 .f32) (hA : t.val ≠ 0 → A = acc0 V (16000 * t.val)) :
    rowFold FloatOps.addf (rowsOf0 V) (words (edges0 V t) 0) (words (edges0 V t) 1) (start0 (grid0.coords t) A) 16000
      = acc0 V (16000 * (t.val + 1)) := by
  have h0 : start0 (grid0.coords t) A = acc0 V (16000 * t.val) := by
    by_cases h : t.val = 0
    · rw [start0, if_pos ((first0_iff t).mpr h), h]; rfl
    · rw [start0, if_neg (fun h' => h ((first0_iff t).mp h')), hA h]
  rw [h0, show 16000 * (t.val + 1) = 16000 * t.val + 16000 from by ring]
  unfold acc0
  rw [rowFold_add]
  exact rowFold_congr _ _ _ _ (fun j hj => edges0_words V t 0 j hj) (fun j hj => edges0_words V t 1 j hj)

theorem rows0_step (V : Valuation τ sig (Elt F)) (t : Fin cfg0.N) (X : Vec F S10000x128 .f32) (hX : t.val ≠ 0 → X = rowsOf0 V) :
    rows0 (grid0.coords t) (V (Proc.devRef .tc main_arg0)) (V (Proc.devRef .tc main_arg6)) X = rowsOf0 V := by
  by_cases h : t.val = 0
  · rw [rows0, if_pos ((first0_iff t).mpr h)]; rfl
  · rw [rows0, if_neg (fun h' => h ((first0_iff t).mp h')), hX h]

/-- The body at every grid point. -/
theorem bodyOk0 (c : Dev nD) (V : Valuation τ sig (Elt F)) (hV : ∀ y, (V (Proc.devRef .tc main_arg1) y : BitVec 32).toNat < 10000) :
    Pipeline.BodyObligation (dat0 c V) defs₀ Variants.none () Set.univ := by
  intro t
  rw [bigSep_W0, bigSep_W0]
  have hN : t.val < 20 := lt_of_lt_of_eq t.isLt N_0
  have hw : ∀ y, (edges0 V t y : BitVec 32).toNat < 10000 := fun y => by unfold edges0; blk_simp; exact hV _
  show _ ⊢ wp frame (wpE (defs₀ (F := F)) Variants.none (c : Thread nD τ) none) Set.univ (bodyAt0 t) _
  simp only [found0_0, found0_1, found0_2, found0_3, found0_4, found0_5, found0_6]
  refine BIBase.Entails.trans (Q := (wp frame (wpE (defs₀ (F := F)) Variants.none (c : Thread nD τ) none) Set.univ (bodyAt0 t) fun _ =>
      iprop(carry0 c V (t.val + 1) ∗ (dat0 c V).owesAt () t.succ
        ∗ owns (c : Thread nD τ) (st0_0 t) fullShare (V (Proc.devRef .tc main_arg0))
        ∗ owns (c : Thread nD τ) (st0_1 t) fullShare (V (Proc.devRef .tc main_arg6))
        ∗ owns (c : Thread nD τ) (st0_2 t) fullShare (V (Proc.devRef .tc main_arg5))
        ∗ owns (c : Thread nD τ) (st0_3 t) fullShare (V (Proc.devRef .tc main_call0_v0))
        ∗ owns (c : Thread nD τ) (st0_4 t) fullShare (V (Proc.devRef .tc main_call0_v1))
        ∗ owns (c : Thread nD τ) (st0_5 t) fullShare (V (Proc.devRef .tc main_call0_v2))
        ∗ owns (c : Thread nD τ) (st0_6 t) fullShare (edges0 V t)
        ∗ ∃ d, owns (c : Thread nD τ) (st0_7 t) fullShare (if t.val = 19 then (dat0 c V).after 7 t else (dat0 c V).before 7 t d)) : sProp 𝕄G)) ?_ ?_
  swap
  · refine wp_mono frame _ _ fun _ => ?_
    exact BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (Cert.RegionKit.leave_out (dat0 c V) 7 t (t.val = 19) (idle0_7 t) (fun h => by have := (flush0_7 t).mp h; omega))))))))))
  show iprop(carry0 c V t.val ∗ (dat0 c V).owesAt () t.castSucc ∗ _) ⊢ _
  unfold carry0 owns
  iintro ⟨⟨%s0, %s1, S0, S1, %hs, Hrest⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩⟩
  iapply (wp_wand_r frame _ _)
  isplitl [H0 H1 H2 H3 H4 H5 H6 H7 S0 S1]
  · iapply (body0 Variants.none c none Set.univ (grid0.coords t) _ _ _ _ _ _ _ _ _ _ _ _ _ _ _ _ _ _ _ _ f0 f1 f2 f3 f4 f5 f6 f7 s0 s1 (fun y => by rw [e6]; exact hw y)) $$ [H0 H1 H2 H3 H4 H5 H6 H7 S0 S1]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    iexact S1
  · iintro %u ⟨%go, %k0, %k1, H0, H1, H2, H3, H4, H5, H6, H7, S0, S1, %hp⟩
    rw [e0, e1, e2, e3, e4, e5, e6, rows0_step V t _ (fun h => (hs h).1)] at hp
    obtain ⟨hrows, hacc, hout⟩ := hp
    rw [hrows, acc0_step V t _ (fun h => (hs h).2)] at hacc
    isplitl [S0 S1 Hrest]
    · iexists k0, k1
      isplitl [S0]; · iexact S0
      isplitl [S1]; · iexact S1
      isplitr; · ipureintro; exact fun _ => ⟨hrows, hacc⟩
      iexact Hrest
    isplitl [HO]; · iexact HO
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    iexists d7, go
    isplitr
    · ipureintro
      rw [hout, hacc]
      by_cases h : t.val = 19
      · rw [if_pos ((last0_iff t).mpr h), if_pos h, h]; rfl
      · rw [if_neg (fun h' => h ((last0_iff t).mp h')), if_neg h]; exact e7
    · iexact H7

/-- The call's own buffers, as found. -/
theorem carry0_in (c : Dev nD) (V : Valuation τ sig (Elt F)) :
    (Pipeline.scopedRest (Ix := Unit) (Name := ℕ) (U := UR sig nD τ) (Lvl := ℕ) (Val := Elt F) spec0 c : sProp 𝕄G) ⊢ carry0 c V 0 := by
  rw [scopedRest0_split]
  unfold carry0
  simp only [Memref.view_whole, View.set_whole]
  iintro ⟨⟨⟨%g0, S0⟩, ⟨%g1, S1⟩⟩, Hr⟩
  iexists g0, g1
  isplitl [S0]; · iexact S0
  isplitl [S1]; · iexact S1
  isplitr; · ipureintro; exact fun h => absurd rfl h
  iexact Hr

/-- The call's own buffers, given back. -/
theorem carry0_out (c : Dev nD) (V : Valuation τ sig (Elt F)) (n : ℕ) :
    carry0 c V n ⊢ (Pipeline.scopedRest (Ix := Unit) (Name := ℕ) (U := UR sig nD τ) (Lvl := ℕ) (Val := Elt F) spec0 c : sProp 𝕄G) := by
  rw [scopedRest0_split]
  unfold carry0
  simp only [Memref.view_whole, View.set_whole]
  iintro ⟨%g0, %g1, S0, S1, -, Hr⟩
  isplitl [S0 S1]
  · isplitl [S0]; · iexists g0; iexact S0
    iexists g1; iexact S1
  iexact Hr

/-- The array the call writes ends at `res0`. -/
theorem final0 (c : Dev nD) (V : Valuation τ sig (Elt F)) : (dat0 c V).arrAt 7 cfg0.N = res0 V := by
  refine (dat0 c V).arrAt_eq_of_after_last 7 ⟨19, by decide +kernel⟩ (by decide +kernel) _ fun j => ?_
  blk_simp
  rfl

/-- After the call, memory differs from `V` in the result array only. -/
theorem leaves0 (c : Dev nD) (V : Valuation τ sig (Elt F)) :
    Pipeline.afterRegion (dat0 c V) V = Function.update V (Proc.devRef .tc main_call0_v3) (res0 V) := by
  refine (Cert.RegionKit.afterRegion_update (dat0 c V) V winFacts0.arr_inj (fun _ => rfl) 7 ?_).trans ?_
  · intro w hw
    fin_cases w
    all_goals first
      | rfl
      | exact absurd rfl hw
  · rw [final0]

end Cert.KernelIdeal.Val
-- ==== Proof.PoolBody.lean ====
/-
  One point of the pooling call: the chunk's edges folded into the scratch by rowwise maxima, and at the last point the result stored.
-/
module
public import proofs.«01_k».proof.Proof.Gen.KernelIdeal.Loops
public import proofs.«01_k».proof.Proof.Edges
public import Idealize.ShloMosaic.Lib.Pipeline.Value
@[expose] public section
set_option maxRecDepth 16384
set_option maxHeartbeats 4000000
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
variable {F : FTy → Type} [FloatOps F]
local notation "𝕄G" => MT nD τ sig Unit (Elt F) ℕ (UR sig nD τ) ℕ

open Idealize.ShloMosaic.ValueIdx (ix2)
open Cert.Edges

/-- A word below the number of rows passes the kernel's range check. -/
theorem chk_of (w : BitVec 32) (h : w.toNat < 10000) : ∀ a, (![(Scalar.indexCast w).toNat, 0] : Fin 2 → ℕ) a + S1x128.size a ≤ S10000x128.size a := by
  intro a; fin_cases a <;> simp [Scalar.indexCast] <;> omega

/-- The row a trip stores is the maximum of the two rows it loads. -/
theorem k1_pay5_apply (a b : Vec F S1x128 .f32) (z : S1x128.Idx) : k1_pay5 a b z = FloatOps.maximumf (a z) (b z) := by
  unfold k1_pay5; simp only [shapeCast_self]; rfl

/-- The row a trip stores is the maximum of the two rows it loads. -/
theorem k1_pay6_apply (a b : Vec F S1x128 .f32) (z : S1x128.Idx) : k1_pay6 a b z = FloatOps.maximumf (a z) (b z) := by
  unfold k1_pay6; simp only [shapeCast_self]; rfl

/-- The row a trip stores is the maximum of the two rows it loads. -/
theorem k1_pay2_apply (a b : Vec F S1x128 .f32) (z : S1x128.Idx) : k1_pay2 a b z = FloatOps.maximumf (a z) (b z) := by
  unfold k1_pay2; simp only [shapeCast_self]; rfl

/-- The row a trip stores is the maximum of the two rows it loads. -/
theorem k1_pay3_apply (a b : Vec F S1x128 .f32) (z : S1x128.Idx) : k1_pay3 a b z = FloatOps.maximumf (a z) (b z) := by
  unfold k1_pay3; simp only [shapeCast_self]; rfl

/-- The buffers of the loop: the rows read at `X`, the edges at `W`, the accumulator at `g`. -/
abbrev bufs1 (c : Dev nD) (arg1 : Memref sig .tc .vmem S10000x128 .f32) (arg2 : Memref sig .tc .smem S2x16000 .i32)
    (arg4 : Memref sig .tc .vmem S10000x128 .f32) (X : arg1.view.ty.Contents (Elt F)) (W : arg2.view.ty.Contents (Elt F))
    (g : arg4.view.ty.Contents (Elt F)) : sProp 𝕄G :=
  iprop((arg1.view.loc (c : Thread nD τ) ↦[arg1.view.set]{fullShare} X) ∗ (arg2.view.loc (c : Thread nD τ) ↦[arg2.view.set]{fullShare} W)
    ∗ (arg4.view.loc (c : Thread nD τ) ↦[arg4.view.set]{fullShare} g))

/-- One trip: four edges more folded into the accumulator. -/
theorem trip1 (𝒱 : Variants) (c : Dev nD) (bd : Option 𝒱.V) (E : Set ℕ) (i : grid1.Coords) (arg1 : Memref sig .tc .vmem S10000x128 .f32) (harg1 : arg1.IsWhole) (arg2 : Memref sig .tc .smem S2x16000 .i32) (harg2 : arg2.IsWhole) (arg3 : Memref sig .tc .vmem S10000x128 .f32) (harg3 : arg3.IsWhole) (arg4 : Memref sig .tc .vmem S10000x128 .f32) (harg4 : arg4.IsWhole)
   (f1 : arg1.view.ty.Contents (Elt F)) (f2 : arg2.view.ty.Contents (Elt F)) (f4 : arg4.view.ty.Contents (Elt F))
   (G : arg4.view.ty.Contents (Elt F))
   (hw : ∀ y, (arg2.view.read (Elt F) f2 y : BitVec 32).toNat < 10000)
   (k : Fin k1_t1_loop.trips)
   (hA : arg4.view.read (Elt F) f4 = rowFold FloatOps.maximumf (arg1.view.read (Elt F) f1) (words (arg2.view.read (Elt F) f2) 0) (words (arg2.view.read (Elt F) f2) 1) (arg4.view.read (Elt F) G) (4 * k.val)) :
   bufs1 (F := F) c arg1 arg2 arg4 f1 f2 f4
   ⊢ wp frame (wpE (defs₀ (F := F)) 𝒱 (c : Thread nD τ) bd) E (k1_t1_body (F := F) i arg1 harg1 arg2 harg2 arg3 harg3 arg4 harg4 k PUnit.unit)
          (fun _ => iprop(∃ g, bufs1 (F := F) c arg1 arg2 arg4 f1 f2 g ∗ ⌜arg4.view.read (Elt F) g = rowFold FloatOps.maximumf (arg1.view.read (Elt F) f1) (words (arg2.view.read (Elt F) f2) 0) (words (arg2.view.read (Elt F) f2) 1) (arg4.view.read (Elt F) G) (4 * (k.val + 1))⌝)) := by
  have hk : k.val < 4000 := Nat.lt_of_lt_of_le k.isLt k1_t1_abs.2.1
  have hc : ∀ (r : LoadRect S2x16000) (z), (arg2.view.readAt (Elt F) r f2 z : BitVec 32).toNat < 10000 := fun r z => hw _
  unfold k1_t1_body
  iintro ⟨HR_arg1, HR_arg2, HW_arg4⟩
  sl_exec (disch := first | exact chk_of _ (hc _ _) | exact ⟨chk_of _ (hc _ _), chk_of _ (hc _ _)⟩)
  sl_step
  iexists _
  isplitl
  · isplitl [HR_arg1]; · iexact HR_arg1
    isplitl [HR_arg2]; · iexact HR_arg2
    iexact HW_arg4
  ipureintro
  have wd : ∀ {off : Fin 2 → ℕ} (inb : ∀ a, off a + S1x1.size a ≤ S2x16000.size a) (z : S1x1.Idx) {r : Fin 2} {j : ℕ}
      (h : off = ![r.val, j]), (arg2.view.readAt (Elt F) (Rect.unit (s := S2x16000) off S1x1.size inb).toLoadRect f2 z : BitVec 32).toNat
        = words (arg2.view.read (Elt F) f2) r j := fun inb z _ _ h => readAt_word arg2.view f2 (fun w => w) inb z h
  refine Eq.trans (read_rowStep FloatOps.maximumf k1_pay3 k1_pay3_apply arg4.view arg1.view f4 f1 _ _ _ _ _ _) ?_
  refine rowStep_congr (wd _ _ (k1_off16_eq k)) (wd _ _ (k1_off17_eq k)) ?_
  refine Eq.trans (read_rowStep FloatOps.maximumf k1_pay2 k1_pay2_apply arg4.view arg1.view f4 f1 _ _ _ _ _ _) ?_
  refine rowStep_congr (wd _ _ (k1_off11_eq k)) (wd _ _ (k1_off12_eq k)) ?_
  refine Eq.trans (read_rowStep FloatOps.maximumf k1_pay6 k1_pay6_apply arg4.view arg1.view f4 f1 _ _ _ _ _ _) ?_
  refine rowStep_congr (wd _ _ (k1_off6_eq k)) (wd _ _ (k1_off7_eq k)) ?_
  refine Eq.trans (read_rowStep FloatOps.maximumf k1_pay5 k1_pay5_apply arg4.view arg1.view f4 f1 _ _ _ _ _ _) ?_
  refine rowStep_congr (wd _ _ (k1_off1_eq k)) (wd _ _ (k1_off2_eq k)) ?_
  exact hA

/-- Before trip `k` of a chunk: the rows of the chunk's first `4 k` edges folded into what the scratch held. -/
abbrev inv1 (c : Dev nD) (arg1 : Memref sig .tc .vmem S10000x128 .f32) (arg2 : Memref sig .tc .smem S2x16000 .i32) (arg4 : Memref sig .tc .vmem S10000x128 .f32)
   (f1 : arg1.view.ty.Contents (Elt F)) (f2 : arg2.view.ty.Contents (Elt F)) (G : arg4.view.ty.Contents (Elt F)) (k : ℕ) (_ : Unit) : sProp 𝕄G :=
  iprop((arg1.view.loc (c : Thread nD τ) ↦[arg1.view.set]{fullShare} f1) ∗ (arg2.view.loc (c : Thread nD τ) ↦[arg2.view.set]{fullShare} f2)
    ∗ (∃ g, (arg4.view.loc (c : Thread nD τ) ↦[arg4.view.set]{fullShare} g)
      ∗ ⌜arg4.view.read (Elt F) g = rowFold FloatOps.maximumf (arg1.view.read (Elt F) f1) (words (arg2.view.read (Elt F) f2) 0)
          (words (arg2.view.read (Elt F) f2) 1) (arg4.view.read (Elt F) G) (4 * k)⌝))

set_option warn.classDefReducibility false in
/-- The loop of a point, by its invariant. -/
@[sl_loop] def loop1 (𝒱 : Variants) (c : Dev nD) (bd : Option 𝒱.V) (E : Set ℕ) (i : grid1.Coords) (arg1 : Memref sig .tc .vmem S10000x128 .f32) (harg1 : arg1.IsWhole) (arg2 : Memref sig .tc .smem S2x16000 .i32) (harg2 : arg2.IsWhole) (arg3 : Memref sig .tc .vmem S10000x128 .f32) (harg3 : arg3.IsWhole) (arg4 : Memref sig .tc .vmem S10000x128 .f32) (harg4 : arg4.IsWhole)
   (f1 : arg1.view.ty.Contents (Elt F)) (f2 : arg2.view.ty.Contents (Elt F)) (G : arg4.view.ty.Contents (Elt F))
   (hw : ∀ y, (arg2.view.read (Elt F) f2 y : BitVec 32).toNat < 10000) :
    LoopInvTy_k1_t1 (F := F) Unit ℕ (UR sig nD τ) ℕ 𝒱 c bd E i arg1 harg1 arg2 harg2 arg3 harg3 arg4 harg4 where
  inv := inv1 (F := F) c arg1 arg2 arg4 f1 f2 G
  step k acc := by
    iintro ⟨H1, H2, ⟨%g, H4, %h⟩⟩
    iapply (wp_wand_r Idealize.ShloMosaic.frame (wpE (defs₀ (F := F)) 𝒱 (c : Thread nD τ) bd) E)
    isplitl [H1 H2 H4]
    · iapply (trip1 (F := F) 𝒱 c bd E i arg1 harg1 arg2 harg2 arg3 harg3 arg4 harg4 f1 f2 g G hw k h)
      isplitl [H1]; · iexact H1
      isplitl [H2]; · iexact H2
      iexact H4
    · iintro %_ ⟨%g', ⟨H1, H2, H4⟩, %h'⟩
      isplitl [H1]; · iexact H1
      isplitl [H2]; · iexact H2
      iexists g'
      isplitl [H4]; · iexact H4
      ipureintro; exact h'

/-- The first point's test. -/
abbrev first1 (i : grid1.Coords) : Prop := Scalar.cmpi .ne (Scalar.extui (Scalar.cmpi .eq (BitVec.ofNat 32 (i 0).val) 0#32) : BitVec 32) 0#32 = 1#1

/-- A point's loop handles the chunk's 16000 edges, four a trip. -/
theorem trips1 : 4 * Scf.trips k1_t1_loop.lb k1_t1_loop.ub k1_t1_loop.st = 16000 := by decide +kernel

/-- What the scratch holds when the loop of a point begins. -/
abbrev start1 (i : grid1.Coords) (A : Vec F S10000x128 .f32) : Vec F S10000x128 .f32 := if first1 i then k1_pay1 else A

/-- At the first point the scratch is filled first. -/
theorem start1_pos {i : grid1.Coords} (h : first1 i) (A : Vec F S10000x128 .f32) : start1 i A = k1_pay1 := if_pos h

/-- At a later point the scratch is what the point before left. -/
theorem start1_neg {i : grid1.Coords} (h : ¬ first1 i) (A : Vec F S10000x128 .f32) : start1 i A = A := if_neg h

/-- One point of the pooling kernel: the chunk's edges folded into the scratch, and at the last point the result stored. -/
theorem body1 (𝒱 : Variants) (c : Dev nD) (bd : Option 𝒱.V) (E : Set ℕ) (i : grid1.Coords) (arg1 : Memref sig .tc .vmem S10000x128 .f32) (harg1 : arg1.IsWhole) (arg2 : Memref sig .tc .smem S2x16000 .i32) (harg2 : arg2.IsWhole) (arg3 : Memref sig .tc .vmem S10000x128 .f32) (harg3 : arg3.IsWhole) (arg4 : Memref sig .tc .vmem S10000x128 .f32) (harg4 : arg4.IsWhole)
   (f1 : arg1.view.ty.Contents (Elt F)) (f2 : arg2.view.ty.Contents (Elt F)) (f3 : arg3.view.ty.Contents (Elt F)) (f4 : arg4.view.ty.Contents (Elt F))
   (hw : ∀ y, (arg2.view.read (Elt F) f2 y : BitVec 32).toNat < 10000) :
   (iprop((arg1.view.loc (c : Thread nD τ) ↦[arg1.view.set]{fullShare} f1) ∗ (arg2.view.loc (c : Thread nD τ) ↦[arg2.view.set]{fullShare} f2)
     ∗ (arg3.view.loc (c : Thread nD τ) ↦[arg3.view.set]{fullShare} f3) ∗ (arg4.view.loc (c : Thread nD τ) ↦[arg4.view.set]{fullShare} f4)) : sProp 𝕄G)
   ⊢ wp frame (wpE (defs₀ (F := F)) 𝒱 (c : Thread nD τ) bd) E (cc1__pool_kernel (F := F) i arg1 harg1 arg2 harg2 arg3 harg3 arg4 harg4)
          (fun _ => iprop(∃ g3 g4, (arg1.view.loc (c : Thread nD τ) ↦[arg1.view.set]{fullShare} f1) ∗ (arg2.view.loc (c : Thread nD τ) ↦[arg2.view.set]{fullShare} f2)
     ∗ (arg3.view.loc (c : Thread nD τ) ↦[arg3.view.set]{fullShare} g3) ∗ (arg4.view.loc (c : Thread nD τ) ↦[arg4.view.set]{fullShare} g4)
     ∗ ⌜arg4.view.read (Elt F) g4 = rowFold FloatOps.maximumf (arg1.view.read (Elt F) f1) (words (arg2.view.read (Elt F) f2) 0) (words (arg2.view.read (Elt F) f2) 1)
          (start1 i (arg4.view.read (Elt F) f4)) 16000
        ∧ arg3.view.read (Elt F) g3 = (if k1_cond2 i = 1#1 then k1_pay4 (arg1.view.read (Elt F) f1) (arg4.view.read (Elt F) g4) else arg3.view.read (Elt F) f3)⌝)) := by
  simp only [cc1__pool_kernel_eq_skeleton]
  unfold cc1__pool_kernel_skel
  by_cases hc1 : first1 i <;> by_cases hc2 : k1_cond2 i = 1#1
  all_goals
    iintro ⟨H1, H2, H3, H4⟩
    sl_exec (disch := first | sl_exact hc1 | sl_exact hc2)
    sl_step
    iexists _
    iexists _
    isplitl [H1]; · iexact H1
    isplitl [H2]; · iexact H2
    isplitl [H3]; · iexact H3
    isplitl [H4]; · iexact H4
    ipureintro
    refine ⟨?_, ?_⟩
    · rw [hL3, trips1]
      first
        | rw [start1_neg hc1]
        | (rw [start1_pos hc1]; exact congrArg (fun A => rowFold FloatOps.maximumf _ _ _ A 16000) (View.read_writes_full _ _ _ _ _))
    · first
        | rw [if_neg hc2]
        | (rw [if_pos hc2]
           sl_unfold_words
           refine (View.read_writes_full _ _ _ _ _).trans ?_
           rw [View.readAt_full, View.readAt_full])

end Cert.KernelIdeal.Val
-- ==== Proof.PoolOneRegion.lean ====
/-
  The first pooling call as a region of the program: what it finds in its buffers at a grid point, what it leaves there, and the array
  it writes. Everything is a function of the memory `V` the call is entered with.
-/
module
public import proofs.«01_k».proof.Proof.PoolBody
public import proofs.«01_k».proof.Proof.RegionKit
public import proofs.«01_k».proof.Proof.Gen.KernelIdeal.Points
public import Idealize.ShloMosaic.Lib.Pipeline.ValueKit
@[expose] public section
set_option maxRecDepth 16384
set_option maxHeartbeats 4000000
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat)
open Idealize.ShloMosaic.ValueIdx (ix2)
open Cert.Edges
variable {F : FTy → Type} [FloatOps F]
local notation "𝕄G" => MT nD τ sig Unit (Elt F) ℕ (UR sig nD τ) ℕ

theorem at1_0 : ∀ t : Fin cfg1.N, win1_0.index t = ![0, 0] := (by decide +kernel : ∀ t : Fin grid1.N, win1_0.index t = ![0, 0])

theorem whole1_0 (V : Valuation τ sig (Elt F)) (t : Fin cfg1.N) :
    ((cfg1.win 0).blk t).view.read (Elt F) (V (Proc.devRef .tc main_call0_v3)) = (V (Proc.devRef .tc main_call0_v3)) := by
  blk_ext! [at1_0 t]

theorem at1_1 : ∀ t : Fin cfg1.N, win1_1.index t = ![0, t.val] := (by decide +kernel : ∀ t : Fin grid1.N, win1_1.index t = ![0, t.val])
theorem first1_iff : ∀ t : Fin cfg1.N, first1 (grid1.coords t) ↔ t.val = 0 := (by decide +kernel : ∀ t : Fin grid1.N, first1 (grid1.coords t) ↔ t.val = 0)
theorem last1_iff : ∀ t : Fin cfg1.N, k1_cond2 (grid1.coords t) = 1#1 ↔ t.val = 19 := (by decide +kernel : ∀ t : Fin grid1.N, k1_cond2 (grid1.coords t) = 1#1 ↔ t.val = 19)
theorem idle1_2 : ∀ t : Fin cfg1.N, (cfg1.idle 2 (grid1.coords t) = false ↔ t.val = 19) := (by decide +kernel : ∀ t : Fin grid1.N, (cfg1.idle 2 (grid1.coords t) = false ↔ t.val = 19))

/-- The block of edges the call holds at grid point `t`: columns `16000 t … 16000 t + 15999` of both rows. -/
abbrev edges1 (V : Valuation τ sig (Elt F)) (t : Fin cfg1.N) : S2x16000.Idx → Elt F .i32 :=
  ((cfg1.win 1).blk t).view.read (Elt F) (V (Proc.devRef .tc main_arg1))

theorem edges1_words (V : Valuation τ sig (Elt F)) (t : Fin cfg1.N) (r : Fin 2) (j : ℕ) (hj : j < 16000) :
    words (edges1 V t) r j = words (C := 320000) (V (Proc.devRef .tc main_arg1)) r (16000 * t.val + j) := by
  have ht : t.val < 20 := lt_of_lt_of_eq t.isLt N_1
  unfold words edges1
  blk_simp
  congr 2
  blk_ext [at1_1 t]
  show t.val * 16000 + j % 16000 = (16000 * t.val + j) % 320000
  omega

/-- The running maximum after the first `n` edges. -/
def acc1 (V : Valuation τ sig (Elt F)) (n : ℕ) : Vec F S10000x128 .f32 :=
  rowFold FloatOps.maximumf (V (Proc.devRef .tc main_call0_v3)) (words (C := 320000) (V (Proc.devRef .tc main_arg1)) 0) (words (C := 320000) (V (Proc.devRef .tc main_arg1)) 1) k1_pay1 n

/-- What the first pooling call leaves in its result. -/
def res1 (V : Valuation τ sig (Elt F)) : Vec F S10000x128 .f32 := k1_pay4 (V (Proc.devRef .tc main_call0_v3)) (acc1 V 320000)

/-- The call's own buffers between two grid points, and what they hold past the first. -/
def carry1 (c : Dev nD) (V : Valuation τ sig (Elt F)) (n : ℕ) : sProp 𝕄G :=
  iprop(∃ g0 : (Memref.whole cc1_scratch0).view.ty.Contents (Elt F),
    ((Memref.whole cc1_scratch0).view.loc (c : Thread nD τ) ↦[(Memref.whole cc1_scratch0).view.set]{fullShare} g0) ∗
    ⌜n ≠ 0 → (Memref.whole cc1_scratch0).view.read (Elt F) g0 = acc1 V (16000 * n)⌝ ∗
    Pipeline.scopedRestBut (Ix := Unit) (Name := ℕ) (U := UR sig nD τ) (Lvl := ℕ) (Val := Elt F) spec1 c [cc1_scratch0])

/-- The proof data of the call entered at the memory `V`. -/
def dat1 (c : Dev nD) (V : Valuation τ sig (Elt F)) : Dat τ (Elt F) Unit ℕ (UR sig nD τ) ℕ cfg1 c where
  A w := V (Proc.devRef .tc (Pipeline.arrRef spec1 w))
  after w t := match w with
    | ⟨0, _⟩ => V (Proc.devRef .tc main_call0_v3)
    | ⟨1, _⟩ => edges1 V t
    | ⟨2, _⟩ => res1 V
  Φ t := carry1 c V t.val
  q _ := fullShare
  owed _ := 0

theorem found1_0 (c : Dev nD) (V : Valuation τ sig (Elt F)) (t : Fin cfg1.N) (d) : (dat1 c V).before 0 t d = (V (Proc.devRef .tc main_call0_v3)) :=
  ((dat1 c V).before_in_eq_fetched 0 rfl (fun _ => rfl) (fun _ _ _ => rfl) (fun t => (whole1_0 V t).symm) t d).trans (whole1_0 V t)

theorem found1_1 (c : Dev nD) (V : Valuation τ sig (Elt F)) (t : Fin cfg1.N) (d) : (dat1 c V).before 1 t d = edges1 V t :=
  (dat1 c V).before_in_eq_fetched 1 rfl (fun _ => rfl) (fun _ _ _ => rfl) (fun _ => rfl) t d

theorem acc1_step (V : Valuation τ sig (Elt F)) (t : Fin cfg1.N) (A : Vec F S10000x128 .f32) (hA : t.val ≠ 0 → A = acc1 V (16000 * t.val)) :
    rowFold FloatOps.maximumf (V (Proc.devRef .tc main_call0_v3)) (words (edges1 V t) 0) (words (edges1 V t) 1) (start1 (grid1.coords t) A) 16000
      = acc1 V (16000 * (t.val + 1)) := by
  have h0 : start1 (grid1.coords t) A = acc1 V (16000 * t.val) := by
    by_cases h : t.val = 0
    · rw [start1, if_pos ((first1_iff t).mpr h), h]; rfl
    · rw [start1, if_neg (fun h' => h ((first1_iff t).mp h')), hA h]
  rw [h0, show 16000 * (t.val + 1) = 16000 * t.val + 16000 from by ring]
  unfold acc1
  rw [rowFold_add]
  exact rowFold_congr _ _ _ _ (fun j hj => edges1_words V t 0 j hj) (fun j hj => edges1_words V t 1 j hj)

/-- The body at every grid point. -/
theorem bodyOk1 (c : Dev nD) (V : Valuation τ sig (Elt F)) (hV : ∀ y, (V (Proc.devRef .tc main_arg1) y : BitVec 32).toNat < 10000) :
    Pipeline.BodyObligation (dat1 c V) defs₀ Variants.none () Set.univ := by
  intro t
  rw [bigSep_W1, bigSep_W1]
  have hN : t.val < 20 := lt_of_lt_of_eq t.isLt N_1
  have hw : ∀ y, (edges1 V t y : BitVec 32).toNat < 10000 := fun y => by unfold edges1; blk_simp; exact hV _
  show _ ⊢ wp frame (wpE (defs₀ (F := F)) Variants.none (c : Thread nD τ) none) Set.univ (bodyAt1 t) _
  simp only [found1_0, found1_1]
  refine BIBase.Entails.trans (Q := (wp frame (wpE (defs₀ (F := F)) Variants.none (c : Thread nD τ) none) Set.univ (bodyAt1 t) fun _ =>
      iprop(carry1 c V (t.val + 1) ∗ (dat1 c V).owesAt () t.succ
        ∗ owns (c : Thread nD τ) (st1_0 t) fullShare (V (Proc.devRef .tc main_call0_v3))
        ∗ owns (c : Thread nD τ) (st1_1 t) fullShare (edges1 V t)
        ∗ ∃ d, owns (c : Thread nD τ) (st1_2 t) fullShare (if t.val = 19 then (dat1 c V).after 2 t else (dat1 c V).before 2 t d)) : sProp 𝕄G)) ?_ ?_
  swap
  · refine wp_mono frame _ _ fun _ => ?_
    exact BIClass.sep_mono Entails.rfl (BIClass.sep_mono Entails.rfl (BIClass.sep_mono Entails.rfl (BIClass.sep_mono Entails.rfl (Cert.RegionKit.leave_out (dat1 c V) 2 t (t.val = 19) (idle1_2 t) (fun h => by have := (flush1_2 t).mp h; omega)))))
  show iprop(carry1 c V t.val ∗ (dat1 c V).owesAt () t.castSucc ∗ _) ⊢ _
  unfold carry1 owns
  iintro ⟨⟨%s0, S0, %hs, Hrest⟩, HO, ⟨%d0, %f0, %e0, H0⟩, ⟨%d1, %f1, %e1, H1⟩, ⟨%d2, %f2, %e2, H2⟩⟩
  iapply (wp_wand_r frame _ _)
  isplitl [H0 H1 H2 S0]
  · iapply (body1 Variants.none c none Set.univ (grid1.coords t) _ _ _ _ _ _ _ _ f0 f1 f2 s0 (fun y => by rw [e1]; exact hw y)) $$ [H0 H1 H2 S0]
    isplitl [H0]; · iexact H0
    isplitl [H1]; · iexact H1
    isplitl [H2]; · iexact H2
    iexact S0
  · iintro %u ⟨%go, %k0, H0, H1, H2, S0, %hp⟩
    rw [e0, e1, acc1_step V t _ hs] at hp
    obtain ⟨hacc, hout⟩ := hp
    isplitl [S0 Hrest]
    · iexists k0
      isplitl [S0]; · iexact S0
      isplitr; · ipureintro; exact fun _ => hacc
      iexact Hrest
    isplitl [HO]; · iexact HO
    isplitl [H0]
    · iexists f0; isplitr; · ipureintro; exact e0
      iexact H0
    isplitl [H1]
    · iexists f1; isplitr; · ipureintro; exact e1
      iexact H1
    iexists d2, go
    isplitr
    · ipureintro
      rw [hout, hacc]
      by_cases h : t.val = 19
      · rw [if_pos ((last1_iff t).mpr h), if_pos h, h]; rfl
      · rw [if_neg (fun h' => h ((last1_iff t).mp h')), if_neg h]; exact e2
    · iexact H2

/-- The call's own buffers, as found. -/
theorem carry1_in (c : Dev nD) (V : Valuation τ sig (Elt F)) :
    (Pipeline.scopedRest (Ix := Unit) (Name := ℕ) (U := UR sig nD τ) (Lvl := ℕ) (Val := Elt F) spec1 c : sProp 𝕄G) ⊢ carry1 c V 0 := by
  rw [scopedRest1_split]
  unfold carry1
  simp only [Memref.view_whole, View.set_whole]
  iintro ⟨⟨%g0, S0⟩, Hr⟩
  iexists g0
  isplitl [S0]; · iexact S0
  isplitr; · ipureintro; exact fun h => absurd rfl h
  iexact Hr

/-- The call's own buffers, given back. -/
theorem carry1_out (c : Dev nD) (V : Valuation τ sig (Elt F)) (n : ℕ) :
    carry1 c V n ⊢ (Pipeline.scopedRest (Ix := Unit) (Name := ℕ) (U := UR sig nD τ) (Lvl := ℕ) (Val := Elt F) spec1 c : sProp 𝕄G) := by
  rw [scopedRest1_split]
  unfold carry1
  simp only [Memref.view_whole, View.set_whole]
  iintro ⟨%g0, S0, -, Hr⟩
  isplitl [S0]
  · iexists g0; iexact S0
  iexact Hr

/-- The array the call writes ends at `res1`. -/
theorem final1 (c : Dev nD) (V : Valuation τ sig (Elt F)) : (dat1 c V).arrAt 2 cfg1.N = res1 V := by
  refine (dat1 c V).arrAt_eq_of_after_last 2 ⟨19, by decide +kernel⟩ (by decide +kernel) _ fun j => ?_
  blk_simp
  rfl

/-- After the call, memory differs from `V` in the result array only. -/
theorem leaves1 (c : Dev nD) (V : Valuation τ sig (Elt F)) :
    Pipeline.afterRegion (dat1 c V) V = Function.update V (Proc.devRef .tc main_call0_v4) (res1 V) := by
  refine (Cert.RegionKit.afterRegion_update (dat1 c V) V winFacts1.arr_inj (fun _ => rfl) 2 ?_).trans ?_
  · intro w hw
    fin_cases w
    all_goals first
      | rfl
      | exact absurd rfl hw
  · rw [final1]

end Cert.KernelIdeal.Val
-- ==== Proof.ConvTwoBody.lean ====
/-
  The second convolution, one grid point at a time: its loop adds the rows of the chunk's 16000 edges, four per trip, into
  the scratch accumulator; its first point also fills the two scratch buffers, its last point also stores the result.
-/
module

public import proofs.«01_k».proof.Proof.Gen.KernelIdeal.Loops
public import proofs.«01_k».proof.Proof.Edges
public import Idealize.ShloMosaic.Lib.Pipeline.Value

@[expose] public section

set_option maxRecDepth 16384
set_option maxHeartbeats 4000000

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Edges

variable {F : FTy → Type} [FloatOps F]

/-- The resource algebra of the run. -/
local notation "𝕄G" => MT nD τ sig Unit (Elt F) ℕ (UR sig nD τ) ℕ

/-- The row a trip stores is the sum of the two rows it loads. -/
theorem k2_pay6_apply (a b : Vec F S1x128 .f32) (z : S1x128.Idx) : k2_pay6 a b z = FloatOps.addf (a z) (b z) := by
  unfold k2_pay6; simp only [shapeCast_self]; rfl

/-- The row a trip stores is the sum of the two rows it loads. -/
theorem k2_pay7_apply (a b : Vec F S1x128 .f32) (z : S1x128.Idx) : k2_pay7 a b z = FloatOps.addf (a z) (b z) := by
  unfold k2_pay7; simp only [shapeCast_self]; rfl

/-- The row a trip stores is the sum of the two rows it loads. -/
theorem k2_pay3_apply (a b : Vec F S1x128 .f32) (z : S1x128.Idx) : k2_pay3 a b z = FloatOps.addf (a z) (b z) := by
  unfold k2_pay3; simp only [shapeCast_self]; rfl

/-- The row a trip stores is the sum of the two rows it loads. -/
theorem k2_pay4_apply (a b : Vec F S1x128 .f32) (z : S1x128.Idx) : k2_pay4 a b z = FloatOps.addf (a z) (b z) := by
  unfold k2_pay4; simp only [shapeCast_self]; rfl

/-- A word below the number of rows passes the kernel's range check. -/
theorem k2_chk_of (w : BitVec 32) (h : w.toNat < 10000) :
    ∀ a, (![(Scalar.indexCast w).toNat, 0] : Fin 2 → ℕ) a + S1x128.size a ≤ S10000x128.size a := by
  intro a; fin_cases a <;> simp [Scalar.indexCast] <;> omega

/-- The buffers of the loop: the edges at `W`, the rows read at `X`, the accumulator at `g`. -/
abbrev bufs2 (c : Dev nD) (arg7 : Memref sig .tc .smem S2x16000 .i32) (arg9 arg10 : Memref sig .tc .vmem S10000x128 .f32)
    (W : arg7.view.ty.Contents (Elt F)) (X : arg9.view.ty.Contents (Elt F)) (g : arg10.view.ty.Contents (Elt F)) : sProp 𝕄G :=
  iprop((arg7.view.loc (c : Thread nD τ) ↦[arg7.view.set]{fullShare} W) ∗ (arg9.view.loc (c : Thread nD τ) ↦[arg9.view.set]{fullShare} X)
    ∗ (arg10.view.loc (c : Thread nD τ) ↦[arg10.view.set]{fullShare} g))

/-- One trip: four more edges of the chunk folded in. -/
theorem trip2 (𝒱 : Variants) (c : Dev nD) (bd : Option 𝒱.V) (E : Set ℕ) (i : grid2.Coords)
    (arg1 : Memref sig .tc .vmem S10000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x1 .f32) (harg6 : arg6.IsWhole)
    (arg7 : Memref sig .tc .smem S2x16000 .i32) (harg7 : arg7.IsWhole)
    (arg8 : Memref sig .tc .vmem S10000x128 .f32) (harg8 : arg8.IsWhole)
    (arg9 : Memref sig .tc .vmem S10000x128 .f32) (harg9 : arg9.IsWhole)
    (arg10 : Memref sig .tc .vmem S10000x128 .f32) (harg10 : arg10.IsWhole)
    (W : arg7.view.ty.Contents (Elt F)) (X : arg9.view.ty.Contents (Elt F)) (g G : arg10.view.ty.Contents (Elt F))
    (hw : ∀ y, (arg7.view.read (Elt F) W y : BitVec 32).toNat < 10000) (k : Fin k2_t1_loop.trips)
    (hA : (arg10.view.read (Elt F) g) = rowFold FloatOps.addf (arg9.view.read (Elt F) X) (words (arg7.view.read (Elt F) W) 0) (words (arg7.view.read (Elt F) W) 1) (arg10.view.read (Elt F) G) (4 * k.val)) :
    bufs2 (F := F) c arg7 arg9 arg10 W X g
    ⊢ wp frame (wpE (defs₀ (F := F)) 𝒱 (c : Thread nD τ) bd) E (k2_t1_body (F := F) i arg1 harg1 arg2 harg2 arg3 harg3 arg4 harg4 arg5 harg5 arg6 harg6 arg7 harg7 arg8 harg8 arg9 harg9 arg10 harg10 k PUnit.unit)
        (fun _ => iprop(∃ g', bufs2 (F := F) c arg7 arg9 arg10 W X g'
          ∗ ⌜(arg10.view.read (Elt F) g') = rowFold FloatOps.addf (arg9.view.read (Elt F) X) (words (arg7.view.read (Elt F) W) 0) (words (arg7.view.read (Elt F) W) 1) (arg10.view.read (Elt F) G) (4 * (k.val + 1))⌝)) := by
  have hk : k.val < 4000 := Nat.lt_of_lt_of_le k.isLt k2_t1_abs.2.1
  have hc : ∀ (r : LoadRect S2x16000) (z), (arg7.view.readAt (Elt F) r W z : BitVec 32).toNat < 10000 := fun r z => hw _
  unfold k2_t1_body
  iintro ⟨H7, H9, H10⟩
  sl_exec (disch := first | exact k2_chk_of _ (hc _ _) | exact ⟨k2_chk_of _ (hc _ _), k2_chk_of _ (hc _ _)⟩)
  sl_step
  iexists _
  isplitl
  · isplitl [H7]; · iexact H7
    isplitl [H9]; · iexact H9
    iexact H10
  ipureintro
  have wd : ∀ {off : Fin 2 → ℕ} (inb : ∀ a, off a + S1x1.size a ≤ S2x16000.size a) (z : S1x1.Idx) {r : Fin 2} {j : ℕ}
      (h : off = ![r.val, j]), (arg7.view.readAt (Elt F) (Rect.unit (s := S2x16000) off S1x1.size inb).toLoadRect W z : BitVec 32).toNat
        = words (arg7.view.read (Elt F) W) r j := fun inb z _ _ h => readAt_word arg7.view W (fun w => w) inb z h
  refine Eq.trans (read_rowStep FloatOps.addf k2_pay4 k2_pay4_apply arg10.view arg9.view g X _ _ _ _ _ _) ?_
  refine rowStep_congr (wd _ _ (k2_off16_eq k)) (wd _ _ (k2_off17_eq k)) ?_
  refine Eq.trans (read_rowStep FloatOps.addf k2_pay3 k2_pay3_apply arg10.view arg9.view g X _ _ _ _ _ _) ?_
  refine rowStep_congr (wd _ _ (k2_off11_eq k)) (wd _ _ (k2_off12_eq k)) ?_
  refine Eq.trans (read_rowStep FloatOps.addf k2_pay7 k2_pay7_apply arg10.view arg9.view g X _ _ _ _ _ _) ?_
  refine rowStep_congr (wd _ _ (k2_off6_eq k)) (wd _ _ (k2_off7_eq k)) ?_
  refine Eq.trans (read_rowStep FloatOps.addf k2_pay6 k2_pay6_apply arg10.view arg9.view g X _ _ _ _ _ _) ?_
  refine rowStep_congr (wd _ _ (k2_off1_eq k)) (wd _ _ (k2_off2_eq k)) ?_
  exact hA

/-- Before trip `k` of a chunk: the rows of the chunk's first `4 k` edges added into what the scratch held. -/
abbrev inv2 (c : Dev nD) (arg7 : Memref sig .tc .smem S2x16000 .i32) (arg9 arg10 : Memref sig .tc .vmem S10000x128 .f32)
    (W : arg7.view.ty.Contents (Elt F)) (X : arg9.view.ty.Contents (Elt F)) (G : arg10.view.ty.Contents (Elt F)) (k : ℕ) (_ : Unit) :
    sProp 𝕄G :=
  iprop((arg7.view.loc (c : Thread nD τ) ↦[arg7.view.set]{fullShare} W) ∗ (arg9.view.loc (c : Thread nD τ) ↦[arg9.view.set]{fullShare} X)
    ∗ (∃ g, (arg10.view.loc (c : Thread nD τ) ↦[arg10.view.set]{fullShare} g)
      ∗ ⌜(arg10.view.read (Elt F) g) = rowFold FloatOps.addf (arg9.view.read (Elt F) X) (words (arg7.view.read (Elt F) W) 0) (words (arg7.view.read (Elt F) W) 1) (arg10.view.read (Elt F) G) (4 * k)⌝))

set_option warn.classDefReducibility false in
/-- The loop by its invariant. -/
@[sl_loop] def loop2 (𝒱 : Variants) (c : Dev nD) (bd : Option 𝒱.V) (E : Set ℕ) (i : grid2.Coords)
    (arg1 : Memref sig .tc .vmem S10000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x1 .f32) (harg6 : arg6.IsWhole)
    (arg7 : Memref sig .tc .smem S2x16000 .i32) (harg7 : arg7.IsWhole)
    (arg8 : Memref sig .tc .vmem S10000x128 .f32) (harg8 : arg8.IsWhole)
    (arg9 : Memref sig .tc .vmem S10000x128 .f32) (harg9 : arg9.IsWhole)
    (arg10 : Memref sig .tc .vmem S10000x128 .f32) (harg10 : arg10.IsWhole)
    (W : arg7.view.ty.Contents (Elt F)) (X : arg9.view.ty.Contents (Elt F)) (G : arg10.view.ty.Contents (Elt F))
    (hw : ∀ y, (arg7.view.read (Elt F) W y : BitVec 32).toNat < 10000) :
    LoopInvTy_k2_t1 (F := F) Unit ℕ (UR sig nD τ) ℕ 𝒱 c bd E i arg1 harg1 arg2 harg2 arg3 harg3 arg4 harg4 arg5 harg5 arg6 harg6 arg7 harg7 arg8 harg8 arg9 harg9 arg10 harg10 where
  inv := inv2 (F := F) c arg7 arg9 arg10 W X G
  step k acc := by
    iintro ⟨H7, H9, ⟨%g, H10, %h⟩⟩
    iapply (wp_wand_r Idealize.ShloMosaic.frame (wpE (defs₀ (F := F)) 𝒱 (c : Thread nD τ) bd) E)
    isplitl [H7 H9 H10]
    · iapply (trip2 (F := F) 𝒱 c bd E i arg1 harg1 arg2 harg2 arg3 harg3 arg4 harg4 arg5 harg5 arg6 harg6 arg7 harg7 arg8 harg8 arg9 harg9 arg10 harg10 W X g G hw k h)
      isplitl [H7]; · iexact H7
      isplitl [H9]; · iexact H9
      iexact H10
    · iintro %_ ⟨%g', ⟨H7, H9, H10⟩, %h'⟩
      isplitl [H7]; · iexact H7
      isplitl [H9]; · iexact H9
      iexists g'
      isplitl [H10]; · iexact H10
      ipureintro; exact h'

/-- The first point's test. -/
abbrev first2 (i : grid2.Coords) : Prop :=
  Scalar.cmpi .ne (Scalar.extui (Scalar.cmpi .eq (BitVec.ofNat 32 (i 0).val) 0#32) : BitVec 32) 0#32 = 1#1

theorem trips2 : 4 * Scf.trips k2_t1_loop.lb k2_t1_loop.ub k2_t1_loop.st = 16000 := by decide +kernel

/-- What the row scratch holds once a point has passed its first test. -/
abbrev rows2 (i : grid2.Coords) (x : Vec F S10000x128 .f32) (w : Vec F S1x128 .f32) (X : Vec F S10000x128 .f32) : Vec F S10000x128 .f32 :=
  if first2 i then k2_pay1 x w else X

/-- What the accumulator holds when the loop of a point begins. -/
abbrev start2 (i : grid2.Coords) (A : Vec F S10000x128 .f32) : Vec F S10000x128 .f32 := if first2 i then k2_pay2 else A

/-- The layer's result, of the node features, the self weights, the accumulated messages, the bias, the scale and the shift. -/
abbrev out2 (x : Vec F S10000x128 .f32) (w : Vec F S1x128 .f32) (acc : Vec F S10000x128 .f32) (b g be : Vec F S1x1 .f32) :
    Vec F S10000x128 .f32 :=
  k2_pay5 (k2_pay8 x w acc b) (k2_pay9 g) (k2_pay10 be) (k2_pay11 x w acc b) (k2_pay12 (F := F)) (k2_pay13 x w acc b)
    (Scalar.ofBits .f32 0x00000000#32)

/-- One point of the kernel: the rows scratch, the chunk's edges added into the accumulator, and at the last point the
    stored result. -/
theorem body2 (𝒱 : Variants) (c : Dev nD) (bd : Option 𝒱.V) (E : Set ℕ) (i : grid2.Coords)
    (arg1 : Memref sig .tc .vmem S10000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x1 .f32) (harg6 : arg6.IsWhole)
    (arg7 : Memref sig .tc .smem S2x16000 .i32) (harg7 : arg7.IsWhole)
    (arg8 : Memref sig .tc .vmem S10000x128 .f32) (harg8 : arg8.IsWhole)
    (arg9 : Memref sig .tc .vmem S10000x128 .f32) (harg9 : arg9.IsWhole)
    (arg10 : Memref sig .tc .vmem S10000x128 .f32) (harg10 : arg10.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (hw : ∀ y, (arg7.view.read (Elt F) f7 y : BitVec 32).toNat < 10000) :
    (iprop((arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)) : sProp 𝕄G)
    ⊢ wp frame (wpE (defs₀ (F := F)) 𝒱 (c : Thread nD τ) bd) E (cc2__conv2_kernel (F := F) i arg1 harg1 arg2 harg2 arg3 harg3 arg4 harg4 arg5 harg5 arg6 harg6 arg7 harg7 arg8 harg8 arg9 harg9 arg10 harg10)
        (fun _ => iprop(∃ g8 g9 g10, (arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} g8)
      ∗ (arg9.view.loc (c : Thread nD τ) ↦[arg9.view.set]{fullShare} g9)
      ∗ (arg10.view.loc (c : Thread nD τ) ↦[arg10.view.set]{fullShare} g10)
      ∗ ⌜(arg9.view.read (Elt F) g9) = rows2 i (arg1.view.read (Elt F) f1) (arg3.view.read (Elt F) f3) (arg9.view.read (Elt F) f9)
        ∧ (arg10.view.read (Elt F) g10) = rowFold FloatOps.addf (arg9.view.read (Elt F) g9) (words (arg7.view.read (Elt F) f7) 0) (words (arg7.view.read (Elt F) f7) 1) (start2 i (arg10.view.read (Elt F) f10)) 16000
        ∧ (arg8.view.read (Elt F) g8) = (if k2_cond2 i = 1#1 then out2 (arg1.view.read (Elt F) f1) (arg2.view.read (Elt F) f2) (arg10.view.read (Elt F) g10) (arg4.view.read (Elt F) f4) (arg5.view.read (Elt F) f5) (arg6.view.read (Elt F) f6) else (arg8.view.read (Elt F) f8))⌝)) := by
  simp only [cc2__conv2_kernel_eq_skeleton]
  unfold cc2__conv2_kernel_skel
  by_cases hc1 : first2 i <;> by_cases hc2 : k2_cond2 i = 1#1
  all_goals
    iintro ⟨H1, H2, H3, H4, H5, H6, H7, H8, H9, H10⟩
    sl_exec (disch := first | sl_exact hc1 | sl_exact hc2)
    sl_step
    iexists _
    iexists _
    iexists _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    ipureintro
    refine ⟨?_, ?_, ?_⟩
    · first
        | rw [rows2, if_neg hc1]
        | (rw [rows2, if_pos hc1]
           sl_unfold_words
           refine (View.read_writes_full _ _ _ _ _).trans ?_
           rw [View.readAt_full, View.readAt_full])
    · rw [hL3, trips2]
      first
        | rw [start2, if_neg hc1]
        | (rw [start2, if_pos hc1]; exact congrArg (fun A => rowFold FloatOps.addf _ _ _ A 16000) (View.read_writes_full _ _ _ _ _))
    · first
        | rw [if_neg hc2]
        | (rw [if_pos hc2]
           sl_unfold_words
           refine (View.read_writes_full _ _ _ _ _).trans ?_
           repeat rw [View.readAt_full])

end Cert.KernelIdeal.Val
-- ==== Proof.ConvTwoRegion.lean ====
/-
  The second convolution call as a region of the program: what it finds in its buffers at a grid point, what it leaves there, and the array
  it writes. Everything is a function of the memory `V` the call is entered with.
-/
module
public import proofs.«01_k».proof.Proof.ConvTwoBody
public import proofs.«01_k».proof.Proof.RegionKit
public import proofs.«01_k».proof.Proof.Gen.KernelIdeal.Points
public import Idealize.ShloMosaic.Lib.Pipeline.ValueKit
@[expose] public section
set_option maxRecDepth 16384
set_option maxHeartbeats 4000000
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat)
open Idealize.ShloMosaic.ValueIdx (ix2)
open Cert.Edges
variable {F : FTy → Type} [FloatOps F]
local notation "𝕄G" => MT nD τ sig Unit (Elt F) ℕ (UR sig nD τ) ℕ

theorem at2_0 : ∀ t : Fin cfg2.N, win2_0.index t = ![0, 0] := (by decide +kernel : ∀ t : Fin grid2.N, win2_0.index t = ![0, 0])
theorem at2_1 : ∀ t : Fin cfg2.N, win2_1.index t = ![0, 0] := (by decide +kernel : ∀ t : Fin grid2.N, win2_1.index t = ![0, 0])
theorem at2_2 : ∀ t : Fin cfg2.N, win2_2.index t = ![0, 0] := (by decide +kernel : ∀ t : Fin grid2.N, win2_2.index t = ![0, 0])
theorem at2_3 : ∀ t : Fin cfg2.N, win2_3.index t = ![0, 0] := (by decide +kernel : ∀ t : Fin grid2.N, win2_3.index t = ![0, 0])
theorem at2_4 : ∀ t : Fin cfg2.N, win2_4.index t = ![0, 0] := (by decide +kernel : ∀ t : Fin grid2.N, win2_4.index t = ![0, 0])
theorem at2_5 : ∀ t : Fin cfg2.N, win2_5.index t = ![0, 0] := (by decide +kernel : ∀ t : Fin grid2.N, win2_5.index t = ![0, 0])

theorem whole2_0 (V : Valuation τ sig (Elt F)) (t : Fin cfg2.N) :
    ((cfg2.win 0).blk t).view.read (Elt F) (V (Proc.devRef .tc main_call0_v4)) = (V (Proc.devRef .tc main_call0_v4)) := by
  blk_ext! [at2_0 t]

theorem whole2_1 (V : Valuation τ sig (Elt F)) (t : Fin cfg2.N) :
    ((cfg2.win 1).blk t).view.read (Elt F) (V (Proc.devRef .tc main_call0_v5)) = (V (Proc.devRef .tc main_call0_v5)) := by
  blk_ext! [at2_1 t]

theorem whole2_2 (V : Valuation τ sig (Elt F)) (t : Fin cfg2.N) :
    ((cfg2.win 2).blk t).view.read (Elt F) (V (Proc.devRef .tc main_call0_v6)) = (V (Proc.devRef .tc main_call0_v6)) := by
  blk_ext! [at2_2 t]

theorem whole2_3 (V : Valuation τ sig (Elt F)) (t : Fin cfg2.N) :
    ((cfg2.win 3).blk t).view.read (Elt F) (V (Proc.devRef .tc main_call0_v7)) = (V (Proc.devRef .tc main_call0_v7)) := by
  blk_ext! [at2_3 t]

theorem whole2_4 (V : Valuation τ sig (Elt F)) (t : Fin cfg2.N) :
    ((cfg2.win 4).blk t).view.read (Elt F) (V (Proc.devRef .tc main_call0_v8)) = (V (Proc.devRef .tc main_call0_v8)) := by
  blk_ext! [at2_4 t]

theorem whole2_5 (V : Valuation τ sig (Elt F)) (t : Fin cfg2.N) :
    ((cfg2.win 5).blk t).view.read (Elt F) (V (Proc.devRef .tc main_call0_v9)) = (V (Proc.devRef .tc main_call0_v9)) := by
  blk_ext! [at2_5 t]

theorem at2_6 : ∀ t : Fin cfg2.N, win2_6.index t = ![0, t.val] := (by decide +kernel : ∀ t : Fin grid2.N, win2_6.index t = ![0, t.val])
theorem first2_iff : ∀ t : Fin cfg2.N, first2 (grid2.coords t) ↔ t.val = 0 := (by decide +kernel : ∀ t : Fin grid2.N, first2 (grid2.coords t) ↔ t.val = 0)
theorem last2_iff : ∀ t : Fin cfg2.N, k2_cond2 (grid2.coords t) = 1#1 ↔ t.val = 19 := (by decide +kernel : ∀ t : Fin grid2.N, k2_cond2 (grid2.coords t) = 1#1 ↔ t.val = 19)
theorem idle2_7 : ∀ t : Fin cfg2.N, (cfg2.idle 7 (grid2.coords t) = false ↔ t.val = 19) := (by decide +kernel : ∀ t : Fin grid2.N, (cfg2.idle 7 (grid2.coords t) = false ↔ t.val = 19))

/-- The block of edges the call holds at grid point `t`: columns `16000 t … 16000 t + 15999` of both rows. -/
abbrev edges2 (V : Valuation τ sig (Elt F)) (t : Fin cfg2.N) : S2x16000.Idx → Elt F .i32 :=
  ((cfg2.win 6).blk t).view.read (Elt F) (V (Proc.devRef .tc main_arg1))

theorem edges2_words (V : Valuation τ sig (Elt F)) (t : Fin cfg2.N) (r : Fin 2) (j : ℕ) (hj : j < 16000) :
    words (edges2 V t) r j = words (C := 320000) (V (Proc.devRef .tc main_arg1)) r (16000 * t.val + j) := by
  have ht : t.val < 20 := lt_of_lt_of_eq t.isLt N_2
  unfold words edges2
  blk_simp
  congr 2
  blk_ext [at2_6 t]
  show t.val * 16000 + j % 16000 = (16000 * t.val + j) % 320000
  omega

/-- The rows the edges carry. -/
def rowsOf2 (V : Valuation τ sig (Elt F)) : Vec F S10000x128 .f32 := k2_pay1 (V (Proc.devRef .tc main_call0_v4)) (V (Proc.devRef .tc main_call0_v6))

/-- The running sum after the first `n` edges. -/
def acc2 (V : Valuation τ sig (Elt F)) (n : ℕ) : Vec F S10000x128 .f32 :=
  rowFold FloatOps.addf (rowsOf2 V) (words (C := 320000) (V (Proc.devRef .tc main_arg1)) 0) (words (C := 320000) (V (Proc.devRef .tc main_arg1)) 1) k2_pay2 n

/-- What the second convolution call leaves in its result. -/
def res2 (V : Valuation τ sig (Elt F)) : Vec F S10000x128 .f32 :=
  out2 (V (Proc.devRef .tc main_call0_v4)) (V (Proc.devRef .tc main_call0_v5)) (acc2 V 320000) (V (Proc.devRef .tc main_call0_v7)) (V (Proc.devRef .tc main_call0_v8)) (V (Proc.devRef .tc main_call0_v9))

/-- The call's own buffers between two grid points, and what they hold past the first. -/
def carry2 (c : Dev nD) (V : Valuation τ sig (Elt F)) (n : ℕ) : sProp 𝕄G :=
  iprop(∃ g0 : (Memref.whole cc2_scratch0).view.ty.Contents (Elt F), ∃ g1 : (Memref.whole cc2_scratch1).view.ty.Contents (Elt F),
    ((Memref.whole cc2_scratch0).view.loc (c : Thread nD τ) ↦[(Memref.whole cc2_scratch0).view.set]{fullShare} g0) ∗
    ((Memref.whole cc2_scratch1).view.loc (c : Thread nD τ) ↦[(Memref.whole cc2_scratch1).view.set]{fullShare} g1) ∗
    ⌜n ≠ 0 → (Memref.whole cc2_scratch0).view.read (Elt F) g0 = rowsOf2 V ∧ (Memref.whole cc2_scratch1).view.read (Elt F) g1 = acc2 V (16000 * n)⌝ ∗
    Pipeline.scopedRestBut (Ix := Unit) (Name := ℕ) (U := UR sig nD τ) (Lvl := ℕ) (Val := Elt F) spec2 c [cc2_scratch0, cc2_scratch1])

/-- The proof data of the call entered at the memory `V`. -/
def dat2 (c : Dev nD) (V : Valuation τ sig (Elt F)) : Dat τ (Elt F) Unit ℕ (UR sig nD τ) ℕ cfg2 c where
  A w := V (Proc.devRef .tc (Pipeline.arrRef spec2 w))
  after w t := match w with
    | ⟨0, _⟩ => V (Proc.devRef .tc main_call0_v4)
    | ⟨1, _⟩ => V (Proc.devRef .tc main_call0_v5)
    | ⟨2, _⟩ => V (Proc.devRef .tc main_call0_v6)
    | ⟨3, _⟩ => V (Proc.devRef .tc main_call0_v7)
    | ⟨4, _⟩ => V (Proc.devRef .tc main_call0_v8)
    | ⟨5, _⟩ => V (Proc.devRef .tc main_call0_v9)
    | ⟨6, _⟩ => edges2 V t
    | ⟨7, _⟩ => res2 V
  Φ t := carry2 c V t.val
  q _ := fullShare
  owed _ := 0

theorem found2_0 (c : Dev nD) (V : Valuation τ sig (Elt F)) (t : Fin cfg2.N) (d) : (dat2 c V).before 0 t d = (V (Proc.devRef .tc main_call0_v4)) :=
  ((dat2 c V).before_in_eq_fetched 0 rfl (fun _ => rfl) (fun _ _ _ => rfl) (fun t => (whole2_0 V t).symm) t d).trans (whole2_0 V t)

theorem found2_1 (c : Dev nD) (V : Valuation τ sig (Elt F)) (t : Fin cfg2.N) (d) : (dat2 c V).before 1 t d = (V (Proc.devRef .tc main_call0_v5)) :=
  ((dat2 c V).before_in_eq_fetched 1 rfl (fun _ => rfl) (fun _ _ _ => rfl) (fun t => (whole2_1 V t).symm) t d).trans (whole2_1 V t)

theorem found2_2 (c : Dev nD) (V : Valuation τ sig (Elt F)) (t : Fin cfg2.N) (d) : (dat2 c V).before 2 t d = (V (Proc.devRef .tc main_call0_v6)) :=
  ((dat2 c V).before_in_eq_fetched 2 rfl (fun _ => rfl) (fun _ _ _ => rfl) (fun t => (whole2_2 V t).symm) t d).trans (whole2_2 V t)

theorem found2_3 (c : Dev nD) (V : Valuation τ sig (Elt F)) (t : Fin cfg2.N) (d) : (dat2 c V).before 3 t d = (V (Proc.devRef .tc main_call0_v7)) :=
  ((dat2 c V).before_in_eq_fetched 3 rfl (fun _ => rfl) (fun _ _ _ => rfl) (fun t => (whole2_3 V t).symm) t d).trans (whole2_3 V t)

theorem found2_4 (c : Dev nD) (V : Valuation τ sig (Elt F)) (t : Fin cfg2.N) (d) : (dat2 c V).before 4 t d = (V (Proc.devRef .tc main_call0_v8)) :=
  ((dat2 c V).before_in_eq_fetched 4 rfl (fun _ => rfl) (fun _ _ _ => rfl) (fun t => (whole2_4 V t).symm) t d).trans (whole2_4 V t)

theorem found2_5 (c : Dev nD) (V : Valuation τ sig (Elt F)) (t : Fin cfg2.N) (d) : (dat2 c V).before 5 t d = (V (Proc.devRef .tc main_call0_v9)) :=
  ((dat2 c V).before_in_eq_fetched 5 rfl (fun _ => rfl) (fun _ _ _ => rfl) (fun t => (whole2_5 V t).symm) t d).trans (whole2_5 V t)

theorem found2_6 (c : Dev nD) (V : Valuation τ sig (Elt F)) (t : Fin cfg2.N) (d) : (dat2 c V).before 6 t d = edges2 V t :=
  (dat2 c V).before_in_eq_fetched 6 rfl (fun _ => rfl) (fun _ _ _ => rfl) (fun _ => rfl) t d

theorem acc2_step (V : Valuation τ sig (Elt F)) (t : Fin cfg2.N) (A : Vec F S10000x128 .f32) (hA : t.val ≠ 0 → A = acc2 V (16000 * t.val)) :
    rowFold FloatOps.addf (rowsOf2 V) (words (edges2 V t) 0) (words (edges2 V t) 1) (start2 (grid2.coords t) A) 16000
      = acc2 V (16000 * (t.val + 1)) := by
  have h0 : start2 (grid2.coords t) A = acc2 V (16000 * t.val) := by
    by_cases h : t.val = 0
    · rw [start2, if_pos ((first2_iff t).mpr h), h]; rfl
    · rw [start2, if_neg (fun h' => h ((first2_iff t).mp h')), hA h]
  rw [h0, show 16000 * (t.val + 1) = 16000 * t.val + 16000 from by ring]
  unfold acc2
  rw [rowFold_add]
  exact rowFold_congr _ _ _ _ (fun j hj => edges2_words V t 0 j hj) (fun j hj => edges2_words V t 1 j hj)

theorem rows2_step (V : Valuation τ sig (Elt F)) (t : Fin cfg2.N) (X : Vec F S10000x128 .f32) (hX : t.val ≠ 0 → X = rowsOf2 V) :
    rows2 (grid2.coords t) (V (Proc.devRef .tc main_call0_v4)) (V (Proc.devRef .tc main_call0_v6)) X = rowsOf2 V := by
  by_cases h : t.val = 0
  · rw [rows2, if_pos ((first2_iff t).mpr h)]; rfl
  · rw [rows2, if_neg (fun h' => h ((first2_iff t).mp h')), hX h]

/-- The body at every grid point. -/
theorem bodyOk2 (c : Dev nD) (V : Valuation τ sig (Elt F)) (hV : ∀ y, (V (Proc.devRef .tc main_arg1) y : BitVec 32).toNat < 10000) :
    Pipeline.BodyObligation (dat2 c V) defs₀ Variants.none () Set.univ := by
  intro t
  rw [bigSep_W2, bigSep_W2]
  have hN : t.val < 20 := lt_of_lt_of_eq t.isLt N_2
  have hw : ∀ y, (edges2 V t y : BitVec 32).toNat < 10000 := fun y => by unfold edges2; blk_simp; exact hV _
  show _ ⊢ wp frame (wpE (defs₀ (F := F)) Variants.none (c : Thread nD τ) none) Set.univ (bodyAt2 t) _
  simp only [found2_0, found2_1, found2_2, found2_3, found2_4, found2_5, found2_6]
  refine BIBase.Entails.trans (Q := (wp frame (wpE (defs₀ (F := F)) Variants.none (c : Thread nD τ) none) Set.univ (bodyAt2 t) fun _ =>
      iprop(carry2 c V (t.val + 1) ∗ (dat2 c V).owesAt () t.succ
        ∗ owns (c : Thread nD τ) (st2_0 t) fullShare (V (Proc.devRef .tc main_call0_v4))
        ∗ owns (c : Thread nD τ) (st2_1 t) fullShare (V (Proc.devRef .tc main_call0_v5))
        ∗ owns (c : Thread nD τ) (st2_2 t) fullShare (V (Proc.devRef .tc main_call0_v6))
        ∗ owns (c : Thread nD τ) (st2_3 t) fullShare (V (Proc.devRef .tc main_call0_v7))
        ∗ owns (c : Thread nD τ) (st2_4 t) fullShare (V (Proc.devRef .tc main_call0_v8))
        ∗ owns (c : Thread nD τ) (st2_5 t) fullShare (V (Proc.devRef .tc main_call0_v9))
        ∗ owns (c : Thread nD τ) (st2_6 t) fullShare (edges2 V t)
        ∗ ∃ d, owns (c : Thread nD τ) (st2_7 t) fullShare (if t.val = 19 then (dat2 c V).after 7 t else (dat2 c V).before 7 t d)) : sProp 𝕄G)) ?_ ?_
  swap
  · refine wp_mono frame _ _ fun _ => ?_
    exact BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (Cert.RegionKit.leave_out (dat2 c V) 7 t (t.val = 19) (idle2_7 t) (fun h => by have := (flush2_7 t).mp h; omega))))))))))
  show iprop(carry2 c V t.val ∗ (dat2 c V).owesAt () t.castSucc ∗ _) ⊢ _
  unfold carry2 owns
  iintro ⟨⟨%s0, %s1, S0, S1, %hs, Hrest⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩⟩
  iapply (wp_wand_r frame _ _)
  isplitl [H0 H1 H2 H3 H4 H5 H6 H7 S0 S1]
  · iapply (body2 Variants.none c none Set.univ (grid2.coords t) _ _ _ _ _ _ _ _ _ _ _ _ _ _ _ _ _ _ _ _ f0 f1 f2 f3 f4 f5 f6 f7 s0 s1 (fun y => by rw [e6]; exact hw y)) $$ [H0 H1 H2 H3 H4 H5 H6 H7 S0 S1]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    iexact S1
  · iintro %u ⟨%go, %k0, %k1, H0, H1, H2, H3, H4, H5, H6, H7, S0, S1, %hp⟩
    rw [e0, e1, e2, e3, e4, e5, e6, rows2_step V t _ (fun h => (hs h).1)] at hp
    obtain ⟨hrows, hacc, hout⟩ := hp
    rw [hrows, acc2_step V t _ (fun h => (hs h).2)] at hacc
    isplitl [S0 S1 Hrest]
    · iexists k0, k1
      isplitl [S0]; · iexact S0
      isplitl [S1]; · iexact S1
      isplitr; · ipureintro; exact fun _ => ⟨hrows, hacc⟩
      iexact Hrest
    isplitl [HO]; · iexact HO
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    iexists d7, go
    isplitr
    · ipureintro
      rw [hout, hacc]
      by_cases h : t.val = 19
      · rw [if_pos ((last2_iff t).mpr h), if_pos h, h]; rfl
      · rw [if_neg (fun h' => h ((last2_iff t).mp h')), if_neg h]; exact e7
    · iexact H7

/-- The call's own buffers, as found. -/
theorem carry2_in (c : Dev nD) (V : Valuation τ sig (Elt F)) :
    (Pipeline.scopedRest (Ix := Unit) (Name := ℕ) (U := UR sig nD τ) (Lvl := ℕ) (Val := Elt F) spec2 c : sProp 𝕄G) ⊢ carry2 c V 0 := by
  rw [scopedRest2_split]
  unfold carry2
  simp only [Memref.view_whole, View.set_whole]
  iintro ⟨⟨⟨%g0, S0⟩, ⟨%g1, S1⟩⟩, Hr⟩
  iexists g0, g1
  isplitl [S0]; · iexact S0
  isplitl [S1]; · iexact S1
  isplitr; · ipureintro; exact fun h => absurd rfl h
  iexact Hr

/-- The call's own buffers, given back. -/
theorem carry2_out (c : Dev nD) (V : Valuation τ sig (Elt F)) (n : ℕ) :
    carry2 c V n ⊢ (Pipeline.scopedRest (Ix := Unit) (Name := ℕ) (U := UR sig nD τ) (Lvl := ℕ) (Val := Elt F) spec2 c : sProp 𝕄G) := by
  rw [scopedRest2_split]
  unfold carry2
  simp only [Memref.view_whole, View.set_whole]
  iintro ⟨%g0, %g1, S0, S1, -, Hr⟩
  isplitl [S0 S1]
  · isplitl [S0]; · iexists g0; iexact S0
    iexists g1; iexact S1
  iexact Hr

/-- The array the call writes ends at `res2`. -/
theorem final2 (c : Dev nD) (V : Valuation τ sig (Elt F)) : (dat2 c V).arrAt 7 cfg2.N = res2 V := by
  refine (dat2 c V).arrAt_eq_of_after_last 7 ⟨19, by decide +kernel⟩ (by decide +kernel) _ fun j => ?_
  blk_simp
  rfl

/-- After the call, memory differs from `V` in the result array only. -/
theorem leaves2 (c : Dev nD) (V : Valuation τ sig (Elt F)) :
    Pipeline.afterRegion (dat2 c V) V = Function.update V (Proc.devRef .tc main_call0_v10) (res2 V) := by
  refine (Cert.RegionKit.afterRegion_update (dat2 c V) V winFacts2.arr_inj (fun _ => rfl) 7 ?_).trans ?_
  · intro w hw
    fin_cases w
    all_goals first
      | rfl
      | exact absurd rfl hw
  · rw [final2]

end Cert.KernelIdeal.Val
-- ==== Proof.PoolTwoRegion.lean ====
/-
  The second pooling call as a region of the program: what it finds in its buffers at a grid point, what it leaves there, and the array
  it writes. Everything is a function of the memory `V` the call is entered with.
-/
module
public import proofs.«01_k».proof.Proof.PoolBody
public import proofs.«01_k».proof.Proof.RegionKit
public import proofs.«01_k».proof.Proof.Gen.KernelIdeal.Points
public import Idealize.ShloMosaic.Lib.Pipeline.ValueKit
@[expose] public section
set_option maxRecDepth 16384
set_option maxHeartbeats 4000000
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat)
open Idealize.ShloMosaic.ValueIdx (ix2)
open Cert.Edges
variable {F : FTy → Type} [FloatOps F]
local notation "𝕄G" => MT nD τ sig Unit (Elt F) ℕ (UR sig nD τ) ℕ

theorem at3_0 : ∀ t : Fin cfg3.N, win3_0.index t = ![0, 0] := (by decide +kernel : ∀ t : Fin grid3.N, win3_0.index t = ![0, 0])

theorem whole3_0 (V : Valuation τ sig (Elt F)) (t : Fin cfg3.N) :
    ((cfg3.win 0).blk t).view.read (Elt F) (V (Proc.devRef .tc main_call0_v10)) = (V (Proc.devRef .tc main_call0_v10)) := by
  blk_ext! [at3_0 t]

theorem at3_1 : ∀ t : Fin cfg3.N, win3_1.index t = ![0, t.val] := (by decide +kernel : ∀ t : Fin grid3.N, win3_1.index t = ![0, t.val])
theorem first3_iff : ∀ t : Fin cfg3.N, first1 (grid3.coords t) ↔ t.val = 0 := (by decide +kernel : ∀ t : Fin grid3.N, first1 (grid3.coords t) ↔ t.val = 0)
theorem last3_iff : ∀ t : Fin cfg3.N, k1_cond2 (grid3.coords t) = 1#1 ↔ t.val = 19 := (by decide +kernel : ∀ t : Fin grid3.N, k1_cond2 (grid3.coords t) = 1#1 ↔ t.val = 19)
theorem idle3_2 : ∀ t : Fin cfg3.N, (cfg3.idle 2 (grid3.coords t) = false ↔ t.val = 19) := (by decide +kernel : ∀ t : Fin grid3.N, (cfg3.idle 2 (grid3.coords t) = false ↔ t.val = 19))

/-- The block of edges the call holds at grid point `t`: columns `16000 t … 16000 t + 15999` of both rows. -/
abbrev edges3 (V : Valuation τ sig (Elt F)) (t : Fin cfg3.N) : S2x16000.Idx → Elt F .i32 :=
  ((cfg3.win 1).blk t).view.read (Elt F) (V (Proc.devRef .tc main_arg1))

theorem edges3_words (V : Valuation τ sig (Elt F)) (t : Fin cfg3.N) (r : Fin 2) (j : ℕ) (hj : j < 16000) :
    words (edges3 V t) r j = words (C := 320000) (V (Proc.devRef .tc main_arg1)) r (16000 * t.val + j) := by
  have ht : t.val < 20 := lt_of_lt_of_eq t.isLt N_3
  unfold words edges3
  blk_simp
  congr 2
  blk_ext [at3_1 t]
  show t.val * 16000 + j % 16000 = (16000 * t.val + j) % 320000
  omega

/-- The running maximum after the first `n` edges. -/
def acc3 (V : Valuation τ sig (Elt F)) (n : ℕ) : Vec F S10000x128 .f32 :=
  rowFold FloatOps.maximumf (V (Proc.devRef .tc main_call0_v10)) (words (C := 320000) (V (Proc.devRef .tc main_arg1)) 0) (words (C := 320000) (V (Proc.devRef .tc main_arg1)) 1) k1_pay1 n

/-- What the second pooling call leaves in its result. -/
def res3 (V : Valuation τ sig (Elt F)) : Vec F S10000x128 .f32 := k1_pay4 (V (Proc.devRef .tc main_call0_v10)) (acc3 V 320000)

/-- The call's own buffers between two grid points, and what they hold past the first. -/
def carry3 (c : Dev nD) (V : Valuation τ sig (Elt F)) (n : ℕ) : sProp 𝕄G :=
  iprop(∃ g0 : (Memref.whole cc3_scratch0).view.ty.Contents (Elt F),
    ((Memref.whole cc3_scratch0).view.loc (c : Thread nD τ) ↦[(Memref.whole cc3_scratch0).view.set]{fullShare} g0) ∗
    ⌜n ≠ 0 → (Memref.whole cc3_scratch0).view.read (Elt F) g0 = acc3 V (16000 * n)⌝ ∗
    Pipeline.scopedRestBut (Ix := Unit) (Name := ℕ) (U := UR sig nD τ) (Lvl := ℕ) (Val := Elt F) spec3 c [cc3_scratch0])

/-- The proof data of the call entered at the memory `V`. -/
def dat3 (c : Dev nD) (V : Valuation τ sig (Elt F)) : Dat τ (Elt F) Unit ℕ (UR sig nD τ) ℕ cfg3 c where
  A w := V (Proc.devRef .tc (Pipeline.arrRef spec3 w))
  after w t := match w with
    | ⟨0, _⟩ => V (Proc.devRef .tc main_call0_v10)
    | ⟨1, _⟩ => edges3 V t
    | ⟨2, _⟩ => res3 V
  Φ t := carry3 c V t.val
  q _ := fullShare
  owed _ := 0

theorem found3_0 (c : Dev nD) (V : Valuation τ sig (Elt F)) (t : Fin cfg3.N) (d) : (dat3 c V).before 0 t d = (V (Proc.devRef .tc main_call0_v10)) :=
  ((dat3 c V).before_in_eq_fetched 0 rfl (fun _ => rfl) (fun _ _ _ => rfl) (fun t => (whole3_0 V t).symm) t d).trans (whole3_0 V t)

theorem found3_1 (c : Dev nD) (V : Valuation τ sig (Elt F)) (t : Fin cfg3.N) (d) : (dat3 c V).before 1 t d = edges3 V t :=
  (dat3 c V).before_in_eq_fetched 1 rfl (fun _ => rfl) (fun _ _ _ => rfl) (fun _ => rfl) t d

theorem acc3_step (V : Valuation τ sig (Elt F)) (t : Fin cfg3.N) (A : Vec F S10000x128 .f32) (hA : t.val ≠ 0 → A = acc3 V (16000 * t.val)) :
    rowFold FloatOps.maximumf (V (Proc.devRef .tc main_call0_v10)) (words (edges3 V t) 0) (words (edges3 V t) 1) (start1 (grid3.coords t) A) 16000
      = acc3 V (16000 * (t.val + 1)) := by
  have h0 : start1 (grid3.coords t) A = acc3 V (16000 * t.val) := by
    by_cases h : t.val = 0
    · rw [start1, if_pos ((first3_iff t).mpr h), h]; rfl
    · rw [start1, if_neg (fun h' => h ((first3_iff t).mp h')), hA h]
  rw [h0, show 16000 * (t.val + 1) = 16000 * t.val + 16000 from by ring]
  unfold acc3
  rw [rowFold_add]
  exact rowFold_congr _ _ _ _ (fun j hj => edges3_words V t 0 j hj) (fun j hj => edges3_words V t 1 j hj)

/-- The body at every grid point. -/
theorem bodyOk3 (c : Dev nD) (V : Valuation τ sig (Elt F)) (hV : ∀ y, (V (Proc.devRef .tc main_arg1) y : BitVec 32).toNat < 10000) :
    Pipeline.BodyObligation (dat3 c V) defs₀ Variants.none () Set.univ := by
  intro t
  rw [bigSep_W3, bigSep_W3]
  have hN : t.val < 20 := lt_of_lt_of_eq t.isLt N_3
  have hw : ∀ y, (edges3 V t y : BitVec 32).toNat < 10000 := fun y => by unfold edges3; blk_simp; exact hV _
  show _ ⊢ wp frame (wpE (defs₀ (F := F)) Variants.none (c : Thread nD τ) none) Set.univ (bodyAt3 t) _
  simp only [found3_0, found3_1]
  refine BIBase.Entails.trans (Q := (wp frame (wpE (defs₀ (F := F)) Variants.none (c : Thread nD τ) none) Set.univ (bodyAt3 t) fun _ =>
      iprop(carry3 c V (t.val + 1) ∗ (dat3 c V).owesAt () t.succ
        ∗ owns (c : Thread nD τ) (st3_0 t) fullShare (V (Proc.devRef .tc main_call0_v10))
        ∗ owns (c : Thread nD τ) (st3_1 t) fullShare (edges3 V t)
        ∗ ∃ d, owns (c : Thread nD τ) (st3_2 t) fullShare (if t.val = 19 then (dat3 c V).after 2 t else (dat3 c V).before 2 t d)) : sProp 𝕄G)) ?_ ?_
  swap
  · refine wp_mono frame _ _ fun _ => ?_
    exact BIClass.sep_mono Entails.rfl (BIClass.sep_mono Entails.rfl (BIClass.sep_mono Entails.rfl (BIClass.sep_mono Entails.rfl (Cert.RegionKit.leave_out (dat3 c V) 2 t (t.val = 19) (idle3_2 t) (fun h => by have := (flush3_2 t).mp h; omega)))))
  show iprop(carry3 c V t.val ∗ (dat3 c V).owesAt () t.castSucc ∗ _) ⊢ _
  unfold carry3 owns
  iintro ⟨⟨%s0, S0, %hs, Hrest⟩, HO, ⟨%d0, %f0, %e0, H0⟩, ⟨%d1, %f1, %e1, H1⟩, ⟨%d2, %f2, %e2, H2⟩⟩
  iapply (wp_wand_r frame _ _)
  isplitl [H0 H1 H2 S0]
  · iapply (body1 Variants.none c none Set.univ (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) _ (Memref.isWhole_whole cc3_scratch0) f0 f1 f2 s0 (fun y => by rw [e1]; exact hw y)) $$ [H0 H1 H2 S0]
    isplitl [H0]; · iexact H0
    isplitl [H1]; · iexact H1
    isplitl [H2]; · iexact H2
    iexact S0
  · iintro %u ⟨%go, %k0, H0, H1, H2, S0, %hp⟩
    rw [e0, e1, acc3_step V t _ hs] at hp
    obtain ⟨hacc, hout⟩ := hp
    isplitl [S0 Hrest]
    · iexists k0
      isplitl [S0]; · iexact S0
      isplitr; · ipureintro; exact fun _ => hacc
      iexact Hrest
    isplitl [HO]; · iexact HO
    isplitl [H0]
    · iexists f0; isplitr; · ipureintro; exact e0
      iexact H0
    isplitl [H1]
    · iexists f1; isplitr; · ipureintro; exact e1
      iexact H1
    iexists d2, go
    isplitr
    · ipureintro
      rw [hout, hacc]
      by_cases h : t.val = 19
      · rw [if_pos ((last3_iff t).mpr h), if_pos h, h]; rfl
      · rw [if_neg (fun h' => h ((last3_iff t).mp h')), if_neg h]; exact e2
    · iexact H2

/-- The call's own buffers, as found. -/
theorem carry3_in (c : Dev nD) (V : Valuation τ sig (Elt F)) :
    (Pipeline.scopedRest (Ix := Unit) (Name := ℕ) (U := UR sig nD τ) (Lvl := ℕ) (Val := Elt F) spec3 c : sProp 𝕄G) ⊢ carry3 c V 0 := by
  rw [scopedRest3_split]
  unfold carry3
  simp only [Memref.view_whole, View.set_whole]
  iintro ⟨⟨%g0, S0⟩, Hr⟩
  iexists g0
  isplitl [S0]; · iexact S0
  isplitr; · ipureintro; exact fun h => absurd rfl h
  iexact Hr

/-- The call's own buffers, given back. -/
theorem carry3_out (c : Dev nD) (V : Valuation τ sig (Elt F)) (n : ℕ) :
    carry3 c V n ⊢ (Pipeline.scopedRest (Ix := Unit) (Name := ℕ) (U := UR sig nD τ) (Lvl := ℕ) (Val := Elt F) spec3 c : sProp 𝕄G) := by
  rw [scopedRest3_split]
  unfold carry3
  simp only [Memref.view_whole, View.set_whole]
  iintro ⟨%g0, S0, -, Hr⟩
  isplitl [S0]
  · iexists g0; iexact S0
  iexact Hr

/-- The array the call writes ends at `res3`. -/
theorem final3 (c : Dev nD) (V : Valuation τ sig (Elt F)) : (dat3 c V).arrAt 2 cfg3.N = res3 V := by
  refine (dat3 c V).arrAt_eq_of_after_last 2 ⟨19, by decide +kernel⟩ (by decide +kernel) _ fun j => ?_
  blk_simp
  rfl

/-- After the call, memory differs from `V` in the result array only. -/
theorem leaves3 (c : Dev nD) (V : Valuation τ sig (Elt F)) :
    Pipeline.afterRegion (dat3 c V) V = Function.update V (Proc.devRef .tc main_call0_v11) (res3 V) := by
  refine (Cert.RegionKit.afterRegion_update (dat3 c V) V winFacts3.arr_inj (fun _ => rfl) 2 ?_).trans ?_
  · intro w hw
    fin_cases w
    all_goals first
      | rfl
      | exact absurd rfl hw
  · rw [final3]

end Cert.KernelIdeal.Val
-- ==== Proof.ReadoutBody.lean ====
/-
  The readout, one grid point: it stores the normalised node features in a scratch buffer, and its loop visits the 10000
  nodes in order, adding each node's row into its graph's row of one scratch buffer and taking the maximum into its
  graph's row of another; from the two it computes the 100 results.
-/
module

public import proofs.«01_k».proof.Proof.Gen.KernelIdeal.Loops
public import proofs.«01_k».proof.Proof.Edges
public import Idealize.ShloMosaic.Lib.Pipeline.Value

@[expose] public section

set_option maxRecDepth 16384
set_option maxHeartbeats 4000000

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Edges

variable {F : FTy → Type} [FloatOps F]

/-- The resource algebra of the run. -/
local notation "𝕄G" => MT nD τ sig Unit (Elt F) ℕ (UR sig nD τ) ℕ

/-- The row a trip stores in the sums: the sum of the two rows it loads. -/
theorem k4_pay9_apply (a b : Vec F S1x3 .f32) (z : S1x3.Idx) : k4_pay9 b a z = FloatOps.addf (a z) (b z) := by
  unfold k4_pay9; simp only [shapeCast_self]; rfl

/-- The row a trip stores in the maxima: the maximum of the two rows it loads. -/
theorem k4_pay10_apply (a b : Vec F S1x3 .f32) (z : S1x3.Idx) : k4_pay10 b a z = FloatOps.maximumf (a z) (b z) := by
  unfold k4_pay10; simp only [shapeCast_self]; rfl

/-- A word below the number of graphs passes the kernel's range check. -/
theorem k4_chk_of (w : BitVec 32) (h : w.toNat < 100) :
    ∀ a, (![(Scalar.indexCast w).toNat, 0] : Fin 2 → ℕ) a + S1x3.size a ≤ S100x3.size a := by
  intro a; fin_cases a <;> simp [Scalar.indexCast] <;> omega

/-- The buffers of the loop: the graph of each node at `W`, the node rows at `X`, the sums at `g`, the maxima at `u`. -/
abbrev bufs4 (c : Dev nD) (arg1 : Memref sig .tc .smem S10000 .i32) (arg13 : Memref sig .tc .vmem S10000x3 .f32)
    (arg14 arg15 : Memref sig .tc .vmem S100x3 .f32)
    (W : arg1.view.ty.Contents (Elt F)) (X : arg13.view.ty.Contents (Elt F)) (g : arg14.view.ty.Contents (Elt F))
    (u : arg15.view.ty.Contents (Elt F)) : sProp 𝕄G :=
  iprop((arg1.view.loc (c : Thread nD τ) ↦[arg1.view.set]{fullShare} W) ∗ (arg13.view.loc (c : Thread nD τ) ↦[arg13.view.set]{fullShare} X)
    ∗ (arg14.view.loc (c : Thread nD τ) ↦[arg14.view.set]{fullShare} g) ∗ (arg15.view.loc (c : Thread nD τ) ↦[arg15.view.set]{fullShare} u))

/-- One trip: one more node folded into the sums and the maxima. -/
theorem trip4 (𝒱 : Variants) (c : Dev nD) (bd : Option 𝒱.V) (E : Set ℕ)
    (arg0 : Memref sig .tc .vmem S10000x128 .f32) (harg0 : arg0.IsWhole)
    (arg1 : Memref sig .tc .smem S10000 .i32) (harg1 : arg1.IsWhole)
    (arg2 : Memref sig .tc .vmem S100x1 .f32) (harg2 : arg2.IsWhole)
    (arg3 : Memref sig .tc .vmem S100x1 .f32) (harg3 : arg3.IsWhole)
    (arg4 : Memref sig .tc .vmem S1x3 .f32) (harg4 : arg4.IsWhole)
    (arg5 : Memref sig .tc .vmem S1x3 .f32) (harg5 : arg5.IsWhole)
    (arg6 : Memref sig .tc .vmem S1x3 .f32) (harg6 : arg6.IsWhole)
    (arg7 : Memref sig .tc .vmem S1x3 .f32) (harg7 : arg7.IsWhole)
    (arg8 : Memref sig .tc .vmem S1x6 .f32) (harg8 : arg8.IsWhole)
    (arg9 : Memref sig .tc .vmem S1x1 .f32) (harg9 : arg9.IsWhole)
    (arg10 : Memref sig .tc .vmem S1x3 .f32) (harg10 : arg10.IsWhole)
    (arg11 : Memref sig .tc .vmem S1x1 .f32) (harg11 : arg11.IsWhole)
    (arg12 : Memref sig .tc .vmem S100x1 .f32) (harg12 : arg12.IsWhole)
    (arg13 : Memref sig .tc .vmem S10000x3 .f32) (harg13 : arg13.IsWhole)
    (arg14 : Memref sig .tc .vmem S100x3 .f32) (harg14 : arg14.IsWhole)
    (arg15 : Memref sig .tc .vmem S100x3 .f32) (harg15 : arg15.IsWhole)
    (v15 v35 : FVec F S1x3 .f32) (v39 : FVec F S10000x3 .f32) (W : arg1.view.ty.Contents (Elt F)) (X : arg13.view.ty.Contents (Elt F)) (g G : arg14.view.ty.Contents (Elt F))
    (u U : arg15.view.ty.Contents (Elt F))
    (hw : ∀ y, ((arg1.view.read (Elt F) W) y : BitVec 32).toNat < 100) (k : Fin k4_t1_loop.trips)
    (hA : (arg14.view.read (Elt F) g) = rowFold FloatOps.addf (arg13.view.read (Elt F) X) (fun j => j) (words1 (arg1.view.read (Elt F) W)) (arg14.view.read (Elt F) G) k.val)
    (hB : (arg15.view.read (Elt F) u) = rowFold FloatOps.maximumf (arg13.view.read (Elt F) X) (fun j => j) (words1 (arg1.view.read (Elt F) W)) (arg15.view.read (Elt F) U) k.val) :
    bufs4 (F := F) c arg1 arg13 arg14 arg15 W X g u
    ⊢ wp frame (wpE (defs₀ (F := F)) 𝒱 (c : Thread nD τ) bd) E (k4_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v15 v35 v39 k PUnit.unit)
        (fun _ => iprop(∃ g' u', bufs4 (F := F) c arg1 arg13 arg14 arg15 W X g' u'
          ∗ ⌜(arg14.view.read (Elt F) g') = rowFold FloatOps.addf (arg13.view.read (Elt F) X) (fun j => j) (words1 (arg1.view.read (Elt F) W)) (arg14.view.read (Elt F) G) (k.val + 1)
            ∧ (arg15.view.read (Elt F) u') = rowFold FloatOps.maximumf (arg13.view.read (Elt F) X) (fun j => j) (words1 (arg1.view.read (Elt F) W)) (arg15.view.read (Elt F) U) (k.val + 1)⌝)) := by
  have hk : k.val < 10000 := Nat.lt_of_lt_of_le k.isLt k4_t1_abs.2.1
  have hc : ∀ (r : LoadRect S10000) (z), (arg1.view.readAt (Elt F) r W z : BitVec 32).toNat < 100 := fun r z => hw _
  unfold k4_t1_body
  iintro ⟨H1, H13, H14, H15⟩
  sl_exec (disch := first | exact k4_chk_of _ (hc _ _))
  sl_step
  iexists _
  iexists _
  isplitl
  · isplitl [H1]; · iexact H1
    isplitl [H13]; · iexact H13
    isplitl [H14]; · iexact H14
    iexact H15
  ipureintro
  have wd : ∀ {off : Fin 1 → ℕ} (inb : ∀ a, off a + S1.size a ≤ S10000.size a) (z : S1.Idx) {j : ℕ}
      (h : off = ![j]), (arg1.view.readAt (Elt F) (Rect.unit (s := S10000) off S1.size inb).toLoadRect W z : BitVec 32).toNat
        = words1 (arg1.view.read (Elt F) W) j := fun inb z _ h => readAt_word1 arg1.view W (fun w => w) inb z h
  have hs : (Scalar.indexCast (Scf.iv 0#32 1#32 k.val) : Index).toNat = k.val := congrFun (k4_off2_eq k) 0
  constructor
  · refine Eq.trans (read_rowStep FloatOps.addf (fun a b => k4_pay9 b a) k4_pay9_apply arg14.view arg13.view g X _
      (Scf.iv 0#32 1#32 k.val) _ _ _ _) ?_
    refine rowStep_congr hs (wd _ _ (k4_off1_eq k)) ?_
    exact hA
  · refine Eq.trans (read_rowStep FloatOps.maximumf (fun a b => k4_pay10 b a) k4_pay10_apply arg15.view arg13.view u X _
      (Scf.iv 0#32 1#32 k.val) _ _ _ _) ?_
    refine rowStep_congr hs (wd _ _ (k4_off1_eq k)) ?_
    exact hB

/-- Before trip `k`: the rows of the first `k` nodes folded into what the two scratch buffers held. -/
abbrev inv4 (c : Dev nD) (arg1 : Memref sig .tc .smem S10000 .i32) (arg13 : Memref sig .tc .vmem S10000x3 .f32)
    (arg14 arg15 : Memref sig .tc .vmem S100x3 .f32)
    (W : arg1.view.ty.Contents (Elt F)) (X : arg13.view.ty.Contents (Elt F)) (G : arg14.view.ty.Contents (Elt F))
    (U : arg15.view.ty.Contents (Elt F)) (k : ℕ) (_ : Unit) : sProp 𝕄G :=
  iprop((arg1.view.loc (c : Thread nD τ) ↦[arg1.view.set]{fullShare} W) ∗ (arg13.view.loc (c : Thread nD τ) ↦[arg13.view.set]{fullShare} X)
    ∗ (∃ g u, (arg14.view.loc (c : Thread nD τ) ↦[arg14.view.set]{fullShare} g) ∗ (arg15.view.loc (c : Thread nD τ) ↦[arg15.view.set]{fullShare} u)
      ∗ ⌜(arg14.view.read (Elt F) g) = rowFold FloatOps.addf (arg13.view.read (Elt F) X) (fun j => j) (words1 (arg1.view.read (Elt F) W)) (arg14.view.read (Elt F) G) k⌝
      ∗ ⌜(arg15.view.read (Elt F) u) = rowFold FloatOps.maximumf (arg13.view.read (Elt F) X) (fun j => j) (words1 (arg1.view.read (Elt F) W)) (arg15.view.read (Elt F) U) k⌝))

set_option warn.classDefReducibility false in
/-- The loop by its invariant. -/
@[sl_loop] def loop4 (𝒱 : Variants) (c : Dev nD) (bd : Option 𝒱.V) (E : Set ℕ)
    (arg0 : Memref sig .tc .vmem S10000x128 .f32) (harg0 : arg0.IsWhole)
    (arg1 : Memref sig .tc .smem S10000 .i32) (harg1 : arg1.IsWhole)
    (arg2 : Memref sig .tc .vmem S100x1 .f32) (harg2 : arg2.IsWhole)
    (arg3 : Memref sig .tc .vmem S100x1 .f32) (harg3 : arg3.IsWhole)
    (arg4 : Memref sig .tc .vmem S1x3 .f32) (harg4 : arg4.IsWhole)
    (arg5 : Memref sig .tc .vmem S1x3 .f32) (harg5 : arg5.IsWhole)
    (arg6 : Memref sig .tc .vmem S1x3 .f32) (harg6 : arg6.IsWhole)
    (arg7 : Memref sig .tc .vmem S1x3 .f32) (harg7 : arg7.IsWhole)
    (arg8 : Memref sig .tc .vmem S1x6 .f32) (harg8 : arg8.IsWhole)
    (arg9 : Memref sig .tc .vmem S1x1 .f32) (harg9 : arg9.IsWhole)
    (arg10 : Memref sig .tc .vmem S1x3 .f32) (harg10 : arg10.IsWhole)
    (arg11 : Memref sig .tc .vmem S1x1 .f32) (harg11 : arg11.IsWhole)
    (arg12 : Memref sig .tc .vmem S100x1 .f32) (harg12 : arg12.IsWhole)
    (arg13 : Memref sig .tc .vmem S10000x3 .f32) (harg13 : arg13.IsWhole)
    (arg14 : Memref sig .tc .vmem S100x3 .f32) (harg14 : arg14.IsWhole)
    (arg15 : Memref sig .tc .vmem S100x3 .f32) (harg15 : arg15.IsWhole)
    (v15 v35 : FVec F S1x3 .f32) (v39 : FVec F S10000x3 .f32) (W : arg1.view.ty.Contents (Elt F)) (X : arg13.view.ty.Contents (Elt F)) (G : arg14.view.ty.Contents (Elt F))
    (U : arg15.view.ty.Contents (Elt F))
    (hw : ∀ y, ((arg1.view.read (Elt F) W) y : BitVec 32).toNat < 100) :
    LoopInvTy_k4_t1 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v15 v35 v39 where
  inv := inv4 (F := F) c arg1 arg13 arg14 arg15 W X G U
  step k acc := by
    iintro ⟨H1, H13, ⟨%g, %u, H14, H15, %h, %h2⟩⟩
    iapply (wp_wand_r Idealize.ShloMosaic.frame (wpE (defs₀ (F := F)) 𝒱 (c : Thread nD τ) bd) E)
    isplitl [H1 H13 H14 H15]
    · iapply (trip4 (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v15 v35 v39 W X g G u U hw k h h2)
      isplitl [H1]; · iexact H1
      isplitl [H13]; · iexact H13
      isplitl [H14]; · iexact H14
      iexact H15
    · iintro %_ ⟨%g', %u', ⟨H1, H13, H14, H15⟩, %h'⟩
      isplitl [H1]; · iexact H1
      isplitl [H13]; · iexact H13
      iexists g'
      iexists u'
      isplitl [H14]; · iexact H14
      isplitl [H15]; · iexact H15
      isplitl
      · ipureintro; exact h'.1
      · ipureintro; exact h'.2

theorem trips4 : Scf.trips k4_t1_loop.lb k4_t1_loop.ub k4_t1_loop.st = 10000 := by decide +kernel

/-- The normalised node features, of the first column of the input, the weight, the bias, the scale and the shift. -/
abbrev feat4 (x : Vec F S10000x128 .f32) (w b g be : Vec F S1x3 .f32) : Vec F S10000x3 .f32 :=
  k4_pay6 (k4_pay3 be)
    (k4_pay4 (VecWindow.window (s := S10000x128) x ![0, 0] S10000x1.size inb_S10000x128_S10000x1_0_0) w b)
    (k4_pay5 (VecWindow.window (s := S10000x128) x ![0, 0] S10000x1.size inb_S10000x128_S10000x1_0_0) w b g)

/-- Each graph's sum of its nodes' rows. -/
abbrev sum4 (h : Vec F S10000x3 .f32) (mem : ℕ → ℕ) : Vec F S100x3 .f32 :=
  rowFold (N := 10000) (R := 100) (C := 3) FloatOps.addf h (fun j => j) mem (k4_pay7 (F := F)) 10000

/-- Each graph's maximum of its nodes' rows. -/
abbrev max4 (h : Vec F S10000x3 .f32) (mem : ℕ → ℕ) : Vec F S100x3 .f32 :=
  rowFold (N := 10000) (R := 100) (C := 3) FloatOps.maximumf h (fun j => j) mem (k4_pay8 (F := F)) 10000

/-- The 100 results, of the sums, the maxima, two further columns, and the two last layers' weights and biases. -/
abbrev out4 (sm mx : Vec F S100x3 .f32) (w : Vec F S1x6 .f32) (b : Vec F S1x1 .f32) (v : Vec F S1x3 .f32) (d : Vec F S1x1 .f32)
    (p q : Vec F S100x1 .f32) : Vec F S100x1 .f32 :=
  k4_pay1 (k4_pay11 mx) (k4_pay12 sm (VecWindow.window (s := S1x6) w ![0, 0] S1x3.size inb_S1x6_S1x3_0_0))
    (k4_pay13 (VecWindow.window (s := S1x6) w ![0, 3] S1x3.size inb_S1x6_S1x3_0_3)) b
    (VecWindow.window (s := S1x3) v ![0, 0] S1x1.size inb_S1x3_S1x1_0_0) p
    (VecWindow.window (s := S1x3) v ![0, 1] S1x1.size inb_S1x3_S1x1_0_1) q
    (VecWindow.window (s := S1x3) v ![0, 2] S1x1.size inb_S1x3_S1x1_0_2) d

/-- The kernel's one point: the stored result as a function of what the input buffers hold. -/
theorem body4 (𝒱 : Variants) (c : Dev nD) (bd : Option 𝒱.V) (E : Set ℕ)
    (arg0 : Memref sig .tc .vmem S10000x128 .f32) (harg0 : arg0.IsWhole)
    (arg1 : Memref sig .tc .smem S10000 .i32) (harg1 : arg1.IsWhole)
    (arg2 : Memref sig .tc .vmem S100x1 .f32) (harg2 : arg2.IsWhole)
    (arg3 : Memref sig .tc .vmem S100x1 .f32) (harg3 : arg3.IsWhole)
    (arg4 : Memref sig .tc .vmem S1x3 .f32) (harg4 : arg4.IsWhole)
    (arg5 : Memref sig .tc .vmem S1x3 .f32) (harg5 : arg5.IsWhole)
    (arg6 : Memref sig .tc .vmem S1x3 .f32) (harg6 : arg6.IsWhole)
    (arg7 : Memref sig .tc .vmem S1x3 .f32) (harg7 : arg7.IsWhole)
    (arg8 : Memref sig .tc .vmem S1x6 .f32) (harg8 : arg8.IsWhole)
    (arg9 : Memref sig .tc .vmem S1x1 .f32) (harg9 : arg9.IsWhole)
    (arg10 : Memref sig .tc .vmem S1x3 .f32) (harg10 : arg10.IsWhole)
    (arg11 : Memref sig .tc .vmem S1x1 .f32) (harg11 : arg11.IsWhole)
    (arg12 : Memref sig .tc .vmem S100x1 .f32) (harg12 : arg12.IsWhole)
    (arg13 : Memref sig .tc .vmem S10000x3 .f32) (harg13 : arg13.IsWhole)
    (arg14 : Memref sig .tc .vmem S100x3 .f32) (harg14 : arg14.IsWhole)
    (arg15 : Memref sig .tc .vmem S100x3 .f32) (harg15 : arg15.IsWhole)
    (f0 : arg0.view.ty.Contents (Elt F))
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (f11 : arg11.view.ty.Contents (Elt F))
    (f12 : arg12.view.ty.Contents (Elt F))
    (f13 : arg13.view.ty.Contents (Elt F))
    (f14 : arg14.view.ty.Contents (Elt F))
    (f15 : arg15.view.ty.Contents (Elt F))
    (hw : ∀ y, ((arg1.view.read (Elt F) f1) y : BitVec 32).toNat < 100) :
    (iprop((arg0.view.loc (c : Thread nD τ) ↦[arg0.view.set]{fullShare} f0)
      ∗ (arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)) : sProp 𝕄G)
    ⊢ wp frame (wpE (defs₀ (F := F)) 𝒱 (c : Thread nD τ) bd) E (cc4__readout_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15)
        (fun _ => iprop(∃ g12 g13 g14 g15, (arg0.view.loc (c : Thread nD τ) ↦[arg0.view.set]{fullShare} f0)
      ∗ (arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} g12)
      ∗ (arg13.view.loc (c : Thread nD τ) ↦[arg13.view.set]{fullShare} g13)
      ∗ (arg14.view.loc (c : Thread nD τ) ↦[arg14.view.set]{fullShare} g14)
      ∗ (arg15.view.loc (c : Thread nD τ) ↦[arg15.view.set]{fullShare} g15)
      ∗ ⌜(arg12.view.read (Elt F) g12) = out4
          (sum4 (feat4 (arg0.view.read (Elt F) f0) (arg4.view.read (Elt F) f4) (arg5.view.read (Elt F) f5) (arg6.view.read (Elt F) f6) (arg7.view.read (Elt F) f7)) (words1 (arg1.view.read (Elt F) f1)))
          (max4 (feat4 (arg0.view.read (Elt F) f0) (arg4.view.read (Elt F) f4) (arg5.view.read (Elt F) f5) (arg6.view.read (Elt F) f6) (arg7.view.read (Elt F) f7)) (words1 (arg1.view.read (Elt F) f1)))
          (arg8.view.read (Elt F) f8) (arg9.view.read (Elt F) f9) (arg10.view.read (Elt F) f10) (arg11.view.read (Elt F) f11) (arg2.view.read (Elt F) f2) (arg3.view.read (Elt F) f3)⌝)) := by
  simp only [cc4__readout_kernel_eq_skeleton]
  unfold cc4__readout_kernel_skel
  simp only [k4_part1_eq_skeleton, k4_part2_eq_skeleton]
  unfold k4_part1_skel k4_part2_skel
  simp only [bind_assoc, pure_bind]
  iintro ⟨H0, H1, H2, H3, H4, H5, H6, H7, H8, H9, H10, H11, H12, H13, H14, H15⟩
  sl_exec
  sl_step
  iexists _
  iexists _
  iexists _
  iexists _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  ipureintro
  have e14 : (arg14.view.read (Elt F) gL0) = sum4 (feat4 (arg0.view.read (Elt F) f0) (arg4.view.read (Elt F) f4) (arg5.view.read (Elt F) f5) (arg6.view.read (Elt F) f6) (arg7.view.read (Elt F) f7)) (words1 (arg1.view.read (Elt F) f1)) := by
    rw [hL4, trips4]
    refine congrArg₂ (fun X A => rowFold FloatOps.addf X (fun j => j) _ A 10000) ((View.read_writes_full _ _ _ _ _).trans ?_)
      (View.read_writes_full _ _ _ _ _)
    repeat rw [View.readAt_full]
    rfl
  have e15 : (arg15.view.read (Elt F) uL1) = max4 (feat4 (arg0.view.read (Elt F) f0) (arg4.view.read (Elt F) f4) (arg5.view.read (Elt F) f5) (arg6.view.read (Elt F) f6) (arg7.view.read (Elt F) f7)) (words1 (arg1.view.read (Elt F) f1)) := by
    rw [hL5, trips4]
    refine congrArg₂ (fun X A => rowFold FloatOps.maximumf X (fun j => j) _ A 10000) ((View.read_writes_full _ _ _ _ _).trans ?_)
      (View.read_writes_full _ _ _ _ _)
    repeat rw [View.readAt_full]
    rfl
  sl_unfold_words
  refine (View.read_writes_full _ _ _ _ _).trans ?_
  repeat rw [View.readAt_full]
  rw [e14, e15]
  rfl

end Cert.KernelIdeal.Val
-- ==== Proof.ReadoutRegion.lean ====
/-
  The readout call as a region of the program: what it finds in its buffers at a grid point, what it leaves there, and the array
  it writes. Everything is a function of the memory `V` the call is entered with.
-/
module
public import proofs.«01_k».proof.Proof.ReadoutBody
public import proofs.«01_k».proof.Proof.RegionKit
public import proofs.«01_k».proof.Proof.Gen.KernelIdeal.Points
public import Idealize.ShloMosaic.Lib.Pipeline.ValueKit
@[expose] public section
set_option maxRecDepth 16384
set_option maxHeartbeats 4000000
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat)
open Idealize.ShloMosaic.ValueIdx (ix2)
open Cert.Edges
variable {F : FTy → Type} [FloatOps F]
local notation "𝕄G" => MT nD τ sig Unit (Elt F) ℕ (UR sig nD τ) ℕ

theorem at4_0 : ∀ t : Fin cfg4.N, win4_0.index t = ![0, 0] := (by decide +kernel : ∀ t : Fin grid4.N, win4_0.index t = ![0, 0])
theorem at4_1 : ∀ t : Fin cfg4.N, win4_1.index t = ![0] := (by decide +kernel : ∀ t : Fin grid4.N, win4_1.index t = ![0])
theorem at4_2 : ∀ t : Fin cfg4.N, win4_2.index t = ![0, 0] := (by decide +kernel : ∀ t : Fin grid4.N, win4_2.index t = ![0, 0])
theorem at4_3 : ∀ t : Fin cfg4.N, win4_3.index t = ![0, 0] := (by decide +kernel : ∀ t : Fin grid4.N, win4_3.index t = ![0, 0])
theorem at4_4 : ∀ t : Fin cfg4.N, win4_4.index t = ![0, 0] := (by decide +kernel : ∀ t : Fin grid4.N, win4_4.index t = ![0, 0])
theorem at4_5 : ∀ t : Fin cfg4.N, win4_5.index t = ![0, 0] := (by decide +kernel : ∀ t : Fin grid4.N, win4_5.index t = ![0, 0])
theorem at4_6 : ∀ t : Fin cfg4.N, win4_6.index t = ![0, 0] := (by decide +kernel : ∀ t : Fin grid4.N, win4_6.index t = ![0, 0])
theorem at4_7 : ∀ t : Fin cfg4.N, win4_7.index t = ![0, 0] := (by decide +kernel : ∀ t : Fin grid4.N, win4_7.index t = ![0, 0])
theorem at4_8 : ∀ t : Fin cfg4.N, win4_8.index t = ![0, 0] := (by decide +kernel : ∀ t : Fin grid4.N, win4_8.index t = ![0, 0])
theorem at4_9 : ∀ t : Fin cfg4.N, win4_9.index t = ![0, 0] := (by decide +kernel : ∀ t : Fin grid4.N, win4_9.index t = ![0, 0])
theorem at4_10 : ∀ t : Fin cfg4.N, win4_10.index t = ![0, 0] := (by decide +kernel : ∀ t : Fin grid4.N, win4_10.index t = ![0, 0])
theorem at4_11 : ∀ t : Fin cfg4.N, win4_11.index t = ![0, 0] := (by decide +kernel : ∀ t : Fin grid4.N, win4_11.index t = ![0, 0])

theorem whole4_0 (V : Valuation τ sig (Elt F)) (t : Fin cfg4.N) :
    ((cfg4.win 0).blk t).view.read (Elt F) (V (Proc.devRef .tc main_call0_v11)) = (V (Proc.devRef .tc main_call0_v11)) := by
  blk_ext! [at4_0 t]

theorem whole4_1 (V : Valuation τ sig (Elt F)) (t : Fin cfg4.N) :
    ((cfg4.win 1).blk t).view.read (Elt F) (V (Proc.devRef .tc main_arg2)) = (V (Proc.devRef .tc main_arg2)) := by
  blk_ext! [at4_1 t]

theorem whole4_2 (V : Valuation τ sig (Elt F)) (t : Fin cfg4.N) :
    ((cfg4.win 2).blk t).view.read (Elt F) (V (Proc.devRef .tc main_arg3)) = (V (Proc.devRef .tc main_arg3)) := by
  blk_ext! [at4_2 t]

theorem whole4_3 (V : Valuation τ sig (Elt F)) (t : Fin cfg4.N) :
    ((cfg4.win 3).blk t).view.read (Elt F) (V (Proc.devRef .tc main_arg4)) = (V (Proc.devRef .tc main_arg4)) := by
  blk_ext! [at4_3 t]

theorem whole4_4 (V : Valuation τ sig (Elt F)) (t : Fin cfg4.N) :
    ((cfg4.win 4).blk t).view.read (Elt F) (V (Proc.devRef .tc main_arg15)) = (V (Proc.devRef .tc main_arg15)) := by
  blk_ext! [at4_4 t]

theorem whole4_5 (V : Valuation τ sig (Elt F)) (t : Fin cfg4.N) :
    ((cfg4.win 5).blk t).view.read (Elt F) (V (Proc.devRef .tc main_call0_v12)) = (V (Proc.devRef .tc main_call0_v12)) := by
  blk_ext! [at4_5 t]

theorem whole4_6 (V : Valuation τ sig (Elt F)) (t : Fin cfg4.N) :
    ((cfg4.win 6).blk t).view.read (Elt F) (V (Proc.devRef .tc main_call0_v13)) = (V (Proc.devRef .tc main_call0_v13)) := by
  blk_ext! [at4_6 t]

theorem whole4_7 (V : Valuation τ sig (Elt F)) (t : Fin cfg4.N) :
    ((cfg4.win 7).blk t).view.read (Elt F) (V (Proc.devRef .tc main_call0_v14)) = (V (Proc.devRef .tc main_call0_v14)) := by
  blk_ext! [at4_7 t]

theorem whole4_8 (V : Valuation τ sig (Elt F)) (t : Fin cfg4.N) :
    ((cfg4.win 8).blk t).view.read (Elt F) (V (Proc.devRef .tc main_call0_v15)) = (V (Proc.devRef .tc main_call0_v15)) := by
  blk_ext! [at4_8 t]

theorem whole4_9 (V : Valuation τ sig (Elt F)) (t : Fin cfg4.N) :
    ((cfg4.win 9).blk t).view.read (Elt F) (V (Proc.devRef .tc main_call0_v16)) = (V (Proc.devRef .tc main_call0_v16)) := by
  blk_ext! [at4_9 t]

theorem whole4_10 (V : Valuation τ sig (Elt F)) (t : Fin cfg4.N) :
    ((cfg4.win 10).blk t).view.read (Elt F) (V (Proc.devRef .tc main_call0_v17)) = (V (Proc.devRef .tc main_call0_v17)) := by
  blk_ext! [at4_10 t]

theorem whole4_11 (V : Valuation τ sig (Elt F)) (t : Fin cfg4.N) :
    ((cfg4.win 11).blk t).view.read (Elt F) (V (Proc.devRef .tc main_call0_v18)) = (V (Proc.devRef .tc main_call0_v18)) := by
  blk_ext! [at4_11 t]

/-- What the readout call leaves in its result. -/
def res4 (V : Valuation τ sig (Elt F)) : Vec F S100x1 .f32 :=
  out4 (sum4 (feat4 (V (Proc.devRef .tc main_call0_v11)) (V (Proc.devRef .tc main_arg15)) (V (Proc.devRef .tc main_call0_v12)) (V (Proc.devRef .tc main_call0_v13)) (V (Proc.devRef .tc main_call0_v14))) (words1 (C := 10000) (V (Proc.devRef .tc main_arg2))))
    (max4 (feat4 (V (Proc.devRef .tc main_call0_v11)) (V (Proc.devRef .tc main_arg15)) (V (Proc.devRef .tc main_call0_v12)) (V (Proc.devRef .tc main_call0_v13)) (V (Proc.devRef .tc main_call0_v14))) (words1 (C := 10000) (V (Proc.devRef .tc main_arg2))))
    (V (Proc.devRef .tc main_call0_v15)) (V (Proc.devRef .tc main_call0_v16)) (V (Proc.devRef .tc main_call0_v17)) (V (Proc.devRef .tc main_call0_v18)) (V (Proc.devRef .tc main_arg3)) (V (Proc.devRef .tc main_arg4))

/-- The call's own buffers between two grid points, and what they hold past the first. -/
def carry4 (c : Dev nD) (V : Valuation τ sig (Elt F)) (n : ℕ) : sProp 𝕄G :=
  iprop(∃ g0 : (Memref.whole cc4_scratch0).view.ty.Contents (Elt F), ∃ g1 : (Memref.whole cc4_scratch1).view.ty.Contents (Elt F), ∃ g2 : (Memref.whole cc4_scratch2).view.ty.Contents (Elt F),
    ((Memref.whole cc4_scratch0).view.loc (c : Thread nD τ) ↦[(Memref.whole cc4_scratch0).view.set]{fullShare} g0) ∗
    ((Memref.whole cc4_scratch1).view.loc (c : Thread nD τ) ↦[(Memref.whole cc4_scratch1).view.set]{fullShare} g1) ∗
    ((Memref.whole cc4_scratch2).view.loc (c : Thread nD τ) ↦[(Memref.whole cc4_scratch2).view.set]{fullShare} g2) ∗
    Pipeline.scopedRestBut (Ix := Unit) (Name := ℕ) (U := UR sig nD τ) (Lvl := ℕ) (Val := Elt F) spec4 c [cc4_scratch0, cc4_scratch1, cc4_scratch2])

/-- The proof data of the call entered at the memory `V`. -/
def dat4 (c : Dev nD) (V : Valuation τ sig (Elt F)) : Dat τ (Elt F) Unit ℕ (UR sig nD τ) ℕ cfg4 c where
  A w := V (Proc.devRef .tc (Pipeline.arrRef spec4 w))
  after w t := match w with
    | ⟨0, _⟩ => V (Proc.devRef .tc main_call0_v11)
    | ⟨1, _⟩ => V (Proc.devRef .tc main_arg2)
    | ⟨2, _⟩ => V (Proc.devRef .tc main_arg3)
    | ⟨3, _⟩ => V (Proc.devRef .tc main_arg4)
    | ⟨4, _⟩ => V (Proc.devRef .tc main_arg15)
    | ⟨5, _⟩ => V (Proc.devRef .tc main_call0_v12)
    | ⟨6, _⟩ => V (Proc.devRef .tc main_call0_v13)
    | ⟨7, _⟩ => V (Proc.devRef .tc main_call0_v14)
    | ⟨8, _⟩ => V (Proc.devRef .tc main_call0_v15)
    | ⟨9, _⟩ => V (Proc.devRef .tc main_call0_v16)
    | ⟨10, _⟩ => V (Proc.devRef .tc main_call0_v17)
    | ⟨11, _⟩ => V (Proc.devRef .tc main_call0_v18)
    | ⟨12, _⟩ => res4 V
  Φ t := carry4 c V t.val
  q _ := fullShare
  owed _ := 0

theorem found4_0 (c : Dev nD) (V : Valuation τ sig (Elt F)) (t : Fin cfg4.N) (d) : (dat4 c V).before 0 t d = (V (Proc.devRef .tc main_call0_v11)) :=
  ((dat4 c V).before_in_eq_fetched 0 rfl (fun _ => rfl) (fun _ _ _ => rfl) (fun t => (whole4_0 V t).symm) t d).trans (whole4_0 V t)

theorem found4_1 (c : Dev nD) (V : Valuation τ sig (Elt F)) (t : Fin cfg4.N) (d) : (dat4 c V).before 1 t d = (V (Proc.devRef .tc main_arg2)) :=
  ((dat4 c V).before_in_eq_fetched 1 rfl (fun _ => rfl) (fun _ _ _ => rfl) (fun t => (whole4_1 V t).symm) t d).trans (whole4_1 V t)

theorem found4_2 (c : Dev nD) (V : Valuation τ sig (Elt F)) (t : Fin cfg4.N) (d) : (dat4 c V).before 2 t d = (V (Proc.devRef .tc main_arg3)) :=
  ((dat4 c V).before_in_eq_fetched 2 rfl (fun _ => rfl) (fun _ _ _ => rfl) (fun t => (whole4_2 V t).symm) t d).trans (whole4_2 V t)

theorem found4_3 (c : Dev nD) (V : Valuation τ sig (Elt F)) (t : Fin cfg4.N) (d) : (dat4 c V).before 3 t d = (V (Proc.devRef .tc main_arg4)) :=
  ((dat4 c V).before_in_eq_fetched 3 rfl (fun _ => rfl) (fun _ _ _ => rfl) (fun t => (whole4_3 V t).symm) t d).trans (whole4_3 V t)

theorem found4_4 (c : Dev nD) (V : Valuation τ sig (Elt F)) (t : Fin cfg4.N) (d) : (dat4 c V).before 4 t d = (V (Proc.devRef .tc main_arg15)) :=
  ((dat4 c V).before_in_eq_fetched 4 rfl (fun _ => rfl) (fun _ _ _ => rfl) (fun t => (whole4_4 V t).symm) t d).trans (whole4_4 V t)

theorem found4_5 (c : Dev nD) (V : Valuation τ sig (Elt F)) (t : Fin cfg4.N) (d) : (dat4 c V).before 5 t d = (V (Proc.devRef .tc main_call0_v12)) :=
  ((dat4 c V).before_in_eq_fetched 5 rfl (fun _ => rfl) (fun _ _ _ => rfl) (fun t => (whole4_5 V t).symm) t d).trans (whole4_5 V t)

theorem found4_6 (c : Dev nD) (V : Valuation τ sig (Elt F)) (t : Fin cfg4.N) (d) : (dat4 c V).before 6 t d = (V (Proc.devRef .tc main_call0_v13)) :=
  ((dat4 c V).before_in_eq_fetched 6 rfl (fun _ => rfl) (fun _ _ _ => rfl) (fun t => (whole4_6 V t).symm) t d).trans (whole4_6 V t)

theorem found4_7 (c : Dev nD) (V : Valuation τ sig (Elt F)) (t : Fin cfg4.N) (d) : (dat4 c V).before 7 t d = (V (Proc.devRef .tc main_call0_v14)) :=
  ((dat4 c V).before_in_eq_fetched 7 rfl (fun _ => rfl) (fun _ _ _ => rfl) (fun t => (whole4_7 V t).symm) t d).trans (whole4_7 V t)

theorem found4_8 (c : Dev nD) (V : Valuation τ sig (Elt F)) (t : Fin cfg4.N) (d) : (dat4 c V).before 8 t d = (V (Proc.devRef .tc main_call0_v15)) :=
  ((dat4 c V).before_in_eq_fetched 8 rfl (fun _ => rfl) (fun _ _ _ => rfl) (fun t => (whole4_8 V t).symm) t d).trans (whole4_8 V t)

theorem found4_9 (c : Dev nD) (V : Valuation τ sig (Elt F)) (t : Fin cfg4.N) (d) : (dat4 c V).before 9 t d = (V (Proc.devRef .tc main_call0_v16)) :=
  ((dat4 c V).before_in_eq_fetched 9 rfl (fun _ => rfl) (fun _ _ _ => rfl) (fun t => (whole4_9 V t).symm) t d).trans (whole4_9 V t)

theorem found4_10 (c : Dev nD) (V : Valuation τ sig (Elt F)) (t : Fin cfg4.N) (d) : (dat4 c V).before 10 t d = (V (Proc.devRef .tc main_call0_v17)) :=
  ((dat4 c V).before_in_eq_fetched 10 rfl (fun _ => rfl) (fun _ _ _ => rfl) (fun t => (whole4_10 V t).symm) t d).trans (whole4_10 V t)

theorem found4_11 (c : Dev nD) (V : Valuation τ sig (Elt F)) (t : Fin cfg4.N) (d) : (dat4 c V).before 11 t d = (V (Proc.devRef .tc main_call0_v18)) :=
  ((dat4 c V).before_in_eq_fetched 11 rfl (fun _ => rfl) (fun _ _ _ => rfl) (fun t => (whole4_11 V t).symm) t d).trans (whole4_11 V t)

/-- The body at every grid point. -/
theorem bodyOk4 (c : Dev nD) (V : Valuation τ sig (Elt F)) (hV : ∀ y, (V (Proc.devRef .tc main_arg2) y : BitVec 32).toNat < 100) :
    Pipeline.BodyObligation (dat4 c V) defs₀ Variants.none () Set.univ := by
  intro t
  rw [bigSep_W4, bigSep_W4]
  show _ ⊢ wp frame (wpE (defs₀ (F := F)) Variants.none (c : Thread nD τ) none) Set.univ (bodyAt4 t) _
  simp only [found4_0, found4_1, found4_2, found4_3, found4_4, found4_5, found4_6, found4_7, found4_8, found4_9, found4_10, found4_11]
  refine BIBase.Entails.trans (Q := (wp frame (wpE (defs₀ (F := F)) Variants.none (c : Thread nD τ) none) Set.univ (bodyAt4 t) fun _ =>
      iprop(carry4 c V (t.val + 1) ∗ (dat4 c V).owesAt () t.succ
        ∗ owns (c : Thread nD τ) (st4_0 t) fullShare (V (Proc.devRef .tc main_call0_v11))
        ∗ owns (c : Thread nD τ) (st4_1 t) fullShare (V (Proc.devRef .tc main_arg2))
        ∗ owns (c : Thread nD τ) (st4_2 t) fullShare (V (Proc.devRef .tc main_arg3))
        ∗ owns (c : Thread nD τ) (st4_3 t) fullShare (V (Proc.devRef .tc main_arg4))
        ∗ owns (c : Thread nD τ) (st4_4 t) fullShare (V (Proc.devRef .tc main_arg15))
        ∗ owns (c : Thread nD τ) (st4_5 t) fullShare (V (Proc.devRef .tc main_call0_v12))
        ∗ owns (c : Thread nD τ) (st4_6 t) fullShare (V (Proc.devRef .tc main_call0_v13))
        ∗ owns (c : Thread nD τ) (st4_7 t) fullShare (V (Proc.devRef .tc main_call0_v14))
        ∗ owns (c : Thread nD τ) (st4_8 t) fullShare (V (Proc.devRef .tc main_call0_v15))
        ∗ owns (c : Thread nD τ) (st4_9 t) fullShare (V (Proc.devRef .tc main_call0_v16))
        ∗ owns (c : Thread nD τ) (st4_10 t) fullShare (V (Proc.devRef .tc main_call0_v17))
        ∗ owns (c : Thread nD τ) (st4_11 t) fullShare (V (Proc.devRef .tc main_call0_v18))
        ∗ owns (c : Thread nD τ) (st4_12 t) fullShare (res4 V)) : sProp 𝕄G)) ?_ ?_
  swap
  · refine wp_mono frame _ _ fun _ => ?_
    exact BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl (BIClass.sep_mono Entails.rfl Entails.rfl)))))))))))))
  show iprop(carry4 c V t.val ∗ (dat4 c V).owesAt () t.castSucc ∗ _) ⊢ _
  unfold carry4 owns
  iintro ⟨⟨%s0, %s1, %s2, S0, S1, S2, Hrest⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩⟩
  iapply (wp_wand_r frame _ _)
  isplitl [H0 H1 H2 H3 H4 H5 H6 H7 H8 H9 H10 H11 H12 S0 S1 S2]
  · iapply (body4 Variants.none c none Set.univ _ _ _ _ _ _ _ _ _ _ _ _ _ _ _ _ _ _ _ _ _ _ _ _ _ _ _ _ _ _ _ _ f0 f1 f2 f3 f4 f5 f6 f7 f8 f9 f10 f11 f12 s0 s1 s2 (fun y => by rw [e1]; exact hV y)) $$ [H0 H1 H2 H3 H4 H5 H6 H7 H8 H9 H10 H11 H12 S0 S1 S2]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    iexact S2
  · iintro %u ⟨%go, %k0, %k1, %k2, H0, H1, H2, H3, H4, H5, H6, H7, H8, H9, H10, H11, H12, S0, S1, S2, %hp⟩
    rw [e0, e1, e2, e3, e4, e5, e6, e7, e8, e9, e10, e11] at hp
    isplitl [S0 S1 S2 Hrest]
    · iexists k0, k1, k2
      isplitl [S0]; · iexact S0
      isplitl [S1]; · iexact S1
      isplitl [S2]; · iexact S2
      iexact Hrest
    isplitl [HO]; · iexact HO
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    isplitl [H11]
    · iexists f11; isplitr; · ipureintro; exact e11
      iexact H11
    iexists go
    isplitr; · ipureintro; exact hp
    iexact H12

/-- The call's own buffers, as found. -/
theorem carry4_in (c : Dev nD) (V : Valuation τ sig (Elt F)) :
    (Pipeline.scopedRest (Ix := Unit) (Name := ℕ) (U := UR sig nD τ) (Lvl := ℕ) (Val := Elt F) spec4 c : sProp 𝕄G) ⊢ carry4 c V 0 := by
  rw [scopedRest4_split]
  unfold carry4
  simp only [Memref.view_whole, View.set_whole]
  iintro ⟨⟨⟨%g0, S0⟩, ⟨%g1, S1⟩, ⟨%g2, S2⟩⟩, Hr⟩
  iexists g0, g1, g2
  isplitl [S0]; · iexact S0
  isplitl [S1]; · iexact S1
  isplitl [S2]; · iexact S2
  iexact Hr

/-- The call's own buffers, given back. -/
theorem carry4_out (c : Dev nD) (V : Valuation τ sig (Elt F)) (n : ℕ) :
    carry4 c V n ⊢ (Pipeline.scopedRest (Ix := Unit) (Name := ℕ) (U := UR sig nD τ) (Lvl := ℕ) (Val := Elt F) spec4 c : sProp 𝕄G) := by
  rw [scopedRest4_split]
  unfold carry4
  simp only [Memref.view_whole, View.set_whole]
  iintro ⟨%g0, %g1, %g2, S0, S1, S2, Hr⟩
  isplitl [S0 S1 S2]
  · isplitl [S0]; · iexists g0; iexact S0
    isplitl [S1]; · iexists g1; iexact S1
    iexists g2; iexact S2
  iexact Hr

/-- The array the call writes ends at `res4`. -/
theorem final4 (c : Dev nD) (V : Valuation τ sig (Elt F)) : (dat4 c V).arrAt 12 cfg4.N = res4 V := by
  refine (dat4 c V).arrAt_eq_of_after_last 12 t4_0 (by decide +kernel) _ fun j => ?_
  blk_simp
  rfl

/-- After the call, memory differs from `V` in the result array only. -/
theorem leaves4 (c : Dev nD) (V : Valuation τ sig (Elt F)) :
    Pipeline.afterRegion (dat4 c V) V = Function.update V (Proc.devRef .tc main_v0) (res4 V) := by
  refine (Cert.RegionKit.afterRegion_update (dat4 c V) V winFacts4.arr_inj (fun _ => rfl) 12 ?_).trans ?_
  · intro w hw
    fin_cases w
    all_goals first
      | rfl
      | exact absurd rfl hw
  · rw [final4]

end Cert.KernelIdeal.Val
-- ==== Proof.Run.lean ====
/-
  The whole program run: the five calls and the host reshapes between them, from a launch memory whose edge words name nodes and
  whose membership words name graphs. Every run ends, with every buffer of the program at the last of the memories below.
-/
module
public import proofs.«01_k».proof.Proof.ConvOneRegion
public import proofs.«01_k».proof.Proof.PoolOneRegion
public import proofs.«01_k».proof.Proof.ConvTwoRegion
public import proofs.«01_k».proof.Proof.PoolTwoRegion
public import proofs.«01_k».proof.Proof.ReadoutRegion
@[expose] public section
set_option maxRecDepth 16384
set_option maxHeartbeats 4000000
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Seg HostSeg RegionSeg)
variable {F : FTy → Type} [FloatOps F]
local notation "𝕄G" => MT nD τ sig Unit (Elt F) ℕ (UR sig nD τ) ℕ

variable (m : (ℓ : Loc nD τ sig) → Buf (Elt F) ℓ)

/-! ## The memories between the calls -/

/-- After the first convolution. -/
def U2 (c : Dev nD) : Valuation τ sig (Elt F) := Function.update (V1 m c) main_call0_v3 (res0 (V1 m c))
/-- After the first pooling. -/
def U3 (c : Dev nD) : Valuation τ sig (Elt F) := Function.update (U2 m c) main_call0_v4 (res1 (U2 m c))
/-- After the second convolution's vectors are laid out as rows. -/
def U4 (c : Dev nD) : Valuation τ sig (Elt F) := StableHlo.after hostOps2 (U3 m c)
/-- After the second convolution. -/
def U5 (c : Dev nD) : Valuation τ sig (Elt F) := Function.update (U4 m c) main_call0_v10 (res2 (U4 m c))
/-- After the second pooling. -/
def U6 (c : Dev nD) : Valuation τ sig (Elt F) := Function.update (U5 m c) main_call0_v11 (res3 (U5 m c))
/-- After the readout's vectors are laid out as rows. -/
def U7 (c : Dev nD) : Valuation τ sig (Elt F) := StableHlo.after hostOps4 (U6 m c)
/-- At the end. -/
def U8 (c : Dev nD) : Valuation τ sig (Elt F) := Function.update (U7 m c) main_v0 (res4 (U7 m c))

/-- What each call leaves in the array it writes. -/
def outs : Outs (F := F) := fun k r c =>
  if k = 2 then U2 m c r else if k = 3 then U3 m c r else if k = 5 then U5 m c r else if k = 6 then U6 m c r else U8 m c r

theorem V2_eq (c : Dev nD) : V2 m (outs m) c = U2 m c := by
  show Function.update (V1 m c) _ (U2 m c main_call0_v3) = _
  rw [U2, Function.update_self]
theorem V3_eq (c : Dev nD) : V3 m (outs m) c = U3 m c := by
  show Function.update (V2 m (outs m) c) _ (U3 m c main_call0_v4) = _
  rw [V2_eq, U3, Function.update_self]
theorem V4_eq (c : Dev nD) : V4 m (outs m) c = U4 m c := by
  show StableHlo.after hostOps2 (V3 m (outs m) c) = _
  rw [V3_eq, U4]
theorem V5_eq (c : Dev nD) : V5 m (outs m) c = U5 m c := by
  show Function.update (V4 m (outs m) c) _ (U5 m c main_call0_v10) = _
  rw [V4_eq, U5, Function.update_self]
theorem V6_eq (c : Dev nD) : V6 m (outs m) c = U6 m c := by
  show Function.update (V5 m (outs m) c) _ (U6 m c main_call0_v11) = _
  rw [V5_eq, U6, Function.update_self]
theorem V7_eq (c : Dev nD) : V7 m (outs m) c = U7 m c := by
  show StableHlo.after hostOps4 (V6 m (outs m) c) = _
  rw [V6_eq, U7]
theorem V8_eq (c : Dev nD) : V8 m (outs m) c = U8 m c := by
  show Function.update (V7 m (outs m) c) _ (U8 m c main_v0) = _
  rw [V7_eq, U8, Function.update_self]

/-! ## The regions -/

/-- Each call's proof data, entered at the memory it finds. -/
def pdats : (p : Fin 5) → (c : Dev nD) → Dat τ (Elt F) Unit ℕ (UR sig nD τ) ℕ (cfgs p) c
  | ⟨0, _⟩, c => dat0 c (V1 m c)
  | ⟨1, _⟩, c => dat1 c (U2 m c)
  | ⟨2, _⟩, c => dat2 c (U4 m c)
  | ⟨3, _⟩, c => dat3 c (U5 m c)
  | ⟨4, _⟩, c => dat4 c (U7 m c)

/-- The levels: every wait of the program is at one level. -/
def lvls (g : GSem nD τ sig) : Finset Unit := if g.1.2 = .tc then Finset.univ else ∅
/-- Every wait is at level zero. -/
def lv0 : GSem nD τ sig → Unit → ℕ := fun _ _ => 0

/-- Beside the buffers, a core carries the fact that it owes nothing. -/
def idleE (_ : Fin 6) (c : Dev nD) : sProp 𝕄G := iprop(∃ W, owes (c : Thread nD τ) (0 : CellTallies nD τ sig Unit) W)

set_option backward.isDefEq.respectTransparency.types false in
/-- A call's region, from its body's proof and what it does with its own buffers. -/
def region (p : Fin 5) (V : Dev nD → Valuation τ sig (Elt F)) (kit : Pipeline.LaunchFacts (nD := nD) (τ := τ) cfgs p)
    (hbody : ∀ c, Pipeline.BodyObligation (pdats m p c) defs₀ Variants.none () Set.univ)
    (howed : ∀ c t, (pdats m p c).owed t = 0) (hrec : ∀ c, (pdats m p c).recorded 0 = Set.univ) (hq : ∀ c w, (pdats m p c).q w = fullShare)
    (hin : ∀ c, (Pipeline.scopedRest (Ix := Unit) (Name := ℕ) (U := UR sig nD τ) (Lvl := ℕ) (Val := Elt F) (cfgs p).spec c : sProp 𝕄G) ⊢ (pdats m p c).Φ 0)
    (hout : ∀ c, (pdats m p c).Φ (Fin.last (cfgs p).N) ⊢ (Pipeline.scopedRest (Ix := Unit) (Name := ℕ) (U := UR sig nD τ) (Lvl := ℕ) (Val := Elt F) (cfgs p).spec c : sProp 𝕄G))
    (hA : ∀ c w, (pdats m p c).A w = V c (Proc.devRef .tc (Pipeline.arrRef (cfgs p).spec w))) :
    RegionSeg (pcfgs (F := F)) adm (pdats m) () defs₀ Variants.none lvls lv0 p :=
  RegionSeg.ofHeldIn (pcfgs (F := F)) adm (pdats m) () defs₀ Variants.none lvls lv0 p (fun _ => 0) (Pipeline.ucRefs τ sig)
    (fun _ => iprop(emp)) (fun _ => iprop(emp)) kit.toP rfl (fun c => (hbody c).loose) howed hrec
    (fun c w => (pdats m p c).share_full (hq c) w)
    (fun c => by iintro ⟨H, -⟩; iapply (hin c); iexact H)
    (fun c => by
      iintro H
      isplitl [H]
      · iapply (hout c); iexact H
      · iempintro)
    (fun _ => 0)
    ⟨fun c w s => Finset.mem_univ _, fun c w s => le_refl _, fun c g i h => absurd h (lt_irrefl _)⟩
    (fun _ => iprop(emp)) V (fun c w => hA c w)

/-- A region is entered from the program's buffers at `V` with nothing owed. -/
theorem region_pre (p : Fin 5) (V : Dev nD → Valuation τ sig (Elt F)) {kit hbody howed hrec hq hin hout hA}
    (hS : Pipeline.arrRefs (τ := τ) (pcfgs (F := F) p).spec ⊆ Pipeline.ucRefs τ sig) (k : Fin 6) (c : Dev nD) :
    iprop(StableHlo.held (c : Thread nD τ) (Pipeline.ucRefs τ sig) (V c) ∗ idleE k c)
      ⊢ (region m p V kit hbody howed hrec hq hin hout hA).pre c := by
  refine BIBase.Entails.trans ?_ (RegionSeg.ofHeldIn_pre hS c)
  unfold idleE
  iintro ⟨H, HO⟩
  isplitl [H]; · iexact H
  isplitl [HO]; · iexact HO
  isplitr <;> iempintro

/-- A region is left with the program's buffers as its arrays ended, with nothing owed. -/
theorem region_post (p : Fin 5) (V : Dev nD → Valuation τ sig (Elt F)) {kit hbody howed hrec hq hin hout hA}
    (hS : Pipeline.arrRefs (τ := τ) (pcfgs (F := F) p).spec ⊆ Pipeline.ucRefs τ sig) (k : Fin 6) (c : Dev nD)
    {V' : Valuation τ sig (Elt F)} (hV : Pipeline.afterRegion (pdats m p c) (V c) = V') :
    (region m p V kit hbody howed hrec hq hin hout hA).post c
      ⊢ iprop(StableHlo.held (c : Thread nD τ) (Pipeline.ucRefs τ sig) V' ∗ idleE k c) := by
  refine BIBase.Entails.trans (RegionSeg.ofHeldIn_post hS c) ?_
  rw [← hV]
  unfold idleE
  iintro ⟨H, HO, -⟩
  isplitl [H]; · iexact H
  iexact HO

/-- Every edge word names a node, every membership word a graph. -/
structure InRange : Prop where
  edges : ∀ (c : Dev nD) y, (m ((c : Thread nD τ).loc main_arg1) y : BitVec 32).toNat < 10000
  graphs : ∀ (c : Dev nD) y, (m ((c : Thread nD τ).loc main_arg2) y : BitVec 32).toNat < 100

/-! ## The edge and membership words reach every call as launched -/

theorem edgesV1 (c : Dev nD) : V1 m c main_arg1 = m ((c : Thread nD τ).loc main_arg1) := V1_of m c main_arg1 (by decide)
theorem edgesU2 (c : Dev nD) : U2 m c main_arg1 = m ((c : Thread nD τ).loc main_arg1) := by
  rw [← V2_eq]; exact (V2_of m _ c main_arg1 (by decide)).trans (edgesV1 m c)
theorem edgesU4 (c : Dev nD) : U4 m c main_arg1 = m ((c : Thread nD τ).loc main_arg1) := by
  rw [← V4_eq]
  exact (V4_of m _ c main_arg1 (by decide)).trans <| (V3_of m _ c main_arg1 (by decide)).trans <| (V2_of m _ c main_arg1 (by decide)).trans (edgesV1 m c)
theorem edgesU5 (c : Dev nD) : U5 m c main_arg1 = m ((c : Thread nD τ).loc main_arg1) := by
  rw [← V5_eq]; refine (V5_of m _ c main_arg1 (by decide)).trans ?_; rw [V4_eq]; exact edgesU4 m c
theorem graphsU7 (c : Dev nD) : U7 m c main_arg2 = m ((c : Thread nD τ).loc main_arg2) := by
  rw [← V7_eq]
  exact (V8_of m _ c main_arg2 (by decide)).symm.trans (V8_main_arg2 m _ c)

section Regions
variable {m} (h : InRange m)
include h

/-- Call 1's region. -/
def reg0 : RegionSeg (pcfgs (F := F)) adm (pdats m) () defs₀ Variants.none lvls lv0 0 :=
  region m 0 (V1 m) launch0 (fun c => bodyOk0 c _ fun y => by rw [edgesV1 m c]; exact h.edges c y)
    (fun _ _ => rfl) (fun _ => rfl) (fun _ _ => rfl) (fun c => carry0_in c (V1 m c)) (fun c => carry0_out c (V1 m c) (Fin.last (cfgs 0).N).val) (fun _ _ => rfl)

/-- Call 2's region. -/
def reg1 : RegionSeg (pcfgs (F := F)) adm (pdats m) () defs₀ Variants.none lvls lv0 1 :=
  region m 1 (U2 m) launch1 (fun c => bodyOk1 c _ fun y => by rw [edgesU2 m c]; exact h.edges c y)
    (fun _ _ => rfl) (fun _ => rfl) (fun _ _ => rfl) (fun c => carry1_in c (U2 m c)) (fun c => carry1_out c (U2 m c) (Fin.last (cfgs 1).N).val) (fun _ _ => rfl)

/-- Call 3's region. -/
def reg2 : RegionSeg (pcfgs (F := F)) adm (pdats m) () defs₀ Variants.none lvls lv0 2 :=
  region m 2 (U4 m) launch2 (fun c => bodyOk2 c _ fun y => by rw [edgesU4 m c]; exact h.edges c y)
    (fun _ _ => rfl) (fun _ => rfl) (fun _ _ => rfl) (fun c => carry2_in c (U4 m c)) (fun c => carry2_out c (U4 m c) (Fin.last (cfgs 2).N).val) (fun _ _ => rfl)

/-- Call 4's region. -/
def reg3 : RegionSeg (pcfgs (F := F)) adm (pdats m) () defs₀ Variants.none lvls lv0 3 :=
  region m 3 (U5 m) launch3 (fun c => bodyOk3 c _ fun y => by rw [edgesU5 m c]; exact h.edges c y)
    (fun _ _ => rfl) (fun _ => rfl) (fun _ _ => rfl) (fun c => carry3_in c (U5 m c)) (fun c => carry3_out c (U5 m c) (Fin.last (cfgs 3).N).val) (fun _ _ => rfl)

/-- Call 5's region. -/
def reg4 : RegionSeg (pcfgs (F := F)) adm (pdats m) () defs₀ Variants.none lvls lv0 4 :=
  region m 4 (U7 m) launch4 (fun c => bodyOk4 c _ fun y => by rw [graphsU7 m c]; exact h.graphs c y)
    (fun _ _ => rfl) (fun _ => rfl) (fun _ _ => rfl) (fun c => carry4_in c (U7 m c)) (fun c => carry4_out c (U7 m c) (Fin.last (cfgs 4).N).val) (fun _ _ => rfl)

end Regions

/-! ## The run -/

set_option backward.isDefEq.respectTransparency.types false in
/-- Every run of the program ends with every buffer at the last memory and every semaphore at zero. -/
theorem run (ρ : Dev nD → PrngReg) (h : InRange m) :
    θ_run defs (onTc (τ := τ) (main (F := F))) ⟨m, fun _ => 0, ρ⟩ (fun r =>
      (∀ c : Dev nD, ∀ b ∈ Pipeline.ucRefs τ sig, r.2.mem ((c.tc : Thread nD τ).1, b) = U8 m c b) ∧ r.2.sem = fun _ => 0) := by
  refine Pipeline.θ_run_regions_kit_dev_sems (pcfgs (F := F)) adm (pdats m) () cellOf_inj emb₁ defs₀ Variants.none lvls lv0 m ρ main
    (segs m (outs m) Variants.none lvls lv0 idleE () (pdats m) (reg0 h) (reg1 h) (reg2 h) (reg3 h) (reg4 h))
    (fun c Q => by
      rewrite [main_chain c, Seg.run_eq_chain,
        show (segs m (outs m) Variants.none lvls lv0 idleE () (pdats m) (reg0 h) (reg1 h) (reg2 h) (reg3 h) (reg4 h) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()) ] from rfl]
      dsimp (config := { failIfUnchanged := false }) only
      exact .rfl)
    (fun c => by simp only [segs, Seg.pipes_host, Seg.pipes_region, Seg.pipes_nil]; decide)
    (O₀ := 0) (hL := fun g hg => if_neg hg)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄G) ⊢ BI.own (emb₁ (initOf (Pipeline.cells cfgs cellOf_inj) (Pipeline.launchToks cfgs cellOf_inj))) from .rfl)
        iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (V0 m c) ∗ idleE 0 c))
    (Tₙ := fun c => StableHlo.held (c : Thread nD τ) (Pipeline.ucRefs τ sig) (U8 m c))
    (hch := fun c => ⟨.rfl,
      region_pre m 0 (V1 m) (Pipeline.arrRefs_sub_ucRefs _ winFacts0.arr_unscoped) 0 c,
      (region_post m 0 (V1 m) (Pipeline.arrRefs_sub_ucRefs _ winFacts0.arr_unscoped) 1 c (V' := U2 m c) (leaves0 c (V1 m c))).trans (region_pre m 1 (U2 m) (Pipeline.arrRefs_sub_ucRefs _ winFacts1.arr_unscoped) 1 c),
      (region_post m 1 (U2 m) (Pipeline.arrRefs_sub_ucRefs _ winFacts1.arr_unscoped) 2 c (V' := U3 m c) (leaves1 c (U2 m c))).trans (by rw [← V3_eq]; exact .rfl),
      (show iprop(StableHlo.held (c : Thread nD τ) (Pipeline.ucRefs τ sig) (StableHlo.after hostOps2 (V3 m (outs m) c)) ∗ idleE _ c) ⊢ _ from by
        rw [show StableHlo.after hostOps2 (V3 m (outs m) c) = U4 m c from V4_eq m c]
        exact region_pre m 2 (U4 m) (Pipeline.arrRefs_sub_ucRefs _ winFacts2.arr_unscoped) 2 c),
      (region_post m 2 (U4 m) (Pipeline.arrRefs_sub_ucRefs _ winFacts2.arr_unscoped) 3 c (V' := U5 m c) (leaves2 c (U4 m c))).trans (region_pre m 3 (U5 m) (Pipeline.arrRefs_sub_ucRefs _ winFacts3.arr_unscoped) 3 c),
      (region_post m 3 (U5 m) (Pipeline.arrRefs_sub_ucRefs _ winFacts3.arr_unscoped) 4 c (V' := U6 m c) (leaves3 c (U5 m c))).trans (by rw [← V6_eq]; exact .rfl),
      (show iprop(StableHlo.held (c : Thread nD τ) (Pipeline.ucRefs τ sig) (StableHlo.after hostOps4 (V6 m (outs m) c)) ∗ idleE _ c) ⊢ _ from by
        rw [show StableHlo.after hostOps4 (V6 m (outs m) c) = U7 m c from V7_eq m c]
        exact region_pre m 4 (U7 m) (Pipeline.arrRefs_sub_ucRefs _ winFacts4.arr_unscoped) 4 c),
      region_post m 4 (U7 m) (Pipeline.arrRefs_sub_ucRefs _ winFacts4.arr_unscoped) 5 c (V' := U8 m c) (leaves4 c (U7 m c))⟩)
    (hinit := ?_) (QY := fun c s => ∀ b ∈ Pipeline.ucRefs τ sig, s.mem ((c.tc : Thread nD τ).1, b) = U8 m c b)
    (hfin := fun c s' => ?_) (hQ := fun _ h hz => ⟨h, funext fun g => hz g (.inr (regions_no_unscoped g.2))⟩)
  · refine Pipeline.initEach lvls lv0 fun c => ?_
    rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
    iintro ⟨⟨Hh, -, HO, -⟩, -⟩
    imodintro
    isplitl [Hh]; · iexact Hh
    unfold idleE
    iexists ∅
    iexact HO
  · unfold StableHlo.held
    iintro ⟨Hh, HSI⟩
    ihave Hr := (pointsTo_read_all (Pipeline.ucRefs τ sig) (fun b => ((c.tc : Thread nD τ).1, b)) (U8 m c) s') $$ [Hh HSI]
    · isplitl [Hh] <;> iassumption
    imodintro; iexact Hr

end Cert.KernelIdeal.Val
-- ==== Proof.Frame.lean ====
/-
  Every run of the whole program ends with the arguments' arrays as they were.
-/
module
public import proofs.«01_k».proof.Proof.Run
@[expose] public section
set_option maxRecDepth 16384
set_option maxHeartbeats 4000000
noncomputable section
namespace Cert.KernelIdeal.Val
open Idealize.ShloMosaic Idealize.ShloMosaic.TcCoe
open Idealize.SL.Sem
open Cert.KernelIdeal Cert.KernelIdeal.Gen
variable {F : FTy → Type} [FloatOps F]
variable (m : (ℓ : Loc nD τ sig) → Buf (Elt F) ℓ)

/-- The arguments' arrays hold in `s` what they hold in `m`. -/
def Kept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)
  ∧ s ((c.tc : Thread nD τ).loc main_arg13) = m ((c.tc : Thread nD τ).loc main_arg13)
  ∧ s ((c.tc : Thread nD τ).loc main_arg14) = m ((c.tc : Thread nD τ).loc main_arg14)
  ∧ s ((c.tc : Thread nD τ).loc main_arg15) = m ((c.tc : Thread nD τ).loc main_arg15)
  ∧ s ((c.tc : Thread nD τ).loc main_arg16) = m ((c.tc : Thread nD τ).loc main_arg16)
  ∧ s ((c.tc : Thread nD τ).loc main_arg17) = m ((c.tc : Thread nD τ).loc main_arg17)
  ∧ s ((c.tc : Thread nD τ).loc main_arg18) = m ((c.tc : Thread nD τ).loc main_arg18)
  ∧ s ((c.tc : Thread nD τ).loc main_arg19) = m ((c.tc : Thread nD τ).loc main_arg19)
  ∧ s ((c.tc : Thread nD τ).loc main_arg20) = m ((c.tc : Thread nD τ).loc main_arg20)
  ∧ s ((c.tc : Thread nD τ).loc main_arg21) = m ((c.tc : Thread nD τ).loc main_arg21)
  ∧ s ((c.tc : Thread nD τ).loc main_arg22) = m ((c.tc : Thread nD τ).loc main_arg22)

/-- The last of the memories has the arguments' arrays of the first. -/
theorem kept {s : (ℓ : Loc nD τ sig) → Buf (Elt F) ℓ} (c : Dev nD)
    (h : ∀ b ∈ Pipeline.ucRefs τ sig, s ((c.tc : Thread nD τ).1, b) = U8 m c b) : Kept m s c :=
  have at8 (b : Ref sig .tc) (hb : b.isScoped = false) (h8 : V8 m (outs m) c b = m ((c.tc : Thread nD τ).loc b)) :
      s ((c.tc : Thread nD τ).loc b) = m ((c.tc : Thread nD τ).loc b) := (h b (Pipeline.devRef_mem_ucRefs hb)).trans ((congrFun (V8_eq m c) b).symm.trans h8)
  ⟨at8 main_arg0 rfl (V8_main_arg0 m (outs m) c),
    at8 main_arg1 rfl (V8_main_arg1 m (outs m) c),
    at8 main_arg2 rfl (V8_main_arg2 m (outs m) c),
    at8 main_arg3 rfl (V8_main_arg3 m (outs m) c),
    at8 main_arg4 rfl (V8_main_arg4 m (outs m) c),
    at8 main_arg5 rfl (V8_main_arg5 m (outs m) c),
    at8 main_arg6 rfl (V8_main_arg6 m (outs m) c),
    at8 main_arg7 rfl (V8_main_arg7 m (outs m) c),
    at8 main_arg8 rfl (V8_main_arg8 m (outs m) c),
    at8 main_arg9 rfl (V8_main_arg9 m (outs m) c),
    at8 main_arg10 rfl (V8_main_arg10 m (outs m) c),
    at8 main_arg11 rfl (V8_main_arg11 m (outs m) c),
    at8 main_arg12 rfl (V8_main_arg12 m (outs m) c),
    at8 main_arg13 rfl (V8_main_arg13 m (outs m) c),
    at8 main_arg14 rfl (V8_main_arg14 m (outs m) c),
    at8 main_arg15 rfl (V8_main_arg15 m (outs m) c),
    at8 main_arg16 rfl (V8_main_arg16 m (outs m) c),
    at8 main_arg17 rfl (V8_main_arg17 m (outs m) c),
    at8 main_arg18 rfl (V8_main_arg18 m (outs m) c),
    at8 main_arg19 rfl (V8_main_arg19 m (outs m) c),
    at8 main_arg20 rfl (V8_main_arg20 m (outs m) c),
    at8 main_arg21 rfl (V8_main_arg21 m (outs m) c),
    at8 main_arg22 rfl (V8_main_arg22 m (outs m) c)⟩

/-- Every run ends, the arguments' arrays as they were and every semaphore at zero; the result's array is at the last memory's. -/
theorem run_kept (ρ) (h : InRange m) :
    θ_run defs (onTc (τ := τ) (main (F := F))) ⟨m, fun _ => 0, ρ⟩ (fun r =>
      (∀ c : Dev nD, r.2.mem ((c.tc : Thread nD τ).loc main_v0) = U8 m c main_v0 ∧ Kept m r.2.mem c) ∧ r.2.sem = fun _ => 0) :=
  (θ_run defs _ _).mono (fun _ hr => ⟨fun c => ⟨hr.1 c _ (Pipeline.devRef_mem_ucRefs (b := main_v0) rfl), kept m c (hr.1 c)⟩, hr.2⟩)
    (run m ρ h)

end Cert.KernelIdeal.Val
end
-- ==== Proof.Frames.lean ====
/-
  The frames: every run of each program ends, the arguments' arrays as they were and every semaphore at zero.
-/
module
public import proofs.«01_k».proof.Defs
public import proofs.«01_k».proof.Proof.PreFacts
public import proofs.«01_k».proof.Proof.Frame
public import proofs.«01_k».proof.Proof.Machine.Frame
public import proofs.«01_k».proof.Proof.Gen.ReferenceIdeal.Run
public import Idealize.ShloMosaic.Lib.Quiescent
@[expose] public section
set_option maxRecDepth 16384
noncomputable section
namespace Cert.Frames
open Idealize.ShloMosaic Idealize.SL.Sem

/-- The precondition puts the words of the kernel's launch memory in range. -/
theorem kernel_range (m) (h : Cert.Pre_Kernel m) : Cert.Kernel.Val.InRange m :=
  ⟨fun c => (PreFacts.range (h c)).1, fun c => (PreFacts.range (h c)).2⟩

/-- The same over extended reals. -/
theorem ideal_range (m) (h : Cert.Pre_KernelIdeal m) : Cert.KernelIdeal.Val.InRange m :=
  ⟨fun c => (PreFacts.range (h c)).1, fun c => (PreFacts.range (h c)).2⟩

/-- The kernel's frame, as the machine runs it. -/
theorem kernel : Cert.quiescent_Kernel := fun m g h =>
  (θ_run _ _ _).mono (fun _ hr => ⟨fun c => (hr.1 c).2, hr.2⟩) (Cert.Kernel.Val.run_kept (F := Bits) m g (kernel_range m h))

/-- The kernel's frame over extended reals. -/
theorem kernelIdeal : Cert.quiescent_KernelIdeal := fun m g h =>
  (θ_run _ _ _).mono (fun _ hr => ⟨fun c => (hr.1 c).2, hr.2⟩) (Cert.KernelIdeal.Val.run_kept (F := Ideal) m g (ideal_range m h))

/-- The reference's frame. -/
theorem reference : Cert.quiescent_ReferenceIdeal := fun m g _ =>
  (θ_run _ _ _).mono (fun r hr => ⟨fun c => (hr c).2, sem_eq_zero_of_no_sems (by decide) r.2⟩)
    (Cert.ReferenceIdeal.Value.run (F := Ideal) m g)

end Cert.Frames
end
-- ==== Proof.Sums.lean ====
/-
  The mathematics both programs are read in: sums and maxima over the edges that point to a node, a column normalised over the
  nodes, and the two facts about sums of real numbers that carry the one over to the other.
-/
module
public import proofs.«01_k».proof.Proof.Edges
public import Idealize.ShloMosaic.PureOps.Ideal.Laws
@[expose] public section
noncomputable section
namespace Cert.Sums
open Idealize.ShloMosaic Idealize.ShloMosaic.ValueIdx
open Cert.Edges

/-! ## Over the edges of a node -/

section
variable {N : ℕ} [NeZero N]

/-- The sum over the first `E` edges pointing to `n` of `X` at the node they come from. -/
def esum (E : ℕ) (src dst : ℕ → ℕ) (X : Fin N → EReal) (n : ℕ) : EReal :=
  ∑ e : Fin E, if dst e.val = n then X (Fin.ofNat N (src e.val)) else 0

/-- The largest over the first `E` edges pointing to `n` of `X` at the node they come from; minus infinity when there is none. -/
def emax (E : ℕ) (src dst : ℕ → ℕ) (X : Fin N → EReal) (n : ℕ) : EReal :=
  Finset.univ.sup fun e : Fin E => if dst e.val = n then X (Fin.ofNat N (src e.val)) else ⊥

theorem esum_succ (E : ℕ) (src dst : ℕ → ℕ) (X : Fin N → EReal) (n : ℕ) :
    esum (E + 1) src dst X n = esum E src dst X n + if dst E = n then X (Fin.ofNat N (src E)) else 0 :=
  Fin.sum_univ_castSucc _

theorem emax_succ (E : ℕ) (src dst : ℕ → ℕ) (X : Fin N → EReal) (n : ℕ) :
    emax (E + 1) src dst X n = max (emax E src dst X n) (if dst E = n then X (Fin.ofNat N (src E)) else ⊥) := by
  unfold emax
  rw [Fin.univ_castSuccEmb, Finset.sup_cons, Finset.sup_map, max_comm]
  rfl

/-- Rows added along the edges: each entry is what it was and the sum over the edges of its row. -/
theorem rowFold_add_eq {R C : ℕ} (X : (⟨2, ![N, C]⟩ : Shape).Idx → EReal) (src dst : ℕ → ℕ)
    (A : (⟨2, ![R, C]⟩ : Shape).Idx → EReal) (E : ℕ) (r : Fin R) (c : Fin C) :
    rowFold (fun a b : EReal => a + b) X src dst A E (ix2 r c) = A (ix2 r c) + esum E src dst (fun s => X (ix2 s c)) r.val := by
  induction E with
  | zero => simp [rowFold, esum]
  | succ E ih =>
    have step : rowFold (fun a b : EReal => a + b) X src dst A (E + 1) (ix2 r c)
        = if r.val = dst E then rowFold (fun a b : EReal => a + b) X src dst A E (ix2 r c) + X (ix2 (Fin.ofNat N (src E)) c)
          else rowFold (fun a b : EReal => a + b) X src dst A E (ix2 r c) := rfl
    rw [step, ih, esum_succ]
    by_cases h : r.val = dst E
    · rw [if_pos h, if_pos h.symm, add_assoc]
    · rw [if_neg h, if_neg fun h' => h h'.symm, add_zero]

/-- Rows maximised along the edges: each entry is the larger of what it was and the maximum over the edges of its row. -/
theorem rowFold_max_eq {R C : ℕ} (X : (⟨2, ![N, C]⟩ : Shape).Idx → EReal) (src dst : ℕ → ℕ)
    (A : (⟨2, ![R, C]⟩ : Shape).Idx → EReal) (E : ℕ) (r : Fin R) (c : Fin C) :
    rowFold (fun a b : EReal => max a b) X src dst A E (ix2 r c)
      = max (A (ix2 r c)) (emax E src dst (fun s => X (ix2 s c)) r.val) := by
  induction E with
  | zero => simp [rowFold, emax]
  | succ E ih =>
    have step : rowFold (fun a b : EReal => max a b) X src dst A (E + 1) (ix2 r c)
        = if r.val = dst E then max (rowFold (fun a b : EReal => max a b) X src dst A E (ix2 r c)) (X (ix2 (Fin.ofNat N (src E)) c))
          else rowFold (fun a b : EReal => max a b) X src dst A E (ix2 r c) := rfl
    rw [step, ih, emax_succ]
    by_cases h : r.val = dst E
    · rw [if_pos h, if_pos h.symm, max_assoc]
    · rw [if_neg h, if_neg fun h' => h h'.symm, max_bot_right]

/-- The edges' order and the row they are read from matter only up to the words' values. -/
theorem esum_congr {E : ℕ} {src src' dst dst' : ℕ → ℕ} {X X' : Fin N → EReal} (n : ℕ) (hs : ∀ e < E, src e = src' e)
    (hd : ∀ e < E, dst e = dst' e) (hX : ∀ s, X s = X' s) : esum E src dst X n = esum E src' dst' X' n :=
  Finset.sum_congr rfl fun e _ => by rw [hs e e.isLt, hd e e.isLt, hX]

theorem emax_congr {E : ℕ} {src src' dst dst' : ℕ → ℕ} {X X' : Fin N → EReal} (n : ℕ) (hs : ∀ e < E, src e = src' e)
    (hd : ∀ e < E, dst e = dst' e) (hX : ∀ s, X s = X' s) : emax E src dst X n = emax E src' dst' X' n :=
  Finset.sup_congr rfl fun e _ => by rw [hs e e.isLt, hd e e.isLt, hX]

end

/-! ## A column normalised over the nodes -/

section
variable {N : ℕ}

/-- The column's mean, `K` being the number of nodes. -/
def mean (K : EReal) (h : Fin N → EReal) : EReal := Ideal.div (∑ n, h n) K

/-- The column's mean squared deviation. -/
def var (K : EReal) (h : Fin N → EReal) : EReal := Ideal.div (∑ n, (h n - mean K h) * (h n - mean K h)) K

/-- The column normalised, scaled by `g` and shifted by `be`. -/
def bn (K ε g be : EReal) (h : Fin N → EReal) (n : Fin N) : EReal :=
  Ideal.div (g * (h n - mean K h)) (Ideal.sqrt (var K h + ε)) + be

end

/-! ## Real numbers among the extended ones -/

/-- An extended real that is a real number. -/
def IsReal (x : EReal) : Prop := ∃ r : ℝ, x = (r : EReal)

theorem IsReal.of_ne {x : EReal} (hb : x ≠ ⊥) (ht : x ≠ ⊤) : IsReal x := ⟨x.toReal, (EReal.coe_toReal ht hb).symm⟩

theorem IsReal.zero : IsReal 0 := ⟨0, rfl⟩

theorem IsReal.add {x y : EReal} : IsReal x → IsReal y → IsReal (x + y) := fun ⟨a, ha⟩ ⟨b, hb⟩ => ⟨a + b, by rw [ha, hb]; rfl⟩

theorem IsReal.sub {x y : EReal} : IsReal x → IsReal y → IsReal (x - y) := fun ⟨a, ha⟩ ⟨b, hb⟩ => ⟨a - b, by rw [ha, hb]; rfl⟩

theorem IsReal.mul {x y : EReal} : IsReal x → IsReal y → IsReal (x * y) := fun ⟨a, ha⟩ ⟨b, hb⟩ => ⟨a * b, by rw [ha, hb]; rfl⟩

theorem IsReal.max {x y : EReal} (hx : IsReal x) (hy : IsReal y) : IsReal (max x y) := by
  rcases le_total x y with h | h
  · rw [max_eq_right h]; exact hy
  · rw [max_eq_left h]; exact hx

/-- A sum of real numbers, taken among the extended ones, is the sum of the numbers. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {ι : Type*} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩

theorem IsReal.ite {p : Prop} [Decidable p] {x y : EReal} (hx : IsReal x) (hy : IsReal y) : IsReal (if p then x else y) := by
  split
  · exact hx
  · exact hy

/-- A sum of real numbers along edges is real. -/
theorem IsReal.esum {N : ℕ} [NeZero N] {E : ℕ} {src dst : ℕ → ℕ} {X : Fin N → EReal} (hX : ∀ s, IsReal (X s)) (n : ℕ) :
    IsReal (esum E src dst X n) := IsReal.sum _ _ fun _ => (hX _).ite IsReal.zero

/-- For real numbers: weighting the nodes' rows and then adding along the edges is adding along the edges and then weighting. -/
theorem esum_weighted {N : ℕ} [NeZero N] {K : Type*} [Fintype K] (E : ℕ) (src dst : ℕ → ℕ) (X : Fin N → K → EReal) (w : K → EReal)
    (hX : ∀ s k, IsReal (X s k)) (hw : ∀ k, IsReal (w k)) (n : ℕ) :
    esum E src dst (fun s => ∑ k, X s k * w k) n = ∑ k, esum E src dst (fun s => X s k) n * w k := by
  choose x hx using hX
  choose v hv using hw
  have left : esum E src dst (fun s => ∑ k, X s k * w k) n
      = ((∑ e : Fin E, if dst e.val = n then ∑ k, x (Fin.ofNat N (src e.val)) k * v k else 0 : ℝ) : EReal) := by
    unfold esum
    rw [coe_sum]
    refine Finset.sum_congr rfl fun e _ => ?_
    split
    · rw [coe_sum]; exact Finset.sum_congr rfl fun k _ => by rw [hx, hv]; rfl
    · rfl
  have right (k : K) : esum E src dst (fun s => X s k) n * w k
      = (((∑ e : Fin E, if dst e.val = n then x (Fin.ofNat N (src e.val)) k else 0) * v k : ℝ) : EReal) := by
    unfold esum
    rw [EReal.coe_mul, coe_sum, hv]
    congr 1
    refine Finset.sum_congr rfl fun e _ => ?_
    split
    · exact hx _ _
    · rfl
  rw [left, Finset.sum_congr rfl fun k _ => right k, ← coe_sum]
  congr 1
  simp only [Finset.sum_mul, ite_mul, zero_mul]
  rw [Finset.sum_comm]
  refine Finset.sum_congr rfl fun e _ => ?_
  split
  · rfl
  · simp

/-- A real number divided by a real number other than 0 is real. -/
theorem IsReal.div {x : EReal} {k : ℝ} (hx : IsReal x) (hk : k ≠ 0) : IsReal (Ideal.div x (k : EReal)) := by
  obtain ⟨a, rfl⟩ := hx
  refine ⟨a * k⁻¹, ?_⟩
  unfold Ideal.div
  rw [if_neg (by exact_mod_cast hk), EReal.coe_mul, EReal.coe_inv]

/-- A real column normalised is real: its variance is not negative, and a positive number is added before the root. -/
theorem IsReal.bn {N : ℕ} {K ε : ℝ} {g be : EReal} {h : Fin N → EReal} (hK : 0 < K) (hε : 0 < ε) (hg : IsReal g) (hbe : IsReal be)
    (hh : ∀ n, IsReal (h n)) (n : Fin N) : IsReal (bn (K : EReal) (ε : EReal) g be h n) := by
  have hm : IsReal (mean (K : EReal) h) := (IsReal.sum _ _ hh).div hK.ne'
  obtain ⟨μ, hμ⟩ := hm
  choose r hr using hh
  have hv : Cert.Sums.var (K : EReal) h = (((∑ n, (r n - μ) * (r n - μ)) * K⁻¹ : ℝ) : EReal) := by
    unfold Cert.Sums.var Ideal.div
    rw [if_neg (by exact_mod_cast hK.ne'), hμ, EReal.coe_mul, EReal.coe_inv, coe_sum]
    congr 1
    exact Finset.sum_congr rfl fun n _ => by rw [hr]; rfl
  have h0 : 0 ≤ (∑ n, (r n - μ) * (r n - μ)) * K⁻¹ :=
    mul_nonneg (Finset.sum_nonneg fun n _ => mul_self_nonneg _) (inv_nonneg.mpr hK.le)
  unfold Cert.Sums.bn
  rw [hv, ← EReal.coe_add]
  have hs : Ideal.sqrt (((∑ n, (r n - μ) * (r n - μ)) * K⁻¹ + ε : ℝ) : EReal)
      = ((Real.sqrt ((∑ n, (r n - μ) * (r n - μ)) * K⁻¹ + ε) : ℝ) : EReal) := by
    have : ¬ ((∑ n, (r n - μ) * (r n - μ)) * K⁻¹ + ε < 0) := by linarith
    exact if_neg this
  rw [hs]
  exact ((hg.mul (IsReal.sub ⟨r n, hr n⟩ ⟨μ, hμ⟩)).div (Real.sqrt_pos.mpr (by linarith)).ne').add hbe

/-- The larger of a real number and a maximum of real numbers over edges is real. -/
theorem IsReal.max_emax {N : ℕ} [NeZero N] {E : ℕ} {src dst : ℕ → ℕ} {X : Fin N → EReal} {x : EReal} (hx : IsReal x)
    (hX : ∀ s, IsReal (X s)) (n : ℕ) : IsReal (Max.max x (emax E src dst X n)) := by
  refine IsReal.of_ne (fun h => ?_) (fun h => ?_)
  · obtain ⟨a, rfl⟩ := hx
    exact absurd (le_bot_iff.mp (h ▸ le_max_left _ _)) (EReal.coe_ne_bot a)
  · obtain ⟨a, rfl⟩ := hx
    have : Max.max (a : EReal) (emax E src dst X n) < ⊤ := by
      refine max_lt (EReal.coe_lt_top a) ?_
      unfold emax
      rw [Finset.sup_lt_iff bot_lt_top]
      intro e _
      split
      · obtain ⟨b, hb⟩ := hX (Fin.ofNat N (src e.val))
        rw [hb]; exact EReal.coe_lt_top b
      · exact bot_lt_top
    exact absurd h this.ne

end Cert.Sums
end
-- ==== Proof.Tame.lean ====
/-
  What the second precondition says of the arrays: the words are in range, and every entry of the arrays entering the first
  convolution, and of the neighbour weights of the second, is a real number.
-/
module
public import proofs.«01_k».proof.Proof.PreFacts
public import proofs.«01_k».proof.Pre_inputs_tame
public import proofs.«01_k».proof.Proof.Sums
@[expose] public section
set_option maxRecDepth 16384
noncomputable section
namespace Cert.PreFacts
open Idealize.ShloMosaic Idealize.ShloMosaic.ValueIdx

instance tameFacts : Cert.Pre_inputs_tame.Facts where
  bcast_S_S2x320000 := by decide
  bcast_S_S10000 := by decide
  reducesTo_S2x320000_S_d0_1 := by decide
  h_S_ := by decide
  reducesTo_S10000_S_d0 := by decide
  bcast_S_S10000x128 := by decide
  reducesTo_S10000x128_S_d0_1 := by decide
  bcast_S_S128x128 := by decide
  reducesTo_S128x128_S_d0_1 := by decide
  bcast_S_S128 := by decide
  reducesTo_S128_S_d0 := by decide
  bcast_S_S128x1 := by decide
  reducesTo_S128x1_S_d0_1 := by decide

open Cert.Sums (IsReal)

/-- The word of the float infinity is the top of the extended reals. -/
theorem inf_word : (FloatOps.ofBits .f32 0x7F800000#32 : Ideal .f32) = (⊤ : EReal) := by
  show Ideal.ofBits .f32 0x7F800000#32 = _
  simp [Ideal.ofBits, Ideal.ieee]

/-- A number whose absolute value compares below infinity is real. -/
theorem real_of_abs (x : Ideal .f32)
    (h : FloatOps.cmpf .olt (FloatOps.hostAbsf x) (FloatOps.ofBits .f32 0x7F800000#32 : Ideal .f32) = 1#1) : IsReal x := by
  rw [inf_word] at h
  have hlt : max x (-x) < (⊤ : EReal) := by
    by_contra hn
    have : (BitVec.ofBool (decide (max x (-x) < (⊤ : EReal)))) = 1#1 := h
    rw [decide_eq_false hn] at this
    exact absurd this (by decide)
  refine IsReal.of_ne (fun hb => ?_) (fun ht => ?_)
  · rw [hb] at hlt; simp at hlt
  · rw [ht] at hlt; simp at hlt

section
variable {a0 : FVec Ideal ⟨2, ![10000, 128]⟩ .f32} {a1 : IVec ⟨2, ![2, 320000]⟩ 32} {a2 : IVec ⟨1, ![10000]⟩ 32}
  {a3 a4 : FVec Ideal ⟨2, ![100, 1]⟩ .f32} {a5 a6 : FVec Ideal ⟨2, ![128, 128]⟩ .f32} {a7 a8 a9 : FVec Ideal ⟨1, ![128]⟩ .f32}
  {a10 a11 : FVec Ideal ⟨2, ![128, 1]⟩ .f32} {a12 a13 a14 : FVec Ideal ⟨1, ![1]⟩ .f32} {a15 : FVec Ideal ⟨2, ![1, 3]⟩ .f32}
  {a16 a17 a18 : FVec Ideal ⟨1, ![3]⟩ .f32} {a19 : FVec Ideal ⟨2, ![6, 1]⟩ .f32} {a20 : FVec Ideal ⟨1, ![1]⟩ .f32}
  {a21 : FVec Ideal ⟨2, ![3, 1]⟩ .f32} {a22 : FVec Ideal ⟨1, ![1]⟩ .f32}

/-- The second precondition: the words are in range as before, and the node features, both weight matrices, the bias, the scale
    and the shift of the first convolution and the neighbour weights of the second have real entries only. -/
theorem tame (h : Cert.Pre_inputs_tame.fn a0 a1 a2 a3 a4 a5 a6 a7 a8 a9 a10 a11 a12 a13 a14 a15 a16 a17 a18 a19 a20 a21 a22
      = fun _ => 1#1) : ((∀ y, (a1 y).toNat < 10000) ∧ ∀ y, (a2 y).toNat < 100)
        ∧ (∀ y, IsReal (a0 y)) ∧ (∀ y, IsReal (a5 y)) ∧ (∀ y, IsReal (a6 y)) ∧ (∀ y, IsReal (a7 y)) ∧ (∀ y, IsReal (a8 y)) ∧ (∀ y, IsReal (a9 y))
        ∧ ∀ y, IsReal (a11 y) := by
  have h0 := congrFun h ix0
  obtain ⟨h0, h11⟩ := and_one h0
  obtain ⟨h0, h9⟩ := and_one h0
  obtain ⟨h0, h8⟩ := and_one h0
  obtain ⟨h0, h7⟩ := and_one h0
  obtain ⟨h0, h6⟩ := and_one h0
  obtain ⟨h0, h5⟩ := and_one h0
  obtain ⟨h0, hx⟩ := and_one h0
  obtain ⟨h1, h2⟩ := and_one h0
  exact ⟨⟨fun y => word_below (by decide) _ (Host.reduce_andi_all _ _ _ _ _ h1 y),
      fun y => word_below (by decide) _ (Host.reduce_andi_all _ _ _ _ _ h2 y)⟩,
    fun y => real_of_abs _ (Host.reduce_andi_all _ _ _ _ _ hx y), fun y => real_of_abs _ (Host.reduce_andi_all _ _ _ _ _ h5 y),
    fun y => real_of_abs _ (Host.reduce_andi_all _ _ _ _ _ h6 y), fun y => real_of_abs _ (Host.reduce_andi_all _ _ _ _ _ h7 y),
    fun y => real_of_abs _ (Host.reduce_andi_all _ _ _ _ _ h8 y), fun y => real_of_abs _ (Host.reduce_andi_all _ _ _ _ _ h9 y),
    fun y => real_of_abs _ (Host.reduce_andi_all _ _ _ _ _ h11 y)⟩

end
end Cert.PreFacts
end
-- ==== Proof.HostOps.lean ====
/-
  The host's operations on edges read at an entry: a sum over the rows that a list of words names, and a maximum over the
  entries that an equation of words selects.
-/
module
public import proofs.«01_k».proof.Proof.Sums
public import Idealize.ShloMosaic.Lib.Pointwise
public import Idealize.ShloMosaic.Lib.Routing.OpsPair
@[expose] public section
noncomputable section
namespace Cert.HostOps
open Idealize.ShloMosaic
open Cert.Sums (esum emax)

section
variable {N C E : ℕ}

/-- Row `e` of the updates lands in the row that word `e` names, column by column. -/
theorem row_lands (d : ScatterDims ⟨2, ![N, C]⟩ ⟨2, ![E, 1]⟩ ⟨2, ![E, C]⟩) (huw : d.updateWindowDims = [1])
    (hiw : d.insertedWindowDims = [0]) (hsd : d.scatterDimsToOperandDims = [0]) (hivd : d.indexVectorDim = 1)
    (idx : IVec ⟨2, ![E, 1]⟩ 32) (j : (⟨2, ![E, C]⟩ : Shape).Idx) (n : Fin N) (c : Fin C) :
    d.resultIdx? j idx = some (ix2 n c) ↔ (idx (ix2 (n0 := E) (j 0) (0 : Fin 1))).toInt = n.val ∧ (j 1).val = c.val := by
  obtain ⟨uw, iw, sd, iv, wf⟩ := d
  dsimp only at huw hiw hsd hivd
  subst huw hiw hsd hivd
  rw [ix2_eq_valueIdx, Routing.resultIdx?_ix2]
  have h0 : (ScatterDims.mk [1] [0] [0] 1 wf).start j idx 0 = (idx (ix2 (n0 := E) (j 0) (0 : Fin 1))).toInt := by
    unfold ScatterDims.start
    rw [dif_pos (List.mem_singleton.2 rfl)]
    refine congrArg (fun z => (idx z).toInt) (funext fun b => Fin.ext ?_)
    match b with
    | ⟨0, _⟩ => rfl
    | ⟨1, _⟩ => rfl
  have h1 : (ScatterDims.mk [1] [0] [0] 1 wf).start j idx 1 = 0 := by
    unfold ScatterDims.start
    rw [dif_neg fun h => absurd (List.mem_singleton.1 h) (by decide : (1 : Fin 2) ≠ 0)]
  have w0 : (ScatterDims.mk [1] [0] [0] 1 wf).window j 0 = 0 := rfl
  have w1 : (ScatterDims.mk [1] [0] [0] 1 wf).window j 1 = (j 1).val := rfl
  rw [h0, h1, w0, w1]
  omega

/-- Rows added where words name them: each entry is what it was and the sum over the rows whose word names its row. -/
theorem rows_scatterAdd (d : ScatterDims ⟨2, ![N, C]⟩ ⟨2, ![E, 1]⟩ ⟨2, ![E, C]⟩) (huw : d.updateWindowDims = [1])
    (hiw : d.insertedWindowDims = [0]) (hsd : d.scatterDimsToOperandDims = [0]) (hivd : d.indexVectorDim = 1)
    (x : FVec Ideal ⟨2, ![N, C]⟩ .f32) (idx : IVec ⟨2, ![E, 1]⟩ 32) (upd : FVec Ideal ⟨2, ![E, C]⟩ .f32) (n : Fin N) (c : Fin C) :
    Host.scatterAdd d x idx upd (ix2 n c)
      = (x (ix2 n c) : EReal) + ∑ e : Fin E, if (idx (ix2 e 0)).toInt = n.val then (upd (ix2 e c) : EReal) else 0 := by
  show (x (ix2 n c) : EReal) + ∑ j ∈ Finset.univ.filter (fun j => d.resultIdx? j idx = some (ix2 n c)), (upd j : EReal) = _
  rw [← Finset.sum_filter]
  congr 1
  have back (j : (⟨2, ![E, C]⟩ : Shape).Idx) (h : (j 1).val = c.val) : ix2 (n0 := E) (j 0) c = j := by
    funext a
    match a with
    | ⟨0, _⟩ => rfl
    | ⟨1, _⟩ => exact Fin.ext h.symm
  refine Finset.sum_nbij' (i := fun j => (j 0 : Fin E)) (j := fun e => ix2 e c) ?_ ?_ ?_ ?_ ?_
  · intro j hj
    rw [Finset.mem_filter, row_lands d huw hiw hsd hivd] at hj
    exact Finset.mem_filter.2 ⟨Finset.mem_univ _, hj.2.1⟩
  · intro e he
    rw [Finset.mem_filter] at he
    exact Finset.mem_filter.2 ⟨Finset.mem_univ _, (row_lands d huw hiw hsd hivd idx _ n c).2 ⟨he.2, rfl⟩⟩
  · intro j hj
    rw [Finset.mem_filter, row_lands d huw hiw hsd hivd] at hj
    exact back j hj.2.2
  · intro e _; rfl
  · intro j hj
    rw [Finset.mem_filter, row_lands d huw hiw hsd hivd] at hj
    exact congrArg upd (back j hj.2.2).symm

end

/-- A word below `2 ^ 31` is read the same signed and unsigned. -/
theorem toInt_of_lt {w : BitVec 32} (h : w.toNat < 10000) : w.toInt = w.toNat := by
  rw [BitVec.toInt_eq_toNat_cond, if_pos (by omega)]

/-- A maximum along the first axis, read at an entry. -/
theorem reduce_max {E N C : ℕ} (x : FVec Ideal ⟨3, ![E, N, C]⟩ .f32) (init : FVec Ideal ⟨0, ![]⟩ .f32)
    (h : (⟨3, ![E, N, C]⟩ : Shape).ReducesTo [0] ⟨2, ![N, C]⟩) (hu : 0 < (⟨0, ![]⟩ : Shape).numel) (n : Fin N) (c : Fin C) :
    Host.reduce FloatOps.maximumf x init h hu (ix2 n c)
      = (Finset.univ.fold max (init ix0 : EReal) fun e : Fin E => (x (ix3 e n c) : EReal)) := by
  pointwise
  rw [show Shape.Idx.first hu = ix0 from funext fun a => a.elim0]

/-- The largest of the entries that an equation of words selects, minus infinity standing for the others. -/
theorem fold_select {E N : ℕ} [NeZero N] (w : Fin E → BitVec 32) (src dst : ℕ → ℕ) (n : ℕ) (hn : n < 10000) (x : Fin N → EReal)
    (f : Fin E → EReal) (hd : ∀ e : Fin E, dst e.val = (w e).toNat)
    (hf : ∀ e : Fin E, f e = Scalar.select (IntOp.cmpi .eq (w e) (BitVec.ofNat 32 n)) (x (Fin.ofNat N (src e.val))) ⊥) :
    Finset.univ.fold max (⊥ : EReal) f = emax E src dst x n := by
  have body (e : Fin E) : f e = if dst e.val = n then x (Fin.ofNat N (src e.val)) else ⊥ := by
    rw [hf, hd]
    have hb : (w e = BitVec.ofNat 32 n) ↔ (w e).toNat = n := by
      rw [← BitVec.toNat_inj, BitVec.toNat_ofNat, Nat.mod_eq_of_lt (by omega)]
    by_cases h : (w e).toNat = n
    · have : IntOp.cmpi .eq (w e) (BitVec.ofNat 32 n) = 1#1 := by rw [hb.2 h]; simp [IntOp.cmpi]
      rw [this, if_pos h]; rfl
    · have : IntOp.cmpi .eq (w e) (BitVec.ofNat 32 n) = 0#1 := by simp only [IntOp.cmpi, beq_eq_false_iff_ne.2 (mt hb.1 h)]; rfl
      rw [this, if_neg h]; rfl
  rw [Finset.fold_congr fun e _ => body e]
  rfl

/-- Rows added where words name them, into zeros, are the sums along the edges. -/
theorem scatter_esum {E N R C : ℕ} [NeZero N] (d : ScatterDims ⟨2, ![R, C]⟩ ⟨2, ![E, 1]⟩ ⟨2, ![E, C]⟩) (huw : d.updateWindowDims = [1])
    (hiw : d.insertedWindowDims = [0]) (hsd : d.scatterDimsToOperandDims = [0]) (hivd : d.indexVectorDim = 1)
    (z : FVec Ideal ⟨2, ![R, C]⟩ .f32) (idx : IVec ⟨2, ![E, 1]⟩ 32) (upd : FVec Ideal ⟨2, ![E, C]⟩ .f32) (n : Fin R) (c : Fin C)
    (src dst : ℕ → ℕ) (x : Fin N → EReal) (hz : z (ix2 n c) = (0 : EReal)) (hlt : ∀ e : Fin E, (idx (ix2 e 0)).toNat < 10000)
    (hd : ∀ e : Fin E, dst e.val = (idx (ix2 e 0)).toNat) (hu : ∀ e : Fin E, upd (ix2 e c) = x (Fin.ofNat N (src e.val))) :
    Host.scatterAdd d z idx upd (ix2 n c) = esum E src dst x n.val := by
  rw [rows_scatterAdd d huw hiw hsd hivd, hz, zero_add]
  unfold esum
  refine Finset.sum_congr rfl fun e _ => ?_
  rw [toInt_of_lt (hlt e), ← hd, hu]
  simp only [Nat.cast_inj]

/-! ## The words of constants -/

theorem neg_inf : Ideal.ofBits .f32 0xFF800000#32 = (⊥ : EReal) := by simp [Ideal.ofBits, Ideal.ieee]

/-- The number of nodes, as the programs write it. -/
theorem ten_thousand : Ideal.ofBits .f32 0x461C4000#32 = ((10000 : ℝ) : EReal) := by
  simp [Ideal.ofBits, Ideal.ieee]
  rw [← EReal.coe_mul]
  norm_num

/-- The number added to a variance is a positive real number. -/
theorem thousandth : ∃ ε : ℝ, 0 < ε ∧ Ideal.ofBits .f32 0x3A83126F#32 = (ε : EReal) := by
  simp [Ideal.ofBits, Ideal.ieee]
  exact ⟨_, by positivity, rfl⟩

/-- The number of nodes less the integer 0 is that number. -/
theorem less_zero : ((10000 : ℝ) : EReal) - FloatOps.sitofp (F := Ideal) .f32 (0#32) = ((10000 : ℝ) : EReal) := by
  show ((10000 : ℝ) : EReal) - (((0#32 : BitVec 32).toInt : ℝ) : EReal) = _
  simp

/-- The number of nodes compares above zero. -/
theorem positive : FloatOps.cmpf (F := Ideal) (φ := .f32) .ogt ((10000 : ℝ) : EReal) (0 : EReal) = 1#1 := by
  show BitVec.ofBool (decide ((0 : EReal) < ((10000 : ℝ) : EReal))) = 1#1
  rw [decide_eq_true (by exact_mod_cast (by norm_num : (0 : ℝ) < 10000))]
  rfl

end Cert.HostOps
end
-- ==== Proof.Spec.lean ====
/-
  The network in plain mathematics: what both programs compute, layer by layer, as functions of nodes, columns and graphs. The two
  ways to carry a layer's messages (weigh the rows and then add them along the edges, or the other way round) are both stated, and
  shown equal on real numbers.
-/
module
public import proofs.«01_k».proof.Proof.HostOps
@[expose] public section
noncomputable section
namespace Cert.Spec
open Idealize.ShloMosaic
open Cert.Sums

/-- The network's inputs, the edges as two lists of nodes and the membership as a list of graphs. -/
structure Inputs where
  x : Fin 10000 → Fin 128 → EReal
  src : ℕ → ℕ
  dst : ℕ → ℕ
  graph : ℕ → ℕ
  p : Fin 100 → EReal
  q : Fin 100 → EReal
  ws : Fin 128 → Fin 128 → EReal
  wn : Fin 128 → Fin 128 → EReal
  b : Fin 128 → EReal
  g : Fin 128 → EReal
  be : Fin 128 → EReal
  ws2 : Fin 128 → EReal
  wn2 : Fin 128 → EReal
  b2 : EReal
  g2 : EReal
  be2 : EReal
  w3 : Fin 3 → EReal
  b3 : Fin 3 → EReal
  g3 : Fin 3 → EReal
  be3 : Fin 3 → EReal
  w4 : Fin 6 → EReal
  b4 : EReal
  v : Fin 3 → EReal
  d : EReal

/-- The inputs read off the programs' 23 arrays. -/
def inputs (a0 : (⟨2, ![10000, 128]⟩ : Shape).Idx → EReal) (a1 : (⟨2, ![2, 320000]⟩ : Shape).Idx → BitVec 32)
    (a2 : (⟨1, ![10000]⟩ : Shape).Idx → BitVec 32) (a3 a4 : (⟨2, ![100, 1]⟩ : Shape).Idx → EReal)
    (a5 a6 : (⟨2, ![128, 128]⟩ : Shape).Idx → EReal) (a7 a8 a9 : (⟨1, ![128]⟩ : Shape).Idx → EReal)
    (a10 a11 : (⟨2, ![128, 1]⟩ : Shape).Idx → EReal) (a12 a13 a14 : (⟨1, ![1]⟩ : Shape).Idx → EReal)
    (a15 : (⟨2, ![1, 3]⟩ : Shape).Idx → EReal) (a16 a17 a18 : (⟨1, ![3]⟩ : Shape).Idx → EReal)
    (a19 : (⟨2, ![6, 1]⟩ : Shape).Idx → EReal) (a20 : (⟨1, ![1]⟩ : Shape).Idx → EReal)
    (a21 : (⟨2, ![3, 1]⟩ : Shape).Idx → EReal) (a22 : (⟨1, ![1]⟩ : Shape).Idx → EReal) : Inputs where
  x n k := a0 (ix2 n k)
  src := Edges.words a1 0
  dst := Edges.words a1 1
  graph := Edges.words1 a2
  p r := a3 (ix2 r 0)
  q r := a4 (ix2 r 0)
  ws k j := a5 (ix2 k j)
  wn k j := a6 (ix2 k j)
  b j := a7 (ix1 j)
  g j := a8 (ix1 j)
  be j := a9 (ix1 j)
  ws2 k := a10 (ix2 k 0)
  wn2 k := a11 (ix2 k 0)
  b2 := a12 (ix1 0)
  g2 := a13 (ix1 0)
  be2 := a14 (ix1 0)
  w3 j := a15 (ix2 0 j)
  b3 j := a16 (ix1 j)
  g3 j := a17 (ix1 j)
  be3 j := a18 (ix1 j)
  w4 j := a19 (ix2 j 0)
  b4 := a20 (ix1 0)
  v j := a21 (ix2 j 0)
  d := a22 (ix1 0)

/-- The number of nodes. -/
def count : EReal := ((10000 : ℝ) : EReal)

/-- The number added to every variance. -/
def small : EReal := Ideal.ofBits .f32 0x3A83126F#32

namespace Inputs
variable (I : Inputs)

/-- The sum along the edges into a node, and the maximum. -/
def along (X : Fin 10000 → EReal) (n : ℕ) : EReal := esum 320000 I.src I.dst X n
def most (X : Fin 10000 → EReal) (n : ℕ) : EReal := emax 320000 I.src I.dst X n

/-- The first convolution before its normalisation: the rows added along the edges and then weighted. -/
def conv1 (n : Fin 10000) (j : Fin 128) : EReal :=
  max (∑ k, I.x n k * I.ws k j + ∑ k, I.along (fun s => I.x s k) n.val * I.wn k j + I.b j) 0

/-- The same with the rows weighted and then added along the edges. -/
def conv1' (n : Fin 10000) (j : Fin 128) : EReal :=
  max (∑ k, I.x n k * I.ws k j + I.along (fun s => ∑ k, I.x s k * I.wn k j) n.val + I.b j) 0

/-- The first layer, of its convolution `h`: each column normalised, then the maximum over a node and those its edges come from. -/
def norm1 (h : Fin 10000 → Fin 128 → EReal) (n : Fin 10000) (j : Fin 128) : EReal := bn count small (I.g j) (I.be j) (fun s => h s j) n
def pool1 (h : Fin 10000 → Fin 128 → EReal) (n : Fin 10000) (j : Fin 128) : EReal := max (h n j) (I.most (fun s => h s j) n.val)

/-- The second convolution, of the first layer's features `p`, in the two orders. -/
def conv2 (p : Fin 10000 → Fin 128 → EReal) (n : Fin 10000) : EReal :=
  max (∑ k, p n k * I.ws2 k + ∑ k, I.along (fun s => p s k) n.val * I.wn2 k + I.b2) 0
def conv2' (p : Fin 10000 → Fin 128 → EReal) (n : Fin 10000) : EReal :=
  max (∑ k, p n k * I.ws2 k + I.along (fun s => ∑ k, p s k * I.wn2 k) n.val + I.b2) 0

/-- The second layer, of its convolution. -/
def norm2 (h : Fin 10000 → EReal) (n : Fin 10000) : EReal := bn count small I.g2 I.be2 h n
def pool2 (h : Fin 10000 → EReal) (n : Fin 10000) : EReal := max (h n) (I.most h n.val)

/-- The dense layer, and its normalisation. -/
def dense (p : Fin 10000 → EReal) (n : Fin 10000) (j : Fin 3) : EReal := max (p n * I.w3 j + I.b3 j) 0
def norm3 (h : Fin 10000 → Fin 3 → EReal) (n : Fin 10000) (j : Fin 3) : EReal := bn count small (I.g3 j) (I.be3 j) (fun s => h s j) n

/-- A graph's sum and maximum over its nodes. -/
def total (f : Fin 10000 → Fin 3 → EReal) (r : Fin 100) (j : Fin 3) : EReal := esum 10000 (fun j => j) I.graph (fun s => f s j) r.val
def top (f : Fin 10000 → Fin 3 → EReal) (r : Fin 100) (j : Fin 3) : EReal :=
  max (emax 10000 (fun j => j) I.graph (fun s => f s j) r.val) (Ideal.ofBits .f32 0xCE6E6B28#32)

/-- The result of a graph, of the nodes' features. -/
def readout (f : Fin 10000 → Fin 3 → EReal) (r : Fin 100) : EReal :=
  (∑ j, Ideal.tanh (I.total f r j) * I.w4 (Fin.castAdd 3 j) + ∑ j, Ideal.tanh (I.top f r j) * I.w4 (Fin.natAdd 3 j) + I.b4) * I.v 0
    + I.p r * I.v 1 + I.q r * I.v 2 + I.d

/-- The nodes' features before the readout, of the second convolution. -/
def tail (h : Fin 10000 → EReal) : Fin 10000 → Fin 3 → EReal := I.norm3 (I.dense (I.pool2 (I.norm2 h)))

/-- The network, rows added before they are weighted. -/
def network (r : Fin 100) : EReal := I.readout (I.tail (I.conv2 (I.pool1 (I.norm1 I.conv1)))) r
/-- The network, rows weighted before they are added. -/
def network' (r : Fin 100) : EReal := I.readout (I.tail (I.conv2' (I.pool1 (I.norm1 I.conv1')))) r

/-- What is asked of the inputs for the two orders to agree: real numbers where a layer's messages come from. -/
structure Tame : Prop where
  x : ∀ n k, IsReal (I.x n k)
  ws : ∀ k j, IsReal (I.ws k j)
  wn : ∀ k j, IsReal (I.wn k j)
  b : ∀ j, IsReal (I.b j)
  g : ∀ j, IsReal (I.g j)
  be : ∀ j, IsReal (I.be j)
  wn2 : ∀ k, IsReal (I.wn2 k)

variable {I}

/-- On real numbers the first convolution is the same in both orders. -/
theorem conv1_eq (h : I.Tame) : I.conv1' = I.conv1 := by
  funext n j
  unfold conv1' conv1 along
  rw [esum_weighted 320000 I.src I.dst I.x (fun k => I.wn k j) h.x (fun k => h.wn k j) n.val]

/-- The first convolution of real numbers is real. -/
theorem conv1_real (h : I.Tame) (n : Fin 10000) (j : Fin 128) : IsReal (I.conv1 n j) := by
  refine IsReal.max (((IsReal.sum _ _ fun k => (h.x n k).mul (h.ws k j)).add (IsReal.sum _ _ fun k => ?_)).add (h.b j)) IsReal.zero
  exact (IsReal.esum (fun s => h.x s k) n.val).mul (h.wn k j)

/-- The first layer of real numbers is real. -/
theorem pool1_real (h : I.Tame) (n : Fin 10000) (j : Fin 128) : IsReal (I.pool1 (I.norm1 I.conv1) n j) := by
  obtain ⟨ε, hε, he⟩ := HostOps.thousandth
  have hn (s : Fin 10000) (k : Fin 128) : IsReal (I.norm1 I.conv1 s k) := by
    unfold norm1 small
    rw [he]
    exact IsReal.bn (by norm_num) hε (h.g k) (h.be k) (fun t => conv1_real h t k) s
  exact IsReal.max_emax (hn n j) (fun s => hn s j) n.val

/-- On real numbers the second convolution is the same in both orders. -/
theorem conv2_eq {p : Fin 10000 → Fin 128 → EReal} (hp : ∀ n k, IsReal (p n k)) (hw : ∀ k, IsReal (I.wn2 k)) : I.conv2' p = I.conv2 p := by
  funext n
  unfold conv2' conv2 along
  rw [esum_weighted 320000 I.src I.dst p I.wn2 hp hw n.val]

/-- On real numbers the network is the same in both orders. -/
theorem network_eq (h : I.Tame) : I.network' = I.network := by
  funext r
  unfold network' network
  rw [conv1_eq h, conv2_eq (pool1_real h) h.wn2]

end Inputs
end Cert.Spec
end
-- ==== Proof.ReferenceEdges.lean ====
/-
  The reference's operations along the edges, read at a node: the gathered rows, their sum and their maximum.
-/
module
public import proofs.«01_k».proof.Proof.Spec
public import proofs.«01_k».proof.Proof.Gen.ReferenceIdeal.Run
public import Idealize.ShloMosaic.Lib.Routing.Ops
@[expose] public section
set_option maxRecDepth 16384
noncomputable section
namespace Cert.RefVal
open Idealize.ShloMosaic Cert.ReferenceIdeal Cert.ReferenceIdeal.Gen Cert.ReferenceIdeal.Value
open Cert.Sums Cert.HostOps
open Cert.Spec (Inputs inputs count small)

variable (V : Valuation τ sig (Elt Ideal))

/-- The reference's inputs. -/
def inp : Inputs :=
  inputs (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) (V (Proc.devRef .tc main_arg14)) (V (Proc.devRef .tc main_arg15))
    (V (Proc.devRef .tc main_arg16)) (V (Proc.devRef .tc main_arg17)) (V (Proc.devRef .tc main_arg18)) (V (Proc.devRef .tc main_arg19))
    (V (Proc.devRef .tc main_arg20)) (V (Proc.devRef .tc main_arg21)) (V (Proc.devRef .tc main_arg22))

/-- The edge and membership words are in range. -/
structure InRange : Prop where
  edges : ∀ y, (V (Proc.devRef .tc main_arg1) y : BitVec 32).toNat < 10000
  graphs : ∀ y, (V (Proc.devRef .tc main_arg2) y : BitVec 32).toNat < 100

/-! ## The edges -/

/-- The words the gathers read: each edge's source, a negative one counted from the end. -/
abbrev sources : IVec S320000x1 32 :=
  broadcastInDim S320000x1 ![0] bcast_S320000_S320000x1_0 (select (cmpi .slt (res_main_v1 V) (broadcastInDim S320000 ![] bcast_S_S320000 (constantI S_ 32 0#32))) (addi (res_main_v1 V) (broadcastInDim S320000 ![] bcast_S_S320000 (constantI S_ 32 10000#32))) (res_main_v1 V))

theorem word_src (e : Fin 320000) : res_main_v1 V (ix1 e) = V (Proc.devRef .tc main_arg1) (ix2 (n0 := 2) 0 e) := by
  pointwise [res_main_v1]

theorem word_dst (e : Fin 320000) : res_main_v3 V (ix1 e) = V (Proc.devRef .tc main_arg1) (ix2 (n0 := 2) 1 e) := by
  pointwise [res_main_v3]

theorem src_eq (e : Fin 320000) : (inp V).src e.val = (V (Proc.devRef .tc main_arg1) (ix2 (n0 := 2) 0 e) : BitVec 32).toNat := by
  show (V (Proc.devRef .tc main_arg1) (ValueIdx.ix2 (n0 := 2) 0 (Fin.ofNat 320000 e.val)) : BitVec 32).toNat = _
  rw [Fin.ofNat_val_eq_self, ix2_eq_valueIdx]

theorem dst_eq (e : Fin 320000) : (inp V).dst e.val = (V (Proc.devRef .tc main_arg1) (ix2 (n0 := 2) 1 e) : BitVec 32).toNat := by
  show (V (Proc.devRef .tc main_arg1) (ValueIdx.ix2 (n0 := 2) 1 (Fin.ofNat 320000 e.val)) : BitVec 32).toNat = _
  rw [Fin.ofNat_val_eq_self, ix2_eq_valueIdx]

theorem graph_eq (e : Fin 10000) : (inp V).graph e.val = (V (Proc.devRef .tc main_arg2) (ix1 e) : BitVec 32).toNat := by
  show (V (Proc.devRef .tc main_arg2) (ValueIdx.ix1 (Fin.ofNat 10000 e.val)) : BitVec 32).toNat = _
  rw [Fin.ofNat_val_eq_self, ix1_eq_valueIdx]

variable {V} (h : InRange V)
include h

/-- A source word in range is not counted from the end. -/
theorem sources_at (e : Fin 320000) :
    sources V (ValueIdx.ix2 e (0 : Fin 1)) = BitVec.ofNat 32 (Fin.ofNat 10000 ((inp V).src e.val)).val := by
  have hlt := h.edges (ix2 (n0 := 2) 0 e)
  rw [src_eq, Fin.val_ofNat, Nat.mod_eq_of_lt hlt, BitVec.ofNat_toNat, BitVec.setWidth_eq, ← ix2_eq_valueIdx]
  have : sources V (ix2 e (0 : Fin 1)) = Scalar.select (IntOp.cmpi .slt (res_main_v1 V (ix1 e)) 0#32)
      (IntOp.addi (res_main_v1 V (ix1 e)) 10000#32) (res_main_v1 V (ix1 e)) := by pointwise [sources]
  rw [this, word_src]
  exact Routing.wrap_of_lt _ _ (by omega)

/-- A row that an edge gathers is its source's row. -/
theorem gathered (x : FVec Ideal S10000x128 .f32) (e : Fin 320000) (k : Fin 128) :
    Host.gather gather_S10000x128_S320000x1_S320000x128_1_0_n_n_0_1_1128 x (sources V) (ix2 e k)
      = x (ix2 (Fin.ofNat 10000 ((inp V).src e.val)) k) := by
  rw [ix2_eq_valueIdx, ix2_eq_valueIdx]
  exact Routing.gather_row _ rfl rfl rfl rfl rfl x _ e k _ (sources_at h e) (by norm_num)

/-- The same of a single column. -/
theorem gathered1 (x : FVec Ideal S10000x1 .f32) (e : Fin 320000) (k : Fin 1) :
    Host.gather gather_S10000x1_S320000x1_S320000x1_1_0_n_n_0_1_11 x (sources V) (ix2 e k)
      = x (ix2 (Fin.ofNat 10000 ((inp V).src e.val)) k) := by
  rw [ix2_eq_valueIdx, ix2_eq_valueIdx]
  exact Routing.gather_row _ rfl rfl rfl rfl rfl x _ e k _ (sources_at h e) (by norm_num)

/-- The gathered rows added where the edges point: the sum along the edges. -/
theorem added (x : FVec Ideal S10000x128 .f32) (n : Fin 10000) (k : Fin 128) :
    Host.scatterAdd scatter_S10000x128_S320000x1_S320000x128_1_0_0_1 (broadcastInDim S10000x128 ![] bcast_S_S10000x128 (constant S_ .f32 0x00000000#32))
        (broadcastInDim S320000x1 ![0] bcast_S320000_S320000x1_0 (res_main_v3 V))
        (Host.gather gather_S10000x128_S320000x1_S320000x128_1_0_n_n_0_1_1128 x (sources V)) (ix2 n k)
      = (inp V).along (fun s => x (ix2 s k)) n.val := by
  have w (e : Fin 320000) : (broadcastInDim S320000x1 ![0] bcast_S320000_S320000x1_0 (res_main_v3 V)) (ix2 e (0 : Fin 1))
      = V (Proc.devRef .tc main_arg1) (ix2 (n0 := 2) 1 e) :=
    (show _ = res_main_v3 V (ix1 e) by pointwise).trans (word_dst V e)
  refine scatter_esum _ rfl rfl rfl rfl _ _ _ n k (inp V).src (inp V).dst _ ?_ (fun e => ?_) (fun e => ?_) fun e => gathered h x e k
  · pointwise
  · rw [w]; exact h.edges _
  · rw [w]; exact dst_eq V e

/-! ## The maximum over a node's edges -/

omit h in
variable (V) in
/-- The gathered rows laid out along edges and nodes, minus infinity standing where the edge does not point to the node. -/
abbrev masked (x : FVec Ideal S10000x128 .f32) : FVec Ideal S320000x10000x128 .f32 :=
  select (broadcastInDim S320000x10000x128 ![0, 1, 2] bcast_S320000x10000x1_S320000x10000x128_0_1_2 (cmpi .eq (broadcastInDim S320000x10000x1 ![0, 1, 2] bcast_S320000x1x1_S320000x10000x1_0_1_2 (broadcastInDim S320000x1x1 ![0] bcast_S320000_S320000x1x1_0 (res_main_v3 V))) (broadcastInDim S320000x10000x1 ![0, 1, 2] bcast_S1x10000x1_S320000x10000x1_0_1_2 (broadcastInDim S1x10000x1 ![1] bcast_S10000_S1x10000x1_1 (iotaInDim S10000 32 0))))) (broadcastInDim S320000x10000x128 ![0, 1, 2] bcast_S320000x1x128_S320000x10000x128_0_1_2 (broadcastInDim S320000x1x128 ![0, 2] bcast_S320000x128_S320000x1x128_0_2 (Host.gather gather_S10000x128_S320000x1_S320000x128_1_0_n_n_0_1_1128 x (sources V)))) (broadcastInDim S320000x10000x128 ![] bcast_S_S320000x10000x128 (id (constant S_ .f32 0xFF800000#32)))

omit h in
theorem masked_at (x : FVec Ideal S10000x128 .f32) (e : Fin 320000) (n : Fin 10000) (j : Fin 128) :
    masked V x (ix3 e n j) = Scalar.select (IntOp.cmpi .eq (res_main_v3 V (ix1 e)) (BitVec.ofNat 32 n.val))
      (Host.gather gather_S10000x128_S320000x1_S320000x128_1_0_n_n_0_1_1128 x (sources V) (ix2 e j)) (id (constant S_ .f32 0xFF800000#32) ix0) := by
  pointwise [masked]

omit h in
variable (V) in
/-- The same of a single column. -/
abbrev masked1 (x : FVec Ideal S10000x1 .f32) : FVec Ideal S320000x10000x1 .f32 :=
  select (cmpi .eq (broadcastInDim S320000x10000x1 ![0, 1, 2] bcast_S320000x1x1_S320000x10000x1_0_1_2 (broadcastInDim S320000x1x1 ![0] bcast_S320000_S320000x1x1_0 (res_main_v3 V))) (broadcastInDim S320000x10000x1 ![0, 1, 2] bcast_S1x10000x1_S320000x10000x1_0_1_2 (broadcastInDim S1x10000x1 ![1] bcast_S10000_S1x10000x1_1 (iotaInDim S10000 32 0)))) (broadcastInDim S320000x10000x1 ![0, 1, 2] bcast_S320000x1x1_S320000x10000x1_0_1_2 (broadcastInDim S320000x1x1 ![0, 2] bcast_S320000x1_S320000x1x1_0_2 (Host.gather gather_S10000x1_S320000x1_S320000x1_1_0_n_n_0_1_11 x (sources V)))) (broadcastInDim S320000x10000x1 ![] bcast_S_S320000x10000x1 (id (constant S_ .f32 0xFF800000#32)))

omit h in
theorem masked1_at (x : FVec Ideal S10000x1 .f32) (e : Fin 320000) (n : Fin 10000) (j : Fin 1) :
    masked1 V x (ix3 e n j) = Scalar.select (IntOp.cmpi .eq (res_main_v3 V (ix1 e)) (BitVec.ofNat 32 n.val))
      (Host.gather gather_S10000x1_S320000x1_S320000x1_1_0_n_n_0_1_11 x (sources V) (ix2 e j)) (id (constant S_ .f32 0xFF800000#32) ix0) := by
  obtain rfl := Subsingleton.elim j 0
  pointwise [masked1]

theorem largest (x : FVec Ideal S10000x128 .f32) (n : Fin 10000) (j : Fin 128) :
    Host.reduce FloatOps.maximumf (masked V x) (constant S_ .f32 0xFF800000#32) reducesTo_S320000x10000x128_S10000x128_d0 h_S_ (ix2 n j)
      = (inp V).most (fun s => x (ix2 s j)) n.val := by
  rw [reduce_max]
  have c : constant (F := Ideal) S_ .f32 0xFF800000#32 ix0 = (⊥ : EReal) := neg_inf
  rw [c]
  refine fold_select (fun e => V (Proc.devRef .tc main_arg1) (ix2 (n0 := 2) 1 e)) (inp V).src (inp V).dst n.val n.isLt _ _ (dst_eq V) fun e => ?_
  rw [masked_at, word_dst, gathered h]
  exact congrArg _ neg_inf

theorem largest1 (x : FVec Ideal S10000x1 .f32) (n : Fin 10000) (j : Fin 1) :
    Host.reduce FloatOps.maximumf (masked1 V x) (constant S_ .f32 0xFF800000#32) reducesTo_S320000x10000x1_S10000x1_d0 h_S_ (ix2 n j)
      = (inp V).most (fun s => x (ix2 s j)) n.val := by
  rw [reduce_max]
  have c : constant (F := Ideal) S_ .f32 0xFF800000#32 ix0 = (⊥ : EReal) := neg_inf
  rw [c]
  refine fold_select (fun e => V (Proc.devRef .tc main_arg1) (ix2 (n0 := 2) 1 e)) (inp V).src (inp V).dst n.val n.isLt _ _ (dst_eq V) fun e => ?_
  rw [masked1_at, word_dst, gathered1 h]
  exact congrArg _ neg_inf

end Cert.RefVal
end
-- ==== Proof.ReferenceValue.lean ====
/-
  The reference's layers, read at a node and a column: each is the network's own layer, its rows added along the edges before they
  are weighted.
-/
module
public import proofs.«01_k».proof.Proof.ReferenceEdges
@[expose] public section
set_option maxRecDepth 16384
noncomputable section
namespace Cert.RefVal
open Idealize.ShloMosaic Cert.ReferenceIdeal Cert.ReferenceIdeal.Gen Cert.ReferenceIdeal.Value
open Cert.Sums Cert.HostOps
open Cert.Spec (Inputs inputs count small)

variable {V : Valuation τ sig (Elt Ideal)} (h : InRange V)
include h

/-! ## The layers -/

/-- The first convolution. -/
theorem conv1_at (n : Fin 10000) (j : Fin 128) : res_main_v20 V (ix2 n j) = (inp V).conv1 n j := by
  pointwise [res_main_v20]
  simp only [added h]
  rfl

/-- Its normalisation. -/
theorem norm1_at (n : Fin 10000) (j : Fin 128) : res_main_v38 V (ix2 n j) = (inp V).norm1 (inp V).conv1 n j := by
  pointwise [res_main_v38, res_main_call1_v5, res_main_call1_v8]
  simp only [conv1_at h, ten_thousand, less_zero]
  rw [if_pos (by exact_mod_cast (by norm_num : (0 : ℝ) < 10000))]
  rfl

omit h in
/-- A maximum of two arrays, read at an entry. -/
theorem larger {s : Shape} (x y : FVec Ideal s .f32) (i : s.Idx) : maximumf x y i = max (x i : EReal) (y i) := rfl

/-- The first layer, pooled. -/
theorem pool1_at (n : Fin 10000) (j : Fin 128) :
    res_main_v55 V (ix2 n j) = (inp V).pool1 ((inp V).norm1 (inp V).conv1) n j := by
  unfold res_main_v55
  refine (larger _ _ _).trans (congrArg₂ max (norm1_at h n j) ((largest h _ n j).trans ?_))
  simp only [norm1_at h]

/-- The second convolution. -/
theorem conv2_at (n : Fin 10000) (j : Fin 1) :
    res_main_v72 V (ix2 n j) = (inp V).conv2 ((inp V).pool1 ((inp V).norm1 (inp V).conv1)) n := by
  obtain rfl := Subsingleton.elim j 0
  pointwise [res_main_v72]
  simp only [added h, pool1_at h]
  rfl

/-- Its normalisation. -/
theorem norm2_at (n : Fin 10000) (j : Fin 1) :
    res_main_v90 V (ix2 n j) = (inp V).norm2 ((inp V).conv2 ((inp V).pool1 ((inp V).norm1 (inp V).conv1))) n := by
  obtain rfl := Subsingleton.elim j 0
  pointwise [res_main_v90, res_main_call4_v5, res_main_call4_v8]
  simp only [conv2_at h, ten_thousand, less_zero]
  rw [if_pos (by exact_mod_cast (by norm_num : (0 : ℝ) < 10000))]
  rfl

omit h in
/-- The second layer's pooled column. -/
abbrev pooled2 (V : Valuation τ sig (Elt Ideal)) : FVec Ideal S10000x1 .f32 :=
  maximumf (res_main_v90 V) (Host.reduce FloatOps.maximumf (masked1 V (res_main_v90 V)) (constant S_ .f32 0xFF800000#32) reducesTo_S320000x10000x1_S10000x1_d0 h_S_)

/-- The second layer, pooled. -/
theorem pool2_at (n : Fin 10000) (j : Fin 1) :
    pooled2 V (ix2 n j) = (inp V).pool2 ((inp V).norm2 ((inp V).conv2 ((inp V).pool1 ((inp V).norm1 (inp V).conv1)))) n := by
  refine (larger _ _ _).trans (congrArg₂ max (norm2_at h n j) ((largest1 h _ n j).trans ?_))
  simp only [norm2_at h]

omit h in
/-- The dense layer at an entry, of any column. -/
theorem dense_of (p : FVec Ideal S10000x1 .f32) (w : FVec Ideal S1x3 .f32) (b : FVec Ideal S3 .f32) (n : Fin 10000) (j : Fin 3) :
    maximumf (addf (Host.dotGeneral dot_S10000x1_S1x3_S10000x3_1_0_0_1_n_n none p w) (broadcastInDim S10000x3 ![0, 1] bcast_S1x3_S10000x3_0_1 (broadcastInDim S1x3 ![1] bcast_S3_S1x3_1 b))) (broadcastInDim S10000x3 ![] bcast_S_S10000x3 (constant S_ .f32 0x00000000#32)) (ix2 n j)
      = max ((p (ix2 n 0) : EReal) * w (ix2 0 j) + b (ix1 j)) 0 := by
  pointwise
  rw [Fin.sum_univ_one]

/-- The dense layer. -/
theorem dense_at (n : Fin 10000) (j : Fin 3) :
    res_main_v112 V (ix2 n j)
      = (inp V).dense ((inp V).pool2 ((inp V).norm2 ((inp V).conv2 ((inp V).pool1 ((inp V).norm1 (inp V).conv1))))) n j := by
  refine (dense_of (pooled2 V) (V (Proc.devRef .tc main_arg15)) (V (Proc.devRef .tc main_arg16)) n j).trans ?_
  rw [pool2_at h]
  rfl

/-- Its normalisation: the nodes' features. -/
theorem feature_at (n : Fin 10000) (j : Fin 3) :
    res_main_v130 V (ix2 n j) = (inp V).tail ((inp V).conv2 ((inp V).pool1 ((inp V).norm1 (inp V).conv1))) n j := by
  pointwise [res_main_v130, res_main_call7_v5, res_main_call7_v8]
  simp only [dense_at h, ten_thousand, less_zero]
  rw [if_pos (by exact_mod_cast (by norm_num : (0 : ℝ) < 10000))]
  rfl

end Cert.RefVal
end
-- ==== Proof.ReferenceResult.lean ====
/-
  The reference's result, read at a graph: the network's own readout, its rows added along the edges before they are weighted.
-/
module
public import proofs.«01_k».proof.Proof.ReferenceValue
@[expose] public section
set_option maxRecDepth 16384
noncomputable section
namespace Cert.RefVal
open Idealize.ShloMosaic Cert.ReferenceIdeal Cert.ReferenceIdeal.Gen Cert.ReferenceIdeal.Value
open Cert.Sums Cert.HostOps
open Cert.Spec (Inputs inputs count small)

/-! ## The readout of any two arrays of sums and maxima -/

/-- The readout's operations on the graphs' sums `s` and maxima `t`. -/
def upper (s t : FVec Ideal S100x3 .f32) (w : FVec Ideal S6x1 .f32) (b : FVec Ideal S1 .f32) (p q : FVec Ideal S100x1 .f32)
    (v : FVec Ideal S3x1 .f32) (d : FVec Ideal S1 .f32) : FVec Ideal S100x1 .f32 :=
  addf (Host.dotGeneral dot_S100x3_S3x1_S100x1_1_0_0_1_n_n none ((concatenate S100x3 1 [⟨S100x1, ((addf (Host.dotGeneral dot_S100x6_S6x1_S100x1_1_0_0_1_n_n none (Host.tanh (concatenate S100x6 1 [⟨S100x3, s⟩, ⟨S100x3, t⟩] concatenates_S100x3_S100x3_S100x6_d1)) w) (broadcastInDim S100x1 ![0, 1] bcast_S1x1_S100x1_0_1 (broadcastInDim S1x1 ![1] bcast_S1_S1x1_1 b))))⟩, ⟨S100x1, p⟩, ⟨S100x1, q⟩] concatenates_S100x1_S100x1_S100x1_S100x3_d1)) v) (broadcastInDim S100x1 ![0, 1] bcast_S1x1_S100x1_0_1 (broadcastInDim S1x1 ![1] bcast_S1_S1x1_1 d))

/-- The logits: the first half of the weights meets the sums, the second half the maxima. -/
theorem upper_at (s t : FVec Ideal S100x3 .f32) (w : FVec Ideal S6x1 .f32) (b : FVec Ideal S1 .f32) (p q : FVec Ideal S100x1 .f32)
    (v : FVec Ideal S3x1 .f32) (d : FVec Ideal S1 .f32) (r : Fin 100) :
    upper s t w b p q v d (ix2 r 0)
      = (∑ j : Fin 3, Ideal.tanh (s (ix2 r j)) * w (ix2 (Fin.castAdd 3 j) 0) + ∑ j : Fin 3, Ideal.tanh (t (ix2 r j)) * w (ix2 (Fin.natAdd 3 j) 0)
            + b (ix1 0)) * v (ix2 0 0) + p (ix2 r 0) * v (ix2 1 0) + q (ix2 r 0) * v (ix2 2 0) + d (ix1 0) := by
  pointwise [upper]
  rw [Fin.sum_univ_three]
  rfl

variable (V : Valuation τ sig (Elt Ideal))

/-! ## The graphs' sums and maxima -/

/-- The graphs' sums of features. -/
abbrev graphSums : FVec Ideal S100x3 .f32 :=
  Host.scatterAdd scatter_S100x3_S10000x1_S10000x3_1_0_0_1 (broadcastInDim S100x3 ![] bcast_S_S100x3 (constant S_ .f32 0x00000000#32)) (broadcastInDim S10000x1 ![0] bcast_S10000_S10000x1_0 (V (Proc.devRef .tc main_arg2))) (res_main_v130 V)

/-- The features laid out along nodes and graphs, minus infinity standing where the node is not of the graph. -/
abbrev graphMasked (x : FVec Ideal S10000x3 .f32) : FVec Ideal S10000x100x3 .f32 :=
  select (broadcastInDim S10000x100x3 ![0, 1, 2] bcast_S10000x100x1_S10000x100x3_0_1_2 (cmpi .eq (broadcastInDim S10000x100x1 ![0, 1, 2] bcast_S10000x1x1_S10000x100x1_0_1_2 (broadcastInDim S10000x1x1 ![0] bcast_S10000_S10000x1x1_0 (V (Proc.devRef .tc main_arg2)))) (broadcastInDim S10000x100x1 ![0, 1, 2] bcast_S1x100x1_S10000x100x1_0_1_2 (broadcastInDim S1x100x1 ![1] bcast_S100_S1x100x1_1 (iotaInDim S100 32 0))))) (broadcastInDim S10000x100x3 ![0, 1, 2] bcast_S10000x1x3_S10000x100x3_0_1_2 (broadcastInDim S10000x1x3 ![0, 2] bcast_S10000x3_S10000x1x3_0_2 x)) (broadcastInDim S10000x100x3 ![] bcast_S_S10000x100x3 (id (constant S_ .f32 0xFF800000#32)))

/-- The graphs' maxima of features. -/
abbrev graphTops : FVec Ideal S100x3 .f32 :=
  maximumf (Host.reduce FloatOps.maximumf (graphMasked V (res_main_v130 V)) (constant S_ .f32 0xFF800000#32) reducesTo_S10000x100x3_S100x3_d0 h_S_) (broadcastInDim S100x3 ![] bcast_S_S100x3 (constant S_ .f32 0xCE6E6B28#32))

/-- The reference's result. -/
def result : FVec Ideal S100x1 .f32 :=
  upper (graphSums V) (graphTops V) (V (Proc.devRef .tc main_arg19)) (V (Proc.devRef .tc main_arg20)) (V (Proc.devRef .tc main_arg3))
    (V (Proc.devRef .tc main_arg4)) (V (Proc.devRef .tc main_arg21)) (V (Proc.devRef .tc main_arg22))

/-- The masked features at an entry. -/
theorem graphMasked_at (x : FVec Ideal S10000x3 .f32) (e : Fin 10000) (r : Fin 100) (j : Fin 3) :
    graphMasked V x (ix3 e r j) = Scalar.select (IntOp.cmpi .eq (V (Proc.devRef .tc main_arg2) (ix1 e) : BitVec 32) (BitVec.ofNat 32 r.val))
      (x (ix2 e j)) (id (constant S_ .f32 0xFF800000#32) ix0) := by
  pointwise [graphMasked]

variable {V} (h : InRange V)
include h

/-- The nodes' features, as the network states them. -/
abbrev features (V : Valuation τ sig (Elt Ideal)) : Fin 10000 → Fin 3 → EReal :=
  (inp V).tail ((inp V).conv2 ((inp V).pool1 ((inp V).norm1 (inp V).conv1)))

/-- A graph's sum of features. -/
theorem graphSums_at (r : Fin 100) (j : Fin 3) : graphSums V (ix2 r j) = (inp V).total (features V) r j := by
  have w (e : Fin 10000) : (broadcastInDim S10000x1 ![0] bcast_S10000_S10000x1_0 (V (Proc.devRef .tc main_arg2))) (ix2 e (0 : Fin 1))
      = V (Proc.devRef .tc main_arg2) (ix1 e) := by pointwise
  refine scatter_esum _ rfl rfl rfl rfl _ _ _ r j (fun j => j) (inp V).graph _ ?_ (fun e => ?_) (fun e => ?_) fun e => ?_
  · pointwise
  · rw [w]; have := h.graphs (ix1 e); omega
  · rw [w]; exact graph_eq V e
  · rw [Fin.ofNat_val_eq_self]; exact feature_at h e j

/-- A graph's maximum of features, not below the floor. -/
theorem graphTops_at (r : Fin 100) (j : Fin 3) : graphTops V (ix2 r j) = (inp V).top (features V) r j := by
  refine (larger _ _ _).trans (congrArg₂ max ?_ ?_)
  · rw [reduce_max]
    have c : constant (F := Ideal) S_ .f32 0xFF800000#32 ix0 = (⊥ : EReal) := neg_inf
    rw [c]
    refine fold_select (fun e => V (Proc.devRef .tc main_arg2) (ix1 e)) (fun j => j) (inp V).graph r.val (by omega) _ _ (graph_eq V) fun e => ?_
    rw [graphMasked_at, Fin.ofNat_val_eq_self, feature_at h]
    exact congrArg _ neg_inf
  · pointwise

/-- The reference's result is the network's. -/
theorem result_at (r : Fin 100) : result V (ix2 r 0) = (inp V).network r := by
  unfold result
  rw [upper_at]
  simp only [graphSums_at h, graphTops_at h]
  rfl

end Cert.RefVal
end
-- ==== Proof.KernelLayers.lean ====
/-
  The kernel's arrays read at an entry, of any inputs: the rows its scatters start from, what the scatters leave, and each call's
  stored result.
-/
module
public import proofs.«01_k».proof.Proof.Run
public import proofs.«01_k».proof.Proof.Spec
@[expose] public section
set_option maxRecDepth 16384
noncomputable section
namespace Cert.KerVal
open Idealize.ShloMosaic Cert.KernelIdeal Cert.KernelIdeal.Gen Cert.KernelIdeal.Val
open Cert.Sums Cert.HostOps Cert.Edges
open Cert.Spec (Inputs inputs count small)

/-! ## The scatters -/

/-- The edges' rows added into zeros: the sum along the edges. -/
theorem fold_add {N R C : ℕ} [NeZero N] (X : FVec Ideal ⟨2, ![N, C]⟩ .f32) (src dst : ℕ → ℕ) (A : FVec Ideal ⟨2, ![R, C]⟩ .f32) (E : ℕ)
    (n : Fin R) (c : Fin C) (hA : A (ix2 n c) = (0 : EReal)) :
    rowFold FloatOps.addf X src dst A E (ix2 n c) = esum E src dst (fun s => X (ix2 s c)) n.val := by
  simp only [ix2_eq_valueIdx] at hA ⊢
  refine (rowFold_add_eq X src dst A E n c).trans ?_
  rw [hA, zero_add]

/-- The edges' rows maximised into minus infinities: the maximum along the edges. -/
theorem fold_max {N R C : ℕ} [NeZero N] (X : FVec Ideal ⟨2, ![N, C]⟩ .f32) (src dst : ℕ → ℕ) (A : FVec Ideal ⟨2, ![R, C]⟩ .f32) (E : ℕ)
    (n : Fin R) (c : Fin C) (hA : A (ix2 n c) = (⊥ : EReal)) :
    rowFold FloatOps.maximumf X src dst A E (ix2 n c) = emax E src dst (fun s => X (ix2 s c)) n.val := by
  simp only [ix2_eq_valueIdx] at hA ⊢
  refine (rowFold_max_eq X src dst A E n c).trans ?_
  rw [hA, max_bot_left]

/-- The number of nodes less the integer 0 is that number, and is positive. -/
theorem nodes_less : ((10000 : ℝ) : EReal) - (((0#32 : BitVec 32).toInt : ℝ) : EReal) = ((10000 : ℝ) : EReal) := less_zero
theorem nodes_pos : (0 : EReal) < ((10000 : ℝ) : EReal) := by exact_mod_cast (by norm_num : (0 : ℝ) < 10000)

/-! ## The first convolution -/

/-- The rows that are added: weighted first. -/
theorem rows0_at (x : FVec Ideal S10000x128 .f32) (w : FVec Ideal S128x128 .f32) (n : Fin 10000) (j : Fin 128) :
    k0_pay1 (F := Ideal) x w (ix2 n j) = (∑ k, x (ix2 n k) * w (ix2 k j) : EReal) := by
  pointwise [k0_pay1]

theorem zeros0_at (n : Fin 10000) (j : Fin 128) : k0_pay2 (F := Ideal) (ix2 n j) = (0 : EReal) := by
  pointwise [k0_pay2]

/-- The convolution before its normalisation. -/
theorem pre0_at (x : FVec Ideal S10000x128 .f32) (w : FVec Ideal S128x128 .f32) (a : FVec Ideal S10000x128 .f32) (b : FVec Ideal S1x128 .f32)
    (n : Fin 10000) (j : Fin 128) :
    k0_pay8 (F := Ideal) x w a b (ix2 n j) = (max (∑ k, x (ix2 n k) * w (ix2 k j) + a (ix2 n j) + b (ix2 0 j)) 0 : EReal) := by
  pointwise [k0_pay8]

/-- The stored result: the convolution normalised. -/
theorem out0_at (x : FVec Ideal S10000x128 .f32) (w : FVec Ideal S128x128 .f32) (a : FVec Ideal S10000x128 .f32) (b g be : FVec Ideal S1x128 .f32)
    (n : Fin 10000) (j : Fin 128) :
    out0 (F := Ideal) x w a b g be (ix2 n j) = bn count small (g (ix2 0 j)) (be (ix2 0 j)) (fun s => k0_pay8 (F := Ideal) x w a b (ix2 s j)) n := by
  pointwise [out0, k0_pay5, k0_pay9, k0_pay10, k0_pay11, k0_pay12]
  simp only [ten_thousand, nodes_less]
  rw [if_pos nodes_pos]
  pointwise
  rfl

/-! ## The pooling -/

theorem bottoms_at (n : Fin 10000) (j : Fin 128) : k1_pay1 (F := Ideal) (ix2 n j) = (⊥ : EReal) := by
  pointwise [k1_pay1]
  exact neg_inf

theorem pool_at (x a : FVec Ideal S10000x128 .f32) (n : Fin 10000) (j : Fin 128) :
    k1_pay4 (F := Ideal) x a (ix2 n j) = (max (x (ix2 n j)) (a (ix2 n j)) : EReal) := by
  pointwise [k1_pay4]

/-! ## The second convolution -/

theorem rows2_at (x : FVec Ideal S10000x128 .f32) (w : FVec Ideal S1x128 .f32) (n : Fin 10000) (j : Fin 128) :
    k2_pay1 (F := Ideal) x w (ix2 n j) = (∑ k, x (ix2 n k) * w (ix2 0 k) : EReal) := by
  pointwise [k2_pay1]

theorem zeros2_at (n : Fin 10000) (j : Fin 128) : k2_pay2 (F := Ideal) (ix2 n j) = (0 : EReal) := by
  pointwise [k2_pay2]

theorem pre2_at (x : FVec Ideal S10000x128 .f32) (w : FVec Ideal S1x128 .f32) (a : FVec Ideal S10000x128 .f32) (b : FVec Ideal S1x1 .f32)
    (n : Fin 10000) (j : Fin 128) :
    k2_pay8 (F := Ideal) x w a b (ix2 n j) = (max (∑ k, x (ix2 n k) * w (ix2 0 k) + a (ix2 n j) + b (ix2 0 0)) 0 : EReal) := by
  pointwise [k2_pay8]

theorem out2_at (x : FVec Ideal S10000x128 .f32) (w : FVec Ideal S1x128 .f32) (a : FVec Ideal S10000x128 .f32) (b g be : FVec Ideal S1x1 .f32)
    (n : Fin 10000) (j : Fin 128) :
    out2 (F := Ideal) x w a b g be (ix2 n j) = bn count small (g (ix2 0 0)) (be (ix2 0 0)) (fun s => k2_pay8 (F := Ideal) x w a b (ix2 s j)) n := by
  pointwise [out2, k2_pay5, k2_pay9, k2_pay10, k2_pay11, k2_pay12, k2_pay13]
  simp only [ten_thousand, nodes_less]
  rw [if_pos nodes_pos]
  pointwise
  rfl

/-! ## The readout -/

theorem dense_pre (x : FVec Ideal S10000x1 .f32) (w b : FVec Ideal S1x3 .f32) (n : Fin 10000) (j : Fin 3) :
    k4_pay2 (F := Ideal) x w b (ix2 n j) = (max (x (ix2 n 0) * w (ix2 0 j) + b (ix2 0 j)) 0 : EReal) := by
  pointwise [k4_pay2]

theorem feat_at (x : FVec Ideal S10000x1 .f32) (w b g be : FVec Ideal S1x3 .f32) (n : Fin 10000) (j : Fin 3) :
    k4_pay6 (F := Ideal) (k4_pay3 (F := Ideal) be) (k4_pay4 (F := Ideal) x w b) (k4_pay5 (F := Ideal) x w b g) (ix2 n j)
      = bn count small (g (ix2 0 j)) (be (ix2 0 j)) (fun s => k4_pay2 (F := Ideal) x w b (ix2 s j)) n := by
  pointwise [k4_pay6, k4_pay3, k4_pay4, k4_pay5]
  simp only [ten_thousand, nodes_less]
  rw [if_pos nodes_pos]
  pointwise
  rfl

theorem zeros4_at (n : Fin 100) (j : Fin 3) : k4_pay7 (F := Ideal) (ix2 n j) = (0 : EReal) := by
  pointwise [k4_pay7]

theorem bottoms4_at (n : Fin 100) (j : Fin 3) : k4_pay8 (F := Ideal) (ix2 n j) = (⊥ : EReal) := by
  pointwise [k4_pay8]
  exact neg_inf

/-- The readout of sums and maxima. -/
theorem out_at (s t : FVec Ideal S100x3 .f32) (w0 w3 : FVec Ideal S1x3 .f32) (b v0 v1 v2 d : FVec Ideal S1x1 .f32) (p q : FVec Ideal S100x1 .f32)
    (r : Fin 100) :
    k4_pay1 (F := Ideal) (k4_pay11 (F := Ideal) t) (k4_pay12 (F := Ideal) s w0) (k4_pay13 (F := Ideal) w3) b v0 p v1 q v2 d (ix2 r 0)
      = ((∑ j : Fin 3, Ideal.tanh (s (ix2 r j)) * w0 (ix2 0 j) + ∑ j : Fin 3, Ideal.tanh (max (t (ix2 r j)) (Ideal.ofBits .f32 0xCE6E6B28#32)) * w3 (ix2 0 j)
            + b (ix2 0 0)) * v0 (ix2 0 0) + p (ix2 r 0) * v1 (ix2 0 0) + q (ix2 r 0) * v2 (ix2 0 0) + d (ix2 0 0) : EReal) := by
  pointwise [k4_pay1, k4_pay11, k4_pay12, k4_pay13]

end Cert.KerVal
end
-- ==== Proof.KernelBuffers.lean ====
/-
  What the program's buffers hold when each call is entered: the arguments as launched, the vectors laid out as rows.
-/
module
public import proofs.«01_k».proof.Proof.KernelLayers
@[expose] public section
set_option maxRecDepth 16384
noncomputable section
namespace Cert.KerVal
open Idealize.ShloMosaic Idealize.ShloMosaic.TcCoe Idealize.ShloMosaic.StableHlo Cert.KernelIdeal Cert.KernelIdeal.Gen Cert.KernelIdeal.Val

section
variable (V : Valuation τ sig (Elt Ideal))

/-- The first layer's bias as a row. -/
theorem bias1 (j : Fin 128) : StableHlo.after hostOps0 V main_call0_v0 (ix2 (n0 := 1) 0 j) = V main_arg7 (ix1 j) := by
  have e : StableHlo.after hostOps0 V main_call0_v0 = shapeCast S1x128 (V main_arg7) shapeCasts_S128_S1x128 := by
    simp only [hostOps0, TRef.reshape, TRef.toBuf, TRef.ofBuf, cast_eq]
    after_results_simp
    rfl
  rw [e]
  pointwise

/-- Its scale. -/
theorem scale1 (j : Fin 128) : StableHlo.after hostOps0 V main_call0_v1 (ix2 (n0 := 1) 0 j) = V main_arg8 (ix1 j) := by
  have e : StableHlo.after hostOps0 V main_call0_v1 = shapeCast S1x128 (V main_arg8) shapeCasts_S128_S1x128 := by
    simp only [hostOps0, TRef.reshape, TRef.toBuf, TRef.ofBuf, cast_eq]
    after_results_simp
    rfl
  rw [e]
  pointwise

/-- Its shift. -/
theorem shift1 (j : Fin 128) : StableHlo.after hostOps0 V main_call0_v2 (ix2 (n0 := 1) 0 j) = V main_arg9 (ix1 j) := by
  have e : StableHlo.after hostOps0 V main_call0_v2 = shapeCast S1x128 (V main_arg9) shapeCasts_S128_S1x128 := by
    simp only [hostOps0, TRef.reshape, TRef.toBuf, TRef.ofBuf, cast_eq]
    after_results_simp
    rfl
  rw [e]
  pointwise

/-- The second layer's own weights as a row. -/
theorem self2 (j : Fin 128) : StableHlo.after hostOps2 V main_call0_v5 (ix2 (n0 := 1) 0 j) = V main_arg10 (ix2 (n1 := 1) j 0) := by
  have e : StableHlo.after hostOps2 V main_call0_v5 = shapeCast S1x128 (V main_arg10) shapeCasts_S128x1_S1x128 := by
    simp only [hostOps2, TRef.reshape, TRef.toBuf, TRef.ofBuf, cast_eq]
    after_results_simp
    rfl
  rw [e]
  pointwise

/-- Its neighbours' weights. -/
theorem near2 (j : Fin 128) : StableHlo.after hostOps2 V main_call0_v6 (ix2 (n0 := 1) 0 j) = V main_arg11 (ix2 (n1 := 1) j 0) := by
  have e : StableHlo.after hostOps2 V main_call0_v6 = shapeCast S1x128 (V main_arg11) shapeCasts_S128x1_S1x128 := by
    simp only [hostOps2, TRef.reshape, TRef.toBuf, TRef.ofBuf, cast_eq]
    after_results_simp
    rfl
  rw [e]
  pointwise

/-- The second layer's bias. -/
theorem bias2 : StableHlo.after hostOps2 V main_call0_v7 (ix2 (n0 := 1) (n1 := 1) 0 0) = V main_arg12 (ix1 (n0 := 1) 0) := by
  have e : StableHlo.after hostOps2 V main_call0_v7 = shapeCast S1x1 (V main_arg12) shapeCasts_S1_S1x1 := by
    simp only [hostOps2, TRef.reshape, TRef.toBuf, TRef.ofBuf, cast_eq]
    after_results_simp
    rfl
  rw [e]
  pointwise

/-- Its scale. -/
theorem scale2 : StableHlo.after hostOps2 V main_call0_v8 (ix2 (n0 := 1) (n1 := 1) 0 0) = V main_arg13 (ix1 (n0 := 1) 0) := by
  have e : StableHlo.after hostOps2 V main_call0_v8 = shapeCast S1x1 (V main_arg13) shapeCasts_S1_S1x1 := by
    simp only [hostOps2, TRef.reshape, TRef.toBuf, TRef.ofBuf, cast_eq]
    after_results_simp
    rfl
  rw [e]
  pointwise

/-- Its shift. -/
theorem shift2 : StableHlo.after hostOps2 V main_call0_v9 (ix2 (n0 := 1) (n1 := 1) 0 0) = V main_arg14 (ix1 (n0 := 1) 0) := by
  have e : StableHlo.after hostOps2 V main_call0_v9 = shapeCast S1x1 (V main_arg14) shapeCasts_S1_S1x1 := by
    simp only [hostOps2, TRef.reshape, TRef.toBuf, TRef.ofBuf, cast_eq]
    after_results_simp
    rfl
  rw [e]
  pointwise

/-- The dense layer's bias as a row. -/
theorem bias3 (j : Fin 3) : StableHlo.after hostOps4 V main_call0_v12 (ix2 (n0 := 1) 0 j) = V main_arg16 (ix1 j) := by
  have e : StableHlo.after hostOps4 V main_call0_v12 = shapeCast S1x3 (V main_arg16) shapeCasts_S3_S1x3 := by
    simp only [hostOps4, TRef.reshape, TRef.toBuf, TRef.ofBuf, cast_eq]
    after_results_simp
    rfl
  rw [e]
  pointwise

/-- Its scale. -/
theorem scale3 (j : Fin 3) : StableHlo.after hostOps4 V main_call0_v13 (ix2 (n0 := 1) 0 j) = V main_arg17 (ix1 j) := by
  have e : StableHlo.after hostOps4 V main_call0_v13 = shapeCast S1x3 (V main_arg17) shapeCasts_S3_S1x3 := by
    simp only [hostOps4, TRef.reshape, TRef.toBuf, TRef.ofBuf, cast_eq]
    after_results_simp
    rfl
  rw [e]
  pointwise

/-- Its shift. -/
theorem shift3 (j : Fin 3) : StableHlo.after hostOps4 V main_call0_v14 (ix2 (n0 := 1) 0 j) = V main_arg18 (ix1 j) := by
  have e : StableHlo.after hostOps4 V main_call0_v14 = shapeCast S1x3 (V main_arg18) shapeCasts_S3_S1x3 := by
    simp only [hostOps4, TRef.reshape, TRef.toBuf, TRef.ofBuf, cast_eq]
    after_results_simp
    rfl
  rw [e]
  pointwise

/-- The readout's weights as a row. -/
theorem weight4 (j : Fin 6) : StableHlo.after hostOps4 V main_call0_v15 (ix2 (n0 := 1) 0 j) = V main_arg19 (ix2 (n1 := 1) j 0) := by
  have e : StableHlo.after hostOps4 V main_call0_v15 = shapeCast S1x6 (V main_arg19) shapeCasts_S6x1_S1x6 := by
    simp only [hostOps4, TRef.reshape, TRef.toBuf, TRef.ofBuf, cast_eq]
    after_results_simp
    rfl
  rw [e]
  pointwise

/-- Its bias. -/
theorem bias4 : StableHlo.after hostOps4 V main_call0_v16 (ix2 (n0 := 1) (n1 := 1) 0 0) = V main_arg20 (ix1 (n0 := 1) 0) := by
  have e : StableHlo.after hostOps4 V main_call0_v16 = shapeCast S1x1 (V main_arg20) shapeCasts_S1_S1x1 := by
    simp only [hostOps4, TRef.reshape, TRef.toBuf, TRef.ofBuf, cast_eq]
    after_results_simp
    rfl
  rw [e]
  pointwise

/-- The last layer's weights as a row. -/
theorem weight5 (j : Fin 3) : StableHlo.after hostOps4 V main_call0_v17 (ix2 (n0 := 1) 0 j) = V main_arg21 (ix2 (n1 := 1) j 0) := by
  have e : StableHlo.after hostOps4 V main_call0_v17 = shapeCast S1x3 (V main_arg21) shapeCasts_S3x1_S1x3 := by
    simp only [hostOps4, TRef.reshape, TRef.toBuf, TRef.ofBuf, cast_eq]
    after_results_simp
    rfl
  rw [e]
  pointwise

/-- Its bias. -/
theorem bias5 : StableHlo.after hostOps4 V main_call0_v18 (ix2 (n0 := 1) (n1 := 1) 0 0) = V main_arg22 (ix1 (n0 := 1) 0) := by
  have e : StableHlo.after hostOps4 V main_call0_v18 = shapeCast S1x1 (V main_arg22) shapeCasts_S1_S1x1 := by
    simp only [hostOps4, TRef.reshape, TRef.toBuf, TRef.ofBuf, cast_eq]
    after_results_simp
    rfl
  rw [e]
  pointwise
end

section
variable (m : (ℓ : Loc nD τ sig) → Buf (Elt Ideal) ℓ) (c : Dev nD)

/-- A buffer no call and no reshape has written yet is as launched. -/
theorem keep3 (r : Ref sig .tc) (h1 : r ∉ hostOps0_W) (h2 : r ∉ ([main_call0_v3] : List (Ref sig .tc))) (h3 : r ∉ ([main_call0_v4] : List (Ref sig .tc))) :
    U3 m c r = m ((c : Thread nD τ).loc r) := by
  rw [← V3_eq]
  exact (V3_of m _ c r h3).trans <| (V2_of m _ c r h2).trans (V1_of m c r h1)

theorem keep6 (r : Ref sig .tc) (h1 : r ∉ hostOps0_W) (h2 : r ∉ ([main_call0_v3] : List (Ref sig .tc))) (h3 : r ∉ ([main_call0_v4] : List (Ref sig .tc)))
    (h4 : r ∉ hostOps2_W) (h5 : r ∉ ([main_call0_v10] : List (Ref sig .tc))) (h6 : r ∉ ([main_call0_v11] : List (Ref sig .tc))) :
    U6 m c r = m ((c : Thread nD τ).loc r) := by
  rw [← V6_eq]
  refine (V6_of m _ c r h6).trans <| (V5_of m _ c r h5).trans <| (V4_of m _ c r h4).trans ?_
  rw [V3_eq]
  exact keep3 m c r h1 h2 h3
end

end Cert.KerVal
end
-- ==== Proof.KernelValue.lean ====
/-
  The kernel's result, read at a graph: the network's readout, its rows weighted before they are added along the edges.
-/
module
public import proofs.«01_k».proof.Proof.KernelBuffers
@[expose] public section
set_option maxRecDepth 16384
noncomputable section
namespace Cert.KerVal
open Idealize.ShloMosaic Idealize.ShloMosaic.TcCoe Cert.KernelIdeal Cert.KernelIdeal.Gen Cert.KernelIdeal.Val
open Cert.Sums Cert.HostOps Cert.Edges
open Cert.Spec (Inputs inputs count small)

/-! ## The calls' results, of any memory they are entered at -/

section
variable (V : Valuation τ sig (Elt Ideal))

/-- The first convolution's call. -/
theorem res0_at (n : Fin 10000) (j : Fin 128) :
    res0 V (ix2 n j) = bn count small (V main_call0_v1 (ix2 (n0 := 1) 0 j)) (V main_call0_v2 (ix2 (n0 := 1) 0 j))
      (fun s => k0_pay8 (F := Ideal) (V main_arg0) (V main_arg5) (acc0 V 320000) (V main_call0_v0) (ix2 s j)) n := by
  unfold res0
  exact out0_at _ _ _ _ _ _ n j

theorem acc0_at (n : Fin 10000) (j : Fin 128) :
    acc0 V 320000 (ix2 n j) = esum 320000 (words (C := 320000) (V main_arg1) 0) (words (C := 320000) (V main_arg1) 1)
      (fun s => rowsOf0 V (ix2 s j)) n.val := by
  unfold acc0
  exact fold_add _ _ _ _ _ n j (zeros0_at n j)

/-- The first pooling's call. -/
theorem res1_at (n : Fin 10000) (j : Fin 128) :
    res1 V (ix2 n j) = (max (V main_call0_v3 (ix2 n j)) (emax 320000 (words (C := 320000) (V main_arg1) 0) (words (C := 320000) (V main_arg1) 1)
      (fun s => V main_call0_v3 (ix2 s j)) n.val) : EReal) := by
  unfold res1
  refine (pool_at _ _ n j).trans (congrArg (max _) ?_)
  unfold acc1
  exact fold_max _ _ _ _ _ n j (bottoms_at n j)

/-- The second convolution's call. -/
theorem res2_at (n : Fin 10000) (j : Fin 128) :
    res2 V (ix2 n j) = bn count small (V main_call0_v8 (ix2 (n0 := 1) (n1 := 1) 0 0)) (V main_call0_v9 (ix2 (n0 := 1) (n1 := 1) 0 0))
      (fun s => k2_pay8 (F := Ideal) (V main_call0_v4) (V main_call0_v5) (acc2 V 320000) (V main_call0_v7) (ix2 s j)) n := by
  unfold res2
  exact out2_at _ _ _ _ _ _ n j

theorem acc2_at (n : Fin 10000) (j : Fin 128) :
    acc2 V 320000 (ix2 n j) = esum 320000 (words (C := 320000) (V main_arg1) 0) (words (C := 320000) (V main_arg1) 1)
      (fun s => rowsOf2 V (ix2 s j)) n.val := by
  unfold acc2
  exact fold_add _ _ _ _ _ n j (zeros2_at n j)

/-- The second pooling's call. -/
theorem res3_at (n : Fin 10000) (j : Fin 128) :
    res3 V (ix2 n j) = (max (V main_call0_v10 (ix2 n j)) (emax 320000 (words (C := 320000) (V main_arg1) 0) (words (C := 320000) (V main_arg1) 1)
      (fun s => V main_call0_v10 (ix2 s j)) n.val) : EReal) := by
  unfold res3
  refine (pool_at _ _ n j).trans (congrArg (max _) ?_)
  unfold acc3
  exact fold_max _ _ _ _ _ n j (bottoms_at n j)

/-- A window of a matrix, read at an entry. -/
theorem window_at {α : Type} {R C R' C' : ℕ} (x : (⟨2, ![R, C]⟩ : Shape).Idx → α) (a b : ℕ)
    (inb : ∀ k, (![a, b] : Fin 2 → ℕ) k + (⟨2, ![R', C']⟩ : Shape).size k ≤ (⟨2, ![R, C]⟩ : Shape).size k)
    (i : Fin R') (j : Fin C') (i' : Fin R) (j' : Fin C) (hi : i'.val = a + i.val) (hj : j'.val = b + j.val) :
    VecWindow.window (s := ⟨2, ![R, C]⟩) x ![a, b] (⟨2, ![R', C']⟩ : Shape).size inb (ix2 i j) = x (ix2 i' j') := by
  refine congrArg x (funext fun k => Fin.ext ?_)
  match k with
  | ⟨0, _⟩ => show a + 1 * i.val = i'.val; omega
  | ⟨1, _⟩ => show b + 1 * j.val = j'.val; omega

/-- A normalised column, its coefficients and entries rewritten. -/
theorem bn_of {a a' b b' : EReal} {f f' : Fin 10000 → EReal} (ha : a = a') (hb : b = b') (hf : ∀ s, f s = f' s) (n : Fin 10000) :
    bn count small a b f n = bn count small a' b' f' n := by
  rw [ha, hb, funext hf]

/-- A node's entry against the maximum along its edges, the entries and the edges rewritten. -/
theorem most_of {x x' : EReal} {f f' : Fin 10000 → EReal} {s s' d d' : ℕ → ℕ} (hx : x = x') (hs : s = s') (hd : d = d')
    (hf : ∀ n, f n = f' n) (k : ℕ) : max x (emax 320000 s d f k) = max x' (emax 320000 s' d' f' k) := by
  rw [hx, hs, hd, funext hf]

/-- A sum along edges, the entries and the edges rewritten. -/
theorem esum_of {f f' : Fin 10000 → EReal} {s s' d d' : ℕ → ℕ} (hs : s = s') (hd : d = d') (hf : ∀ n, f n = f' n) (k : ℕ) :
    esum 320000 s d f k = esum 320000 s' d' f' k := by
  rw [hs, hd, funext hf]

/-- A weighted row, both factors rewritten. -/
theorem row_of {K : ℕ} {x x' w w' : Fin K → EReal} (hx : ∀ k, x k = x' k) (hw : ∀ k, w k = w' k) : ∑ k, x k * w k = ∑ k, x' k * w' k := by
  rw [funext hx, funext hw]

/-- A node's dense layer, its factors and its bias rewritten. -/
theorem dense_of {a a' b b' d d' : EReal} (ha : a = a') (hb : b = b') (hd : d = d') : max (a * b + d) 0 = max (a' * b' + d') 0 := by
  rw [ha, hb, hd]

/-- A node's convolution, each of its three terms rewritten. -/
theorem relu_of {a a' b b' d d' : EReal} (ha : a = a') (hb : b = b') (hd : d = d') : max (a + b + d) 0 = max (a' + b' + d') 0 := by
  rw [ha, hb, hd]

/-- The readout of a graph, everything it reads rewritten. -/
theorem readout_of {s s' t t' : Fin 3 → EReal} {w w' : Fin 6 → EReal} {b b' p p' q q' d d' : EReal} {v v' : Fin 3 → EReal}
    (hs : ∀ j, s j = s' j) (ht : ∀ j, t j = t' j) (hw : ∀ k, w k = w' k) (hb : b = b') (hv : ∀ k, v k = v' k) (hp : p = p') (hq : q = q')
    (hd : d = d') :
    (∑ j : Fin 3, Ideal.tanh (s j) * w (Fin.castAdd 3 j) + ∑ j : Fin 3, Ideal.tanh (t j) * w (Fin.natAdd 3 j) + b) * v 0 + p * v 1 + q * v 2 + d
      = (∑ j : Fin 3, Ideal.tanh (s' j) * w' (Fin.castAdd 3 j) + ∑ j : Fin 3, Ideal.tanh (t' j) * w' (Fin.natAdd 3 j) + b') * v' 0
          + p' * v' 1 + q' * v' 2 + d' := by
  rw [funext hs, funext ht, funext hw, hb, funext hv, hp, hq, hd]

/-- The nodes' features before the readout. -/
theorem feat4_at (x : FVec Ideal S10000x128 .f32) (w b g be : FVec Ideal S1x3 .f32) (n : Fin 10000) (j : Fin 3) :
    feat4 (F := Ideal) x w b g be (ix2 n j)
      = bn count small (g (ix2 0 j)) (be (ix2 0 j)) (fun s => (max (x (ix2 s 0) * w (ix2 0 j) + b (ix2 0 j)) 0 : EReal)) n := by
  refine (feat_at _ w b g be n j).trans ?_
  simp only [dense_pre]
  have e (s : Fin 10000) : VecWindow.window (s := S10000x128) x ![0, 0] S10000x1.size inb_S10000x128_S10000x1_0_0 (ix2 (n1 := 1) s 0) = x (ix2 s 0) := by
    exact window_at x 0 0 _ s 0 s 0 (by simp) (by simp)
  simp only [e]

/-- The graphs' sums of any features. -/
theorem sum4_at (h : FVec Ideal S10000x3 .f32) (mem : ℕ → ℕ) (r : Fin 100) (j : Fin 3) :
    sum4 (F := Ideal) h mem (ix2 r j) = esum 10000 (fun j => j) mem (fun s => h (ix2 s j)) r.val := by
  exact fold_add _ _ _ _ _ r j (zeros4_at r j)

/-- The graphs' maxima of any features. -/
theorem max4_at (h : FVec Ideal S10000x3 .f32) (mem : ℕ → ℕ) (r : Fin 100) (j : Fin 3) :
    max4 (F := Ideal) h mem (ix2 r j) = emax 10000 (fun j => j) mem (fun s => h (ix2 s j)) r.val := by
  exact fold_max _ _ _ _ _ r j (bottoms4_at r j)

/-- The readout of sums and maxima, its weights read from whole rows. -/
theorem out4_at (s t : FVec Ideal S100x3 .f32) (w : FVec Ideal S1x6 .f32) (b : FVec Ideal S1x1 .f32) (v : FVec Ideal S1x3 .f32)
    (d : FVec Ideal S1x1 .f32) (p q : FVec Ideal S100x1 .f32) (r : Fin 100) :
    out4 (F := Ideal) s t w b v d p q (ix2 r 0)
      = ((∑ j : Fin 3, Ideal.tanh (s (ix2 r j)) * w (ix2 0 (Fin.castAdd 3 j))
            + ∑ j : Fin 3, Ideal.tanh (max (t (ix2 r j)) (Ideal.ofBits .f32 0xCE6E6B28#32)) * w (ix2 0 (Fin.natAdd 3 j))
            + b (ix2 0 0)) * v (ix2 0 0) + p (ix2 r 0) * v (ix2 0 1) + q (ix2 r 0) * v (ix2 0 2) + d (ix2 0 0) : EReal) := by
  have e0 (j : Fin 3) : VecWindow.window (s := S1x6) w ![0, 0] S1x3.size inb_S1x6_S1x3_0_0 (ix2 (n0 := 1) 0 j) = w (ix2 0 (Fin.castAdd 3 j)) :=
    window_at w 0 0 _ 0 j 0 (Fin.castAdd 3 j) (by simp) (by simp)
  have e3 (j : Fin 3) : VecWindow.window (s := S1x6) w ![0, 3] S1x3.size inb_S1x6_S1x3_0_3 (ix2 (n0 := 1) 0 j) = w (ix2 0 (Fin.natAdd 3 j)) :=
    window_at w 0 3 _ 0 j 0 (Fin.natAdd 3 j) (by simp) rfl
  have f0 : VecWindow.window (s := S1x3) v ![0, 0] S1x1.size inb_S1x3_S1x1_0_0 (ix2 (n0 := 1) (n1 := 1) 0 0) = v (ix2 0 0) :=
    window_at v 0 0 _ 0 0 0 0 (by simp) (by simp)
  have f1 : VecWindow.window (s := S1x3) v ![0, 1] S1x1.size inb_S1x3_S1x1_0_1 (ix2 (n0 := 1) (n1 := 1) 0 0) = v (ix2 0 1) :=
    window_at v 0 1 _ 0 0 0 1 (by simp) (by simp)
  have f2 : VecWindow.window (s := S1x3) v ![0, 2] S1x1.size inb_S1x3_S1x1_0_2 (ix2 (n0 := 1) (n1 := 1) 0 0) = v (ix2 0 2) :=
    window_at v 0 2 _ 0 0 0 2 (by simp) (by simp)
  refine (out_at s t _ _ b _ _ _ d p q r).trans ?_
  simp only [e0, e3, f0, f1, f2]

end

/-! ## Along the program -/

section
variable (m : (ℓ : Loc nD τ sig) → Buf (Elt Ideal) ℓ) (c : Dev nD)

/-- The network's inputs, read off a launch memory. -/
def inp : Inputs :=
  inputs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19)) (m ((c : Thread nD τ).loc main_arg20))
    (m ((c : Thread nD τ).loc main_arg21)) (m ((c : Thread nD τ).loc main_arg22))

/-- The first convolution, before its normalisation. -/
theorem conv1_at (n : Fin 10000) (j : Fin 128) :
    k0_pay8 (F := Ideal) (V1 m c main_arg0) (V1 m c main_arg5) (acc0 (V1 m c) 320000) (V1 m c main_call0_v0) (ix2 n j) = (inp m c).conv1' n j := by
  rw [pre0_at, acc0_at]
  unfold rowsOf0
  simp only [rows0_at]
  rw [V1_of m c main_arg0 (by decide), V1_of m c main_arg5 (by decide), V1_of m c main_arg6 (by decide), V1_of m c main_arg1 (by decide), show V1 m c main_call0_v0 (ix2 (n0 := 1) 0 j) = V0 m c main_arg7 (ix1 j) from bias1 (V0 m c) j]
  rfl

/-- The first convolution's call leaves the first layer normalised. -/
theorem norm1_at (n : Fin 10000) (j : Fin 128) : U2 m c main_call0_v3 (ix2 n j) = (inp m c).norm1 (inp m c).conv1' n j := by
  unfold U2
  rw [Function.update_self]
  exact (res0_at (V1 m c) n j).trans (bn_of (scale1 (V0 m c) j) (shift1 (V0 m c) j) (fun s => conv1_at m c s j) n)

/-- The first pooling's call leaves the first layer. -/
theorem pool1_at (n : Fin 10000) (j : Fin 128) :
    U3 m c main_call0_v4 (ix2 n j) = (inp m c).pool1 ((inp m c).norm1 (inp m c).conv1') n j := by
  unfold U3
  rw [Function.update_self]
  exact (res1_at (U2 m c) n j).trans (most_of (norm1_at m c n j) (congrArg (fun a => words (C := 320000) a 0) (edgesU2 m c))
    (congrArg (fun a => words (C := 320000) a 1) (edgesU2 m c)) (fun s => norm1_at m c s j) n.val)

/-- The first layer, as the network states it. -/
abbrev layer1 : Fin 10000 → Fin 128 → EReal := (inp m c).pool1 ((inp m c).norm1 (inp m c).conv1')

/-- The first layer is still there when the second convolution is entered. -/
theorem layer1_at (n : Fin 10000) (j : Fin 128) : U4 m c main_call0_v4 (ix2 n j) = layer1 m c n j := by
  rw [← V4_eq, V4_of m _ c main_call0_v4 (by decide), V3_eq]
  exact pool1_at m c n j

/-- The second convolution, before its normalisation: the same in all its columns. -/
theorem conv2_at (n : Fin 10000) (j : Fin 128) :
    k2_pay8 (F := Ideal) (U4 m c main_call0_v4) (U4 m c main_call0_v5) (acc2 (U4 m c) 320000) (U4 m c main_call0_v7) (ix2 n j)
      = (inp m c).conv2' (layer1 m c) n := by
  have e5 (k : Fin 128) : U4 m c main_call0_v5 (ix2 (n0 := 1) 0 k) = m ((c : Thread nD τ).loc main_arg10) (ix2 (n1 := 1) k 0) :=
    (self2 (U3 m c) k).trans (congrFun (keep3 m c main_arg10 (by decide) (by decide) (by decide)) _)
  have e6 (k : Fin 128) : U4 m c main_call0_v6 (ix2 (n0 := 1) 0 k) = m ((c : Thread nD τ).loc main_arg11) (ix2 (n1 := 1) k 0) :=
    (near2 (U3 m c) k).trans (congrFun (keep3 m c main_arg11 (by decide) (by decide) (by decide)) _)
  have e7 : U4 m c main_call0_v7 (ix2 (n0 := 1) (n1 := 1) 0 0) = m ((c : Thread nD τ).loc main_arg12) (ix1 (n0 := 1) 0) :=
    (bias2 (U3 m c)).trans (congrFun (keep3 m c main_arg12 (by decide) (by decide) (by decide)) _)
  refine (pre2_at _ _ _ _ n j).trans (relu_of (row_of (fun k => layer1_at m c n k) e5) ?_ e7)
  refine (acc2_at (U4 m c) n j).trans (esum_of (congrArg (fun a => words (C := 320000) a 0) (edgesU4 m c))
    (congrArg (fun a => words (C := 320000) a 1) (edgesU4 m c)) (fun s => ?_) n.val)
  unfold rowsOf2
  exact (rows2_at _ _ s j).trans (row_of (fun k => layer1_at m c s k) e6)

/-- The second convolution's call leaves the second layer normalised. -/
theorem norm2_at (n : Fin 10000) (j : Fin 128) :
    U5 m c main_call0_v10 (ix2 n j) = (inp m c).norm2 ((inp m c).conv2' (layer1 m c)) n := by
  unfold U5
  rw [Function.update_self]
  have e8 : U4 m c main_call0_v8 (ix2 (n0 := 1) (n1 := 1) 0 0) = m ((c : Thread nD τ).loc main_arg13) (ix1 (n0 := 1) 0) :=
    (scale2 (U3 m c)).trans (congrFun (keep3 m c main_arg13 (by decide) (by decide) (by decide)) _)
  have e9 : U4 m c main_call0_v9 (ix2 (n0 := 1) (n1 := 1) 0 0) = m ((c : Thread nD τ).loc main_arg14) (ix1 (n0 := 1) 0) :=
    (shift2 (U3 m c)).trans (congrFun (keep3 m c main_arg14 (by decide) (by decide) (by decide)) _)
  exact (res2_at (U4 m c) n j).trans (bn_of e8 e9 (fun s => conv2_at m c s j) n)

/-- The second layer's column, as the network states it. -/
abbrev layer2 : Fin 10000 → EReal := (inp m c).pool2 ((inp m c).norm2 ((inp m c).conv2' (layer1 m c)))

/-- The second pooling's call leaves the second layer. -/
theorem pool2_at (n : Fin 10000) (j : Fin 128) : U6 m c main_call0_v11 (ix2 n j) = layer2 m c n := by
  unfold U6
  rw [Function.update_self]
  exact (res3_at (U5 m c) n j).trans (most_of (norm2_at m c n j) (congrArg (fun a => words (C := 320000) a 0) (edgesU5 m c))
    (congrArg (fun a => words (C := 320000) a 1) (edgesU5 m c)) (fun s => norm2_at m c s j) n.val)

/-- The second layer is still there when the readout is entered. -/
theorem layer2_at (n : Fin 10000) (j : Fin 128) : U7 m c main_call0_v11 (ix2 n j) = layer2 m c n := by
  rw [← V7_eq, V7_of m _ c main_call0_v11 (by decide), V6_eq]
  exact pool2_at m c n j

/-- An argument is as launched when the readout is entered. -/
theorem arg7 (r : Ref sig .tc) (h : r ∉ hostOps4_W) (h1 : r ∉ hostOps0_W) (h2 : r ∉ ([main_call0_v3] : List (Ref sig .tc)))
    (h3 : r ∉ ([main_call0_v4] : List (Ref sig .tc))) (h4 : r ∉ hostOps2_W) (h5 : r ∉ ([main_call0_v10] : List (Ref sig .tc)))
    (h6 : r ∉ ([main_call0_v11] : List (Ref sig .tc))) : U7 m c r = m ((c : Thread nD τ).loc r) := by
  rw [← V7_eq, V7_of m _ c r h, V6_eq]
  exact keep6 m c r h1 h2 h3 h4 h5 h6

/-- The nodes' features before the readout. -/
theorem feature_at (n : Fin 10000) (j : Fin 3) :
    feat4 (F := Ideal) (U7 m c main_call0_v11) (U7 m c main_arg15) (U7 m c main_call0_v12) (U7 m c main_call0_v13) (U7 m c main_call0_v14) (ix2 n j)
      = (inp m c).tail ((inp m c).conv2' (layer1 m c)) n j := by
  have e (r : Ref sig .tc) (h1 : r ∉ hostOps0_W) (h2 : r ∉ ([main_call0_v3] : List (Ref sig .tc)))
    (h3 : r ∉ ([main_call0_v4] : List (Ref sig .tc))) (h4 : r ∉ hostOps2_W) (h5 : r ∉ ([main_call0_v10] : List (Ref sig .tc)))
    (h6 : r ∉ ([main_call0_v11] : List (Ref sig .tc))) := keep6 m c r h1 h2 h3 h4 h5 h6
  have e12 : U7 m c main_call0_v12 (ix2 (n0 := 1) 0 j) = m ((c : Thread nD τ).loc main_arg16) (ix1 j) :=
    (bias3 (U6 m c) j).trans (congrFun (e main_arg16 (by decide) (by decide) (by decide) (by decide) (by decide) (by decide)) _)
  have e13 : U7 m c main_call0_v13 (ix2 (n0 := 1) 0 j) = m ((c : Thread nD τ).loc main_arg17) (ix1 j) :=
    (scale3 (U6 m c) j).trans (congrFun (e main_arg17 (by decide) (by decide) (by decide) (by decide) (by decide) (by decide)) _)
  have e14 : U7 m c main_call0_v14 (ix2 (n0 := 1) 0 j) = m ((c : Thread nD τ).loc main_arg18) (ix1 j) :=
    (shift3 (U6 m c) j).trans (congrFun (e main_arg18 (by decide) (by decide) (by decide) (by decide) (by decide) (by decide)) _)
  have e15 : U7 m c main_arg15 (ix2 (n0 := 1) 0 j) = m ((c : Thread nD τ).loc main_arg15) (ix2 (n0 := 1) 0 j) :=
    congrFun (arg7 m c main_arg15 (by decide) (by decide) (by decide) (by decide) (by decide) (by decide) (by decide)) _
  exact (feat4_at _ _ _ _ _ n j).trans (bn_of e13 e14 (fun s => dense_of (layer2_at m c s 0) e15 e12) n)

/-! The readout's rows, and the two columns given for each graph. -/

theorem readW (k : Fin 6) : U7 m c main_call0_v15 (ix2 (n0 := 1) 0 k) = m ((c : Thread nD τ).loc main_arg19) (ix2 (n1 := 1) k 0) :=
  (weight4 (U6 m c) k).trans (congrFun (keep6 m c main_arg19 (by decide) (by decide) (by decide) (by decide) (by decide) (by decide)) _)
theorem readB : U7 m c main_call0_v16 (ix2 (n0 := 1) (n1 := 1) 0 0) = m ((c : Thread nD τ).loc main_arg20) (ix1 (n0 := 1) 0) :=
  (bias4 (U6 m c)).trans (congrFun (keep6 m c main_arg20 (by decide) (by decide) (by decide) (by decide) (by decide) (by decide)) _)
theorem readV (k : Fin 3) : U7 m c main_call0_v17 (ix2 (n0 := 1) 0 k) = m ((c : Thread nD τ).loc main_arg21) (ix2 (n1 := 1) k 0) :=
  (weight5 (U6 m c) k).trans (congrFun (keep6 m c main_arg21 (by decide) (by decide) (by decide) (by decide) (by decide) (by decide)) _)
theorem readD : U7 m c main_call0_v18 (ix2 (n0 := 1) (n1 := 1) 0 0) = m ((c : Thread nD τ).loc main_arg22) (ix1 (n0 := 1) 0) :=
  (bias5 (U6 m c)).trans (congrFun (keep6 m c main_arg22 (by decide) (by decide) (by decide) (by decide) (by decide) (by decide)) _)
theorem readP (r : Fin 100) : U7 m c main_arg3 (ix2 (n1 := 1) r 0) = m ((c : Thread nD τ).loc main_arg3) (ix2 (n1 := 1) r 0) :=
  congrFun (arg7 m c main_arg3 (by decide) (by decide) (by decide) (by decide) (by decide) (by decide) (by decide)) _
theorem readQ (r : Fin 100) : U7 m c main_arg4 (ix2 (n1 := 1) r 0) = m ((c : Thread nD τ).loc main_arg4) (ix2 (n1 := 1) r 0) :=
  congrFun (arg7 m c main_arg4 (by decide) (by decide) (by decide) (by decide) (by decide) (by decide) (by decide)) _

/-- The graphs' sums of the features, as the network states them. -/
theorem total_at (r : Fin 100) (j : Fin 3) :
    sum4 (F := Ideal) (feat4 (F := Ideal) (U7 m c main_call0_v11) (U7 m c main_arg15) (U7 m c main_call0_v12) (U7 m c main_call0_v13) (U7 m c main_call0_v14))
        (words1 (C := 10000) (U7 m c main_arg2)) (ix2 r j)
      = (inp m c).total ((inp m c).tail ((inp m c).conv2' (layer1 m c))) r j :=
  (sum4_at _ _ r j).trans (congrArg₂ (fun d f => esum 10000 (fun j => j) d f r.val) (congrArg (words1 (C := 10000)) (graphsU7 m c))
    (funext fun s => feature_at m c s j))

/-- The graphs' maxima of the features, as the network states them. -/
theorem top_at (r : Fin 100) (j : Fin 3) :
    (max (max4 (F := Ideal) (feat4 (F := Ideal) (U7 m c main_call0_v11) (U7 m c main_arg15) (U7 m c main_call0_v12) (U7 m c main_call0_v13) (U7 m c main_call0_v14))
        (words1 (C := 10000) (U7 m c main_arg2)) (ix2 r j)) (Ideal.ofBits .f32 0xCE6E6B28#32) : EReal)
      = (inp m c).top ((inp m c).tail ((inp m c).conv2' (layer1 m c))) r j :=
  congrArg (fun x : EReal => max x (Ideal.ofBits .f32 0xCE6E6B28#32))
    ((max4_at _ _ r j).trans (congrArg₂ (fun d f => emax 10000 (fun j => j) d f r.val) (congrArg (words1 (C := 10000)) (graphsU7 m c))
      (funext fun s => feature_at m c s j)))

/-- The readout's call leaves its result. -/
theorem result_eq : U8 m c main_v0 = res4 (U7 m c) := by
  unfold U8
  exact Function.update_self _ _ _

/-- The kernel's result is the network's, its rows weighted before they are added. -/
theorem result_at (r : Fin 100) : U8 m c main_v0 (ix2 (n1 := 1) r 0) = (inp m c).network' r := by
  refine (congrFun (result_eq m c) _).trans ?_
  unfold res4
  refine (out4_at _ _ _ _ _ _ _ _ r).trans ?_
  have hs := total_at m c r
  have ht := top_at m c r
  generalize sum4 (F := Ideal) _ _ = S at hs ⊢
  generalize max4 (F := Ideal) _ _ = T at ht ⊢
  refine (readout_of (s := fun j => S (ix2 r j)) (t := fun j => max (T (ix2 r j)) (Ideal.ofBits .f32 0xCE6E6B28#32))
    (w := fun k => U7 m c main_call0_v15 (ix2 (n0 := 1) 0 k)) (v := fun k => U7 m c main_call0_v17 (ix2 (n0 := 1) 0 k))
    (w' := (inp m c).w4) (v' := (inp m c).v) (b' := (inp m c).b4) (p' := (inp m c).p r) (q' := (inp m c).q r) (d' := (inp m c).d)
    hs ht (readW m c) (readB m c) (readV m c) (readP m c r) (readQ m c r) (readD m c)).trans ?_
  rfl

end

end Cert.KerVal
end
-- ==== Proof.Algebraic.lean ====
/-
  The kernel's result and the reference's are one array: both are the network's, and on real numbers the order in which a layer's
  messages are added and weighted does not matter.
-/
module
public import proofs.«01_k».proof.Proof.Frames
public import proofs.«01_k».proof.Proof.Tame
public import proofs.«01_k».proof.Proof.ReferenceResult
public import proofs.«01_k».proof.Proof.KernelValue
@[expose] public section
set_option maxRecDepth 16384
noncomputable section
namespace Cert.Algebraic
open Idealize.ShloMosaic Idealize.SL.Sem
open Cert.Spec (Inputs inputs)

/-- A launch memory of the kernel, and one of the reference. -/
abbrev KMem := (ℓ : Loc KernelIdeal.nD KernelIdeal.τ KernelIdeal.sig) → Buf (Elt Ideal) ℓ
abbrev RMem := (ℓ : Loc ReferenceIdeal.nD ReferenceIdeal.τ ReferenceIdeal.sig) → Buf (Elt Ideal) ℓ

/-- The stronger precondition puts the words of the kernel's launch memory in range. -/
theorem tame_range (m : KMem) (h : Cert.Pre_KernelIdeal_inputs_tame m) : KernelIdeal.Val.InRange m :=
  ⟨fun c => (PreFacts.tame (h c)).1.1, fun c => (PreFacts.tame (h c)).1.2⟩

/-- It makes the network's inputs tame: real numbers where a layer's messages come from. -/
theorem tame_inputs (m : KMem) (h : Cert.Pre_KernelIdeal_inputs_tame m) (c : Dev KernelIdeal.nD) : (KerVal.inp m c).Tame := by
  obtain ⟨_, x, ws, wn, b, g, be, wn2⟩ := PreFacts.tame (h c)
  exact ⟨fun n k => x _, fun k j => ws _, fun k j => wn _, fun j => b _, fun j => g _, fun j => be _, fun k => wn2 _⟩

/-- The kernel's frame over extended reals, under the stronger precondition. -/
theorem kernelIdeal : Cert.quiescent_KernelIdeal_pre_inputs_tame := fun m g h =>
  (θ_run _ _ _).mono (fun _ hr => ⟨fun c => (hr.1 c).2, hr.2⟩) (KernelIdeal.Val.run_kept (F := Ideal) m g (tame_range m h))

/-- The reference's frame, under the stronger precondition. -/
theorem reference : Cert.quiescent_ReferenceIdeal_pre_inputs_tame := fun m g _ =>
  (θ_run _ _ _).mono (fun r hr => ⟨fun c => (hr c).2, sem_eq_zero_of_no_sems (by decide) r.2⟩)
    (ReferenceIdeal.Value.run (F := Ideal) m g)

/-- The two launch memories hold the same arguments. -/
def Same (m : KMem) (m' : RMem) (c : Dev KernelIdeal.nD) : Prop :=
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)
      ∧ m' ((c.tc : Thread ReferenceIdeal.nD ReferenceIdeal.τ).loc ReferenceIdeal.main_arg11) = m ((c.tc : Thread KernelIdeal.nD KernelIdeal.τ).loc KernelIdeal.main_arg11)
      ∧ m' ((c.tc : Thread ReferenceIdeal.nD ReferenceIdeal.τ).loc ReferenceIdeal.main_arg12) = m ((c.tc : Thread KernelIdeal.nD KernelIdeal.τ).loc KernelIdeal.main_arg12)
      ∧ m' ((c.tc : Thread ReferenceIdeal.nD ReferenceIdeal.τ).loc ReferenceIdeal.main_arg13) = m ((c.tc : Thread KernelIdeal.nD KernelIdeal.τ).loc KernelIdeal.main_arg13)
      ∧ m' ((c.tc : Thread ReferenceIdeal.nD ReferenceIdeal.τ).loc ReferenceIdeal.main_arg14) = m ((c.tc : Thread KernelIdeal.nD KernelIdeal.τ).loc KernelIdeal.main_arg14)
      ∧ m' ((c.tc : Thread ReferenceIdeal.nD ReferenceIdeal.τ).loc ReferenceIdeal.main_arg15) = m ((c.tc : Thread KernelIdeal.nD KernelIdeal.τ).loc KernelIdeal.main_arg15)
      ∧ m' ((c.tc : Thread ReferenceIdeal.nD ReferenceIdeal.τ).loc ReferenceIdeal.main_arg16) = m ((c.tc : Thread KernelIdeal.nD KernelIdeal.τ).loc KernelIdeal.main_arg16)
      ∧ m' ((c.tc : Thread ReferenceIdeal.nD ReferenceIdeal.τ).loc ReferenceIdeal.main_arg17) = m ((c.tc : Thread KernelIdeal.nD KernelIdeal.τ).loc KernelIdeal.main_arg17)
      ∧ m' ((c.tc : Thread ReferenceIdeal.nD ReferenceIdeal.τ).loc ReferenceIdeal.main_arg18) = m ((c.tc : Thread KernelIdeal.nD KernelIdeal.τ).loc KernelIdeal.main_arg18)
      ∧ m' ((c.tc : Thread ReferenceIdeal.nD ReferenceIdeal.τ).loc ReferenceIdeal.main_arg19) = m ((c.tc : Thread KernelIdeal.nD KernelIdeal.τ).loc KernelIdeal.main_arg19)
      ∧ m' ((c.tc : Thread ReferenceIdeal.nD ReferenceIdeal.τ).loc ReferenceIdeal.main_arg20) = m ((c.tc : Thread KernelIdeal.nD KernelIdeal.τ).loc KernelIdeal.main_arg20)
      ∧ m' ((c.tc : Thread ReferenceIdeal.nD ReferenceIdeal.τ).loc ReferenceIdeal.main_arg21) = m ((c.tc : Thread KernelIdeal.nD KernelIdeal.τ).loc KernelIdeal.main_arg21)
      ∧ m' ((c.tc : Thread ReferenceIdeal.nD ReferenceIdeal.τ).loc ReferenceIdeal.main_arg22) = m ((c.tc : Thread KernelIdeal.nD KernelIdeal.τ).loc KernelIdeal.main_arg22)

/-- From the same arguments both programs read the same network. -/
theorem same_inputs (m : KMem) (m' : RMem) (c : Dev KernelIdeal.nD) (h : Same m m' c) :
    RefVal.inp (StableHlo.launchContents m' c) = KerVal.inp m c := by
  obtain ⟨e0, e1, e2, e3, e4, e5, e6, e7, e8, e9, e10, e11, e12, e13, e14, e15, e16, e17, e18, e19, e20, e21, e22⟩ := h
  unfold KerVal.inp
  rw [← e0, ← e1, ← e2, ← e3, ← e4, ← e5, ← e6, ← e7, ← e8, ← e9, ← e10, ← e11, ← e12, ← e13, ← e14, ← e15, ← e16, ← e17, ← e18, ← e19, ← e20, ← e21, ← e22]
  rfl

/-- The words of the reference's launch memory are in range with the kernel's. -/
theorem same_range (m : KMem) (m' : RMem) (c : Dev KernelIdeal.nD) (h : Same m m' c) (hr : KernelIdeal.Val.InRange m) :
    RefVal.InRange (StableHlo.launchContents m' c) :=
  ⟨fun y => (congrArg (fun w : BitVec 32 => w.toNat) (congrFun h.2.1 y)).trans_lt (hr.edges c y),
    fun y => (congrArg (fun w : BitVec 32 => w.toNat) (congrFun h.2.2.1 y)).trans_lt (hr.graphs c y)⟩

/-- From the same arguments, under the precondition, the two results are one array. -/
theorem same_result (m : KMem) (m' : RMem) (c : Dev KernelIdeal.nD) (h : Same m m' c) (hm : Cert.Pre_KernelIdeal_inputs_tame m) :
    RefVal.result (StableHlo.launchContents m' c) = KernelIdeal.Val.U8 m c (Proc.devRef .tc KernelIdeal.main_v0) := by
  have at_ (r : Fin 100) : RefVal.result (StableHlo.launchContents m' c) (ix2 (n1 := 1) r 0)
      = KernelIdeal.Val.U8 m c (Proc.devRef .tc KernelIdeal.main_v0) (ix2 (n1 := 1) r 0) := by
    refine (RefVal.result_at (same_range m m' c h (tame_range m hm)) r).trans ?_
    rw [same_inputs m m' c h, ← Inputs.network_eq (tame_inputs m hm c)]
    exact (KerVal.result_at m c r).symm
  funext y
  have hy : y = ix2 (n0 := 100) (n1 := 1) (y 0) 0 := by
    funext k
    match k with
    | ⟨0, _⟩ => rfl
    | ⟨1, _⟩ => exact Subsingleton.elim (α := Fin 1) _ _
  rw [hy]
  exact at_ (y 0)

/-- Over extended reals kernel and reference, launched on the same arguments, end with the same result. -/
theorem results : Cert.algebraic_KernelIdeal_ReferenceIdeal_pre_inputs_tame := fun m g m' g' hm h =>
  ⟨fun c => KernelIdeal.Val.U8 m c (Proc.devRef .tc KernelIdeal.main_v0),
    (θ_run _ _ _).mono (fun _ hr c => hr.1 c) (KernelIdeal.Val.run_kept (F := Ideal) m g (tame_range m hm)),
    (θ_run _ _ _).mono (fun _ hr c => ⟨(hr c).1.trans (same_result m m' c (h c) hm), (hr c).2⟩)
      (ReferenceIdeal.Value.run (F := Ideal) m' g')⟩

end Cert.Algebraic
end
-- ==== Proof.lean ====
/-
  Everything claimed of the programs, put together from the modules that prove it.
-/
module

public import proofs.«01_k».proof.Defs
public import proofs.«01_k».proof.Proof.Frames
public import proofs.«01_k».proof.Proof.Algebraic

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Cert.PreFacts.rangeFacts,
  Cert.PreFacts.tameFacts, Cert.Frames.kernel, Cert.Frames.kernelIdeal, Cert.Algebraic.kernelIdeal, Cert.Frames.reference,
  Cert.Algebraic.reference, trivial, Cert.Algebraic.results⟩

end Cert.Proof

end
